-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S4096x8192 : Shape := ⟨2, ![4096, 8192]⟩
abbrev S1024x4096 : Shape := ⟨2, ![1024, 4096]⟩
abbrev S1024x1024 : Shape := ⟨2, ![1024, 1024]⟩
abbrev S2x1024x2048 : Shape := ⟨3, ![2, 1024, 2048]⟩
abbrev S2x1024x4096 : Shape := ⟨3, ![2, 1024, 4096]⟩
abbrev S4x128 : Shape := ⟨2, ![4, 128]⟩
abbrev S_ : Shape := ⟨0, ![]⟩
abbrev S2 : Shape := ⟨1, ![2]⟩
abbrev S4 : Shape := ⟨1, ![4]⟩
abbrev S1 : Shape := ⟨1, ![1]⟩
abbrev S1x1024x2048 : Shape := ⟨3, ![1, 1024, 2048]⟩
abbrev S1024x2048 : Shape := ⟨2, ![1024, 2048]⟩
abbrev S1x1x1 : Shape := ⟨3, ![1, 1, 1]⟩
abbrev S1x128 : Shape := ⟨2, ![1, 128]⟩
abbrev S1x4x128 : Shape := ⟨3, ![1, 4, 128]⟩
abbrev S1x1024x4096 : Shape := ⟨3, ![1, 1024, 4096]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x8192, .f32⟩
  | .hbm, ⟨3, _⟩ => ⟨S1024x4096, .bf16⟩
  | .hbm, ⟨4, _⟩ => ⟨S1024x4096, .bf16⟩
  | .hbm, ⟨5, _⟩ => ⟨S1024x4096, .f32⟩
  | .hbm, ⟨6, _⟩ => ⟨S1024x4096, .f32⟩
  | .hbm, ⟨7, _⟩ => ⟨S1024x4096, .bf16⟩
  | .hbm, ⟨8, _⟩ => ⟨S1024x4096, .bf16⟩
  | .local _ .vmem, ⟨0, _⟩ => ⟨S1024x1024, .f32⟩
  | .local _ .vmem, ⟨1, _⟩ => ⟨S2x1024x2048, .f32⟩
  | .local _ .vmem, ⟨2, _⟩ => ⟨S2x1024x2048, .f32⟩
  | .local _ .vmem, ⟨3, _⟩ => ⟨S2x1024x2048, .bf16⟩
  | .local _ .vmem, ⟨4, _⟩ => ⟨S2x1024x4096, .i8⟩
  | .local _ .vmem, ⟨5, _⟩ => ⟨S2x1024x4096, .i8⟩
  | .local _ .vmem, ⟨6, _⟩ => ⟨S4x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 2 19 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v1_4 : Ref sig .tc := ⟨.hbm, 6, rfl⟩
abbrev main_v1_5 : Ref sig .tc := ⟨.hbm, 7, rfl⟩
abbrev main_v1_6 : Ref sig .tc := ⟨.hbm, 8, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 1

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v26 : BitVec 32 := Scalar.muli v2 c1024_i32
  let c0_i32_14 : BitVec 32 := 0#32
  ![v26.toNat, 0]
def k0_dev1 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_170 : BitVec 32 := 1#32
  let v165 : BitVec 32 := Scalar.muli v14 c1_i32_170
  let v166 : BitVec 32 := Scalar.addi c0_i32_171 v165
  v166.toNat
def k0_dev2 (d0 : Dev nD) : Nat :=
  let c0_i32_174 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_173 : BitVec 32 := 1#32
  let v167 : BitVec 32 := Scalar.muli v25 c1_i32_173
  let v168 : BitVec 32 := Scalar.addi c0_i32_174 v167
  v168.toNat
@[reducible] def k0_t1_loop : Scf.Loop 32 :=
  let c0_i32_176 : BitVec 32 := 0#32
  let c3_i32 : BitVec 32 := 3#32
  let v169 : BitVec 32 := Scalar.addi c0_i32_176 c3_i32
  let c1_i32_177 : BitVec 32 := 1#32
  ⟨c0_i32_176, v169, c1_i32_177⟩
def k0_dev3 (d0 : Dev nD) : Nat :=
  let c0_i32_854 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_853 : BitVec 32 := 1#32
  let v901 : BitVec 32 := Scalar.muli v25 c1_i32_853
  let v902 : BitVec 32 := Scalar.addi c0_i32_854 v901
  v902.toNat
def k0_dev4 (d0 : Dev nD) : Nat :=
  let c0_i32_856 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_855 : BitVec 32 := 1#32
  let v903 : BitVec 32 := Scalar.muli v14 c1_i32_855
  let v904 : BitVec 32 := Scalar.addi c0_i32_856 v903
  v904.toNat
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_176 : BitVec 32 := 0#32
  let c1_i32_177 : BitVec 32 := 1#32
  let arg27 : BitVec 32 := Scf.iv c0_i32_176 c1_i32_177 k0_t1
  let v905 : BitVec 32 := Scalar.subi v2 arg27
  let c1_i32_857 : BitVec 32 := 1#32
  let v906 : BitVec 32 := Scalar.subi v905 c1_i32_857
  let c4_i32_858 : BitVec 32 := 4#32
  let c0_i32_859 : BitVec 32 := 0#32
  let v907 : BitVec 1 := Scalar.cmpi .eq c4_i32_858 c0_i32_859
  let c1_i32_860 : BitVec 32 := 1#32
  let v908 : BitVec 32 := Scalar.select v907 c1_i32_860 c4_i32_858
  let v909 : BitVec 32 := Scalar.remsi v906 v908
  let c0_i32_862 : BitVec 32 := 0#32
  let v911 : BitVec 1 := Scalar.cmpi .slt v909 c0_i32_862
  let c0_i32_863 : BitVec 32 := 0#32
  let v912 : BitVec 1 := Scalar.cmpi .slt v908 c0_i32_863
  let v913 : BitVec 1 := Scalar.xori v911 v912
  let c0_i32_861 : BitVec 32 := 0#32
  let v910 : BitVec 1 := Scalar.cmpi .ne v909 c0_i32_861
  let v914 : BitVec 1 := Scalar.andi v913 v910
  let v915 : BitVec 32 := Scalar.addi v909 v908
  let v916 : BitVec 32 := Scalar.select v914 v915 v909
  let c1024_i32_864 : BitVec 32 := 1024#32
  let v917 : BitVec 32 := Scalar.muli v916 c1024_i32_864
  let c0_i32_865 : BitVec 32 := 0#32
  ![v917.toNat, 0]
def k0_off3 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_176 : BitVec 32 := 0#32
  let c1_i32_177 : BitVec 32 := 1#32
  let arg27 : BitVec 32 := Scf.iv c0_i32_176 c1_i32_177 k0_t1
  let v974 : BitVec 32 := Scalar.addi v2 arg27
  let c1_i32_933 : BitVec 32 := 1#32
  let v975 : BitVec 32 := Scalar.addi v974 c1_i32_933
  let c4_i32_934 : BitVec 32 := 4#32
  let c0_i32_935 : BitVec 32 := 0#32
  let v976 : BitVec 1 := Scalar.cmpi .eq c4_i32_934 c0_i32_935
  let c1_i32_936 : BitVec 32 := 1#32
  let v977 : BitVec 32 := Scalar.select v976 c1_i32_936 c4_i32_934
  let v978 : BitVec 32 := Scalar.remsi v975 v977
  let c0_i32_938 : BitVec 32 := 0#32
  let v980 : BitVec 1 := Scalar.cmpi .slt v978 c0_i32_938
  let c0_i32_939 : BitVec 32 := 0#32
  let v981 : BitVec 1 := Scalar.cmpi .slt v977 c0_i32_939
  let v982 : BitVec 1 := Scalar.xori v980 v981
  let c0_i32_937 : BitVec 32 := 0#32
  let v979 : BitVec 1 := Scalar.cmpi .ne v978 c0_i32_937
  let v983 : BitVec 1 := Scalar.andi v982 v979
  let v984 : BitVec 32 := Scalar.addi v978 v977
  let v985 : BitVec 32 := Scalar.select v983 v984 v978
  let c1024_i32_940 : BitVec 32 := 1024#32
  let v986 : BitVec 32 := Scalar.muli v985 c1024_i32_940
  let c0_i32_941 : BitVec 32 := 0#32
  ![v986.toNat, 0]
def k0_dev5 (d0 : Dev nD) : Nat :=
  let c0_i32_1286 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1285 : BitVec 32 := 1#32
  let v1299 : BitVec 32 := Scalar.muli v14 c1_i32_1285
  let v1300 : BitVec 32 := Scalar.addi c0_i32_1286 v1299
  v1300.toNat
def k0_dev6 (d0 : Dev nD) : Nat :=
  let c0_i32_1289 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1288 : BitVec 32 := 1#32
  let v1301 : BitVec 32 := Scalar.muli v25 c1_i32_1288
  let v1302 : BitVec 32 := Scalar.addi c0_i32_1289 v1301
  v1302.toNat
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v172 : Index := Scalar.indexCast v2
  let c0_179 : Index := 0#32
  ![v172.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_191 : BitVec 32 := 0#32
  ![v2.toNat, 0]
def k0_dev7 (d0 : Dev nD) : Nat :=
  let c0_i32_190 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_180 : BitVec 32 := 1#32
  let v176 : BitVec 32 := Scalar.addi v2 c1_i32_180
  let c4_i32_181 : BitVec 32 := 4#32
  let c0_i32_182 : BitVec 32 := 0#32
  let v177 : BitVec 1 := Scalar.cmpi .eq c4_i32_181 c0_i32_182
  let c1_i32_183 : BitVec 32 := 1#32
  let v178 : BitVec 32 := Scalar.select v177 c1_i32_183 c4_i32_181
  let v179 : BitVec 32 := Scalar.remsi v176 v178
  let c0_i32_185 : BitVec 32 := 0#32
  let v181 : BitVec 1 := Scalar.cmpi .slt v179 c0_i32_185
  let c0_i32_186 : BitVec 32 := 0#32
  let v182 : BitVec 1 := Scalar.cmpi .slt v178 c0_i32_186
  let v183 : BitVec 1 := Scalar.xori v181 v182
  let c0_i32_184 : BitVec 32 := 0#32
  let v180 : BitVec 1 := Scalar.cmpi .ne v179 c0_i32_184
  let v184 : BitVec 1 := Scalar.andi v183 v180
  let v185 : BitVec 32 := Scalar.addi v179 v178
  let v186 : BitVec 32 := Scalar.select v184 v185 v179
  let c1_i32_189 : BitVec 32 := 1#32
  let v187 : BitVec 32 := Scalar.muli v186 c1_i32_189
  let v188 : BitVec 32 := Scalar.addi c0_i32_190 v187
  v188.toNat
def k0_dev8 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_193 : BitVec 32 := 2#32
  let v195 : BitVec 32 := Scalar.addi v2 c2_i32_193
  let c4_i32_194 : BitVec 32 := 4#32
  let c0_i32_195 : BitVec 32 := 0#32
  let v196 : BitVec 1 := Scalar.cmpi .eq c4_i32_194 c0_i32_195
  let c1_i32_196 : BitVec 32 := 1#32
  let v197 : BitVec 32 := Scalar.select v196 c1_i32_196 c4_i32_194
  let v198 : BitVec 32 := Scalar.remsi v195 v197
  let c0_i32_198 : BitVec 32 := 0#32
  let v200 : BitVec 1 := Scalar.cmpi .slt v198 c0_i32_198
  let c0_i32_199 : BitVec 32 := 0#32
  let v201 : BitVec 1 := Scalar.cmpi .slt v197 c0_i32_199
  let v202 : BitVec 1 := Scalar.xori v200 v201
  let c0_i32_197 : BitVec 32 := 0#32
  let v199 : BitVec 1 := Scalar.cmpi .ne v198 c0_i32_197
  let v203 : BitVec 1 := Scalar.andi v202 v199
  let v204 : BitVec 32 := Scalar.addi v198 v197
  let v205 : BitVec 32 := Scalar.select v203 v204 v198
  let c1_i32_202 : BitVec 32 := 1#32
  let v206 : BitVec 32 := Scalar.muli v205 c1_i32_202
  let v207 : BitVec 32 := Scalar.addi c0_i32_203 v206
  v207.toNat
def k0_dev9 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_206 : BitVec 32 := 3#32
  let v214 : BitVec 32 := Scalar.addi v2 c3_i32_206
  let c4_i32_207 : BitVec 32 := 4#32
  let c0_i32_208 : BitVec 32 := 0#32
  let v215 : BitVec 1 := Scalar.cmpi .eq c4_i32_207 c0_i32_208
  let c1_i32_209 : BitVec 32 := 1#32
  let v216 : BitVec 32 := Scalar.select v215 c1_i32_209 c4_i32_207
  let v217 : BitVec 32 := Scalar.remsi v214 v216
  let c0_i32_211 : BitVec 32 := 0#32
  let v219 : BitVec 1 := Scalar.cmpi .slt v217 c0_i32_211
  let c0_i32_212 : BitVec 32 := 0#32
  let v220 : BitVec 1 := Scalar.cmpi .slt v216 c0_i32_212
  let v221 : BitVec 1 := Scalar.xori v219 v220
  let c0_i32_210 : BitVec 32 := 0#32
  let v218 : BitVec 1 := Scalar.cmpi .ne v217 c0_i32_210
  let v222 : BitVec 1 := Scalar.andi v221 v218
  let v223 : BitVec 32 := Scalar.addi v217 v216
  let v224 : BitVec 32 := Scalar.select v222 v223 v217
  let c1_i32_215 : BitVec 32 := 1#32
  let v225 : BitVec 32 := Scalar.muli v224 c1_i32_215
  let v226 : BitVec 32 := Scalar.addi c0_i32_216 v225
  v226.toNat
def k0_off6 (d0 : Dev nD) (c1_i32_219 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v233 : BitVec 32 := Scalar.subi v2 c1_i32_219
  let c4_i32_220 : BitVec 32 := 4#32
  let c0_i32_221 : BitVec 32 := 0#32
  let v234 : BitVec 1 := Scalar.cmpi .eq c4_i32_220 c0_i32_221
  let c1_i32_222 : BitVec 32 := 1#32
  let v235 : BitVec 32 := Scalar.select v234 c1_i32_222 c4_i32_220
  let v236 : BitVec 32 := Scalar.remsi v233 v235
  let c0_i32_224 : BitVec 32 := 0#32
  let v238 : BitVec 1 := Scalar.cmpi .slt v236 c0_i32_224
  let c0_i32_225 : BitVec 32 := 0#32
  let v239 : BitVec 1 := Scalar.cmpi .slt v235 c0_i32_225
  let v240 : BitVec 1 := Scalar.xori v238 v239
  let c0_i32_223 : BitVec 32 := 0#32
  let v237 : BitVec 1 := Scalar.cmpi .ne v236 c0_i32_223
  let v241 : BitVec 1 := Scalar.andi v240 v237
  let v242 : BitVec 32 := Scalar.addi v236 v235
  let v243 : BitVec 32 := Scalar.select v241 v242 v236
  let c0_i32_230 : BitVec 32 := 0#32
  ![v243.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v303 : BitVec 32 := Scalar.addi v2 c1_i32_278
  let c4_i32_279 : BitVec 32 := 4#32
  let c0_i32_280 : BitVec 32 := 0#32
  let v304 : BitVec 1 := Scalar.cmpi .eq c4_i32_279 c0_i32_280
  let c1_i32_281 : BitVec 32 := 1#32
  let v305 : BitVec 32 := Scalar.select v304 c1_i32_281 c4_i32_279
  let v306 : BitVec 32 := Scalar.remsi v303 v305
  let c0_i32_283 : BitVec 32 := 0#32
  let v308 : BitVec 1 := Scalar.cmpi .slt v306 c0_i32_283
  let c0_i32_284 : BitVec 32 := 0#32
  let v309 : BitVec 1 := Scalar.cmpi .slt v305 c0_i32_284
  let v310 : BitVec 1 := Scalar.xori v308 v309
  let c0_i32_282 : BitVec 32 := 0#32
  let v307 : BitVec 1 := Scalar.cmpi .ne v306 c0_i32_282
  let v311 : BitVec 1 := Scalar.andi v310 v307
  let v312 : BitVec 32 := Scalar.addi v306 v305
  let v313 : BitVec 32 := Scalar.select v311 v312 v306
  let c1024_i32_318 : BitVec 32 := 1024#32
  let v356 : BitVec 32 := Scalar.muli v313 c1024_i32_318
  let c0_i32_321 : BitVec 32 := 0#32
  ![v356.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_278 : BitVec 32 := 1#32
  let v303 : BitVec 32 := Scalar.addi v2 c1_i32_278
  let c4_i32_279 : BitVec 32 := 4#32
  let c0_i32_280 : BitVec 32 := 0#32
  let v304 : BitVec 1 := Scalar.cmpi .eq c4_i32_279 c0_i32_280
  let c1_i32_281 : BitVec 32 := 1#32
  let v305 : BitVec 32 := Scalar.select v304 c1_i32_281 c4_i32_279
  let v306 : BitVec 32 := Scalar.remsi v303 v305
  let c0_i32_283 : BitVec 32 := 0#32
  let v308 : BitVec 1 := Scalar.cmpi .slt v306 c0_i32_283
  let c0_i32_284 : BitVec 32 := 0#32
  let v309 : BitVec 1 := Scalar.cmpi .slt v305 c0_i32_284
  let v310 : BitVec 1 := Scalar.xori v308 v309
  let c0_i32_282 : BitVec 32 := 0#32
  let v307 : BitVec 1 := Scalar.cmpi .ne v306 c0_i32_282
  let v311 : BitVec 1 := Scalar.andi v310 v307
  let v312 : BitVec 32 := Scalar.addi v306 v305
  let v313 : BitVec 32 := Scalar.select v311 v312 v306
  let c1024_i32_354 : BitVec 32 := 1024#32
  let v398 : BitVec 32 := Scalar.muli v313 c1024_i32_354
  let c2048_i32_357 : BitVec 32 := 2048#32
  ![v398.toNat, 2048]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_285 : BitVec 32 := 1#32
  let v314 : BitVec 32 := Scalar.subi v2 c1_i32_285
  let c4_i32_286 : BitVec 32 := 4#32
  let c0_i32_287 : BitVec 32 := 0#32
  let v315 : BitVec 1 := Scalar.cmpi .eq c4_i32_286 c0_i32_287
  let c1_i32_288 : BitVec 32 := 1#32
  let v316 : BitVec 32 := Scalar.select v315 c1_i32_288 c4_i32_286
  let v317 : BitVec 32 := Scalar.remsi v314 v316
  let c0_i32_290 : BitVec 32 := 0#32
  let v319 : BitVec 1 := Scalar.cmpi .slt v317 c0_i32_290
  let c0_i32_291 : BitVec 32 := 0#32
  let v320 : BitVec 1 := Scalar.cmpi .slt v316 c0_i32_291
  let v321 : BitVec 1 := Scalar.xori v319 v320
  let c0_i32_289 : BitVec 32 := 0#32
  let v318 : BitVec 1 := Scalar.cmpi .ne v317 c0_i32_289
  let v322 : BitVec 1 := Scalar.andi v321 v318
  let v323 : BitVec 32 := Scalar.addi v317 v316
  let v324 : BitVec 32 := Scalar.select v322 v323 v317
  let c1024_i32_391 : BitVec 32 := 1024#32
  let v440 : BitVec 32 := Scalar.muli v324 c1024_i32_391
  let c4096_i32_394 : BitVec 32 := 4096#32
  ![v440.toNat, 4096]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_285 : BitVec 32 := 1#32
  let v314 : BitVec 32 := Scalar.subi v2 c1_i32_285
  let c4_i32_286 : BitVec 32 := 4#32
  let c0_i32_287 : BitVec 32 := 0#32
  let v315 : BitVec 1 := Scalar.cmpi .eq c4_i32_286 c0_i32_287
  let c1_i32_288 : BitVec 32 := 1#32
  let v316 : BitVec 32 := Scalar.select v315 c1_i32_288 c4_i32_286
  let v317 : BitVec 32 := Scalar.remsi v314 v316
  let c0_i32_290 : BitVec 32 := 0#32
  let v319 : BitVec 1 := Scalar.cmpi .slt v317 c0_i32_290
  let c0_i32_291 : BitVec 32 := 0#32
  let v320 : BitVec 1 := Scalar.cmpi .slt v316 c0_i32_291
  let v321 : BitVec 1 := Scalar.xori v319 v320
  let c0_i32_289 : BitVec 32 := 0#32
  let v318 : BitVec 1 := Scalar.cmpi .ne v317 c0_i32_289
  let v322 : BitVec 1 := Scalar.andi v321 v318
  let v323 : BitVec 32 := Scalar.addi v317 v316
  let v324 : BitVec 32 := Scalar.select v322 v323 v317
  let c1024_i32_428 : BitVec 32 := 1024#32
  let v482 : BitVec 32 := Scalar.muli v324 c1024_i32_428
  let c6144_i32_431 : BitVec 32 := 6144#32
  ![v482.toNat, 6144]
def k0_dev10 (d0 : Dev nD) : Nat :=
  let c0_i32_442 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_441 : BitVec 32 := 1#32
  let v493 : BitVec 32 := Scalar.muli v25 c1_i32_441
  let v494 : BitVec 32 := Scalar.addi c0_i32_442 v493
  v494.toNat
def k0_dev11 (d0 : Dev nD) : Nat :=
  let c0_i32_450 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_449 : BitVec 32 := 1#32
  let v499 : BitVec 32 := Scalar.muli v14 c1_i32_449
  let v500 : BitVec 32 := Scalar.addi c0_i32_450 v499
  v500.toNat
def k0_dev12 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_486 : BitVec 32 := 1#32
  let v525 : BitVec 32 := Scalar.muli v14 c1_i32_486
  let v526 : BitVec 32 := Scalar.addi c0_i32_487 v525
  v526.toNat
def k0_dev13 (d0 : Dev nD) : Nat :=
  let c0_i32_490 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_489 : BitVec 32 := 1#32
  let v527 : BitVec 32 := Scalar.muli v25 c1_i32_489
  let v528 : BitVec 32 := Scalar.addi c0_i32_490 v527
  v528.toNat
def k0_dev14 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_495 : BitVec 32 := 1#32
  let v529 : BitVec 32 := Scalar.muli v25 c1_i32_495
  let v530 : BitVec 32 := Scalar.addi c0_i32_496 v529
  v530.toNat
def k0_dev15 (d0 : Dev nD) : Nat :=
  let c0_i32_504 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_503 : BitVec 32 := 1#32
  let v535 : BitVec 32 := Scalar.muli v14 c1_i32_503
  let v536 : BitVec 32 := Scalar.addi c0_i32_504 v535
  v536.toNat
def k0_off11 (d0 : Dev nD) (c1_i32_509 : BitVec 32) (c1_i32_510 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v541 : BitVec 32 := Scalar.subi v2 c1_i32_509
  let v542 : BitVec 32 := Scalar.addi v541 c1_i32_510
  let c4_i32_511 : BitVec 32 := 4#32
  let c0_i32_512 : BitVec 32 := 0#32
  let v543 : BitVec 1 := Scalar.cmpi .eq c4_i32_511 c0_i32_512
  let c1_i32_513 : BitVec 32 := 1#32
  let v544 : BitVec 32 := Scalar.select v543 c1_i32_513 c4_i32_511
  let v545 : BitVec 32 := Scalar.remsi v542 v544
  let c0_i32_515 : BitVec 32 := 0#32
  let v547 : BitVec 1 := Scalar.cmpi .slt v545 c0_i32_515
  let c0_i32_516 : BitVec 32 := 0#32
  let v548 : BitVec 1 := Scalar.cmpi .slt v544 c0_i32_516
  let v549 : BitVec 1 := Scalar.xori v547 v548
  let c0_i32_514 : BitVec 32 := 0#32
  let v546 : BitVec 1 := Scalar.cmpi .ne v545 c0_i32_514
  let v550 : BitVec 1 := Scalar.andi v549 v546
  let v551 : BitVec 32 := Scalar.addi v545 v544
  let v552 : BitVec 32 := Scalar.select v550 v551 v545
  let c1024_i32_523 : BitVec 32 := 1024#32
  let v561 : BitVec 32 := Scalar.muli v552 c1024_i32_523
  let c0_i32_526 : BitVec 32 := 0#32
  ![v561.toNat, 0]
def k0_off11_at (r : Fin 3) : BitVec 32 × BitVec 32 :=
  if r.val < 1 then
    (1#32, 1#32)
  else
    if r.val < 2 then
      (2#32, 1#32)
    else
      (4#32, 2#32)
def k0_off12 (d0 : Dev nD) (c1_i32_509 : BitVec 32) (c1_i32_510 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v541 : BitVec 32 := Scalar.subi v2 c1_i32_509
  let v542 : BitVec 32 := Scalar.addi v541 c1_i32_510
  let c4_i32_511 : BitVec 32 := 4#32
  let c0_i32_512 : BitVec 32 := 0#32
  let v543 : BitVec 1 := Scalar.cmpi .eq c4_i32_511 c0_i32_512
  let c1_i32_513 : BitVec 32 := 1#32
  let v544 : BitVec 32 := Scalar.select v543 c1_i32_513 c4_i32_511
  let v545 : BitVec 32 := Scalar.remsi v542 v544
  let c0_i32_515 : BitVec 32 := 0#32
  let v547 : BitVec 1 := Scalar.cmpi .slt v545 c0_i32_515
  let c0_i32_516 : BitVec 32 := 0#32
  let v548 : BitVec 1 := Scalar.cmpi .slt v544 c0_i32_516
  let v549 : BitVec 1 := Scalar.xori v547 v548
  let c0_i32_514 : BitVec 32 := 0#32
  let v546 : BitVec 1 := Scalar.cmpi .ne v545 c0_i32_514
  let v550 : BitVec 1 := Scalar.andi v549 v546
  let v551 : BitVec 32 := Scalar.addi v545 v544
  let v552 : BitVec 32 := Scalar.select v550 v551 v545
  let c1024_i32_540 : BitVec 32 := 1024#32
  let v580 : BitVec 32 := Scalar.muli v552 c1024_i32_540
  let c2048_i32_543 : BitVec 32 := 2048#32
  ![v580.toNat, 2048]
def k0_off12_at (r : Fin 3) : BitVec 32 × BitVec 32 :=
  if r.val < 1 then
    (1#32, 1#32)
  else
    if r.val < 2 then
      (2#32, 1#32)
    else
      (4#32, 2#32)
def k0_off13 (d0 : Dev nD) (c1_i32_551 : BitVec 32) (c1_i32_552 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v591 : BitVec 32 := Scalar.addi v2 c1_i32_551
  let v592 : BitVec 32 := Scalar.subi v591 c1_i32_552
  let c4_i32_553 : BitVec 32 := 4#32
  let c0_i32_554 : BitVec 32 := 0#32
  let v593 : BitVec 1 := Scalar.cmpi .eq c4_i32_553 c0_i32_554
  let c1_i32_555 : BitVec 32 := 1#32
  let v594 : BitVec 32 := Scalar.select v593 c1_i32_555 c4_i32_553
  let v595 : BitVec 32 := Scalar.remsi v592 v594
  let c0_i32_557 : BitVec 32 := 0#32
  let v597 : BitVec 1 := Scalar.cmpi .slt v595 c0_i32_557
  let c0_i32_558 : BitVec 32 := 0#32
  let v598 : BitVec 1 := Scalar.cmpi .slt v594 c0_i32_558
  let v599 : BitVec 1 := Scalar.xori v597 v598
  let c0_i32_556 : BitVec 32 := 0#32
  let v596 : BitVec 1 := Scalar.cmpi .ne v595 c0_i32_556
  let v600 : BitVec 1 := Scalar.andi v599 v596
  let v601 : BitVec 32 := Scalar.addi v595 v594
  let v602 : BitVec 32 := Scalar.select v600 v601 v595
  let c1024_i32_565 : BitVec 32 := 1024#32
  let v611 : BitVec 32 := Scalar.muli v602 c1024_i32_565
  let c4096_i32_568 : BitVec 32 := 4096#32
  ![v611.toNat, 4096]
def k0_off13_at (r : Fin 3) : BitVec 32 × BitVec 32 :=
  if r.val < 1 then
    (1#32, 1#32)
  else
    if r.val < 2 then
      (2#32, 1#32)
    else
      (4#32, 2#32)
def k0_off14 (d0 : Dev nD) (c1_i32_551 : BitVec 32) (c1_i32_552 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v591 : BitVec 32 := Scalar.addi v2 c1_i32_551
  let v592 : BitVec 32 := Scalar.subi v591 c1_i32_552
  let c4_i32_553 : BitVec 32 := 4#32
  let c0_i32_554 : BitVec 32 := 0#32
  let v593 : BitVec 1 := Scalar.cmpi .eq c4_i32_553 c0_i32_554
  let c1_i32_555 : BitVec 32 := 1#32
  let v594 : BitVec 32 := Scalar.select v593 c1_i32_555 c4_i32_553
  let v595 : BitVec 32 := Scalar.remsi v592 v594
  let c0_i32_557 : BitVec 32 := 0#32
  let v597 : BitVec 1 := Scalar.cmpi .slt v595 c0_i32_557
  let c0_i32_558 : BitVec 32 := 0#32
  let v598 : BitVec 1 := Scalar.cmpi .slt v594 c0_i32_558
  let v599 : BitVec 1 := Scalar.xori v597 v598
  let c0_i32_556 : BitVec 32 := 0#32
  let v596 : BitVec 1 := Scalar.cmpi .ne v595 c0_i32_556
  let v600 : BitVec 1 := Scalar.andi v599 v596
  let v601 : BitVec 32 := Scalar.addi v595 v594
  let v602 : BitVec 32 := Scalar.select v600 v601 v595
  let c1024_i32_582 : BitVec 32 := 1024#32
  let v630 : BitVec 32 := Scalar.muli v602 c1024_i32_582
  let c6144_i32_585 : BitVec 32 := 6144#32
  ![v630.toNat, 6144]
def k0_off14_at (r : Fin 3) : BitVec 32 × BitVec 32 :=
  if r.val < 1 then
    (1#32, 1#32)
  else
    if r.val < 2 then
      (2#32, 1#32)
    else
      (4#32, 2#32)
def k0_dev16 (d0 : Dev nD) : Nat :=
  let c0_i32_625 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_624 : BitVec 32 := 1#32
  let v661 : BitVec 32 := Scalar.muli v14 c1_i32_624
  let v662 : BitVec 32 := Scalar.addi c0_i32_625 v661
  v662.toNat
def k0_dev17 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_627 : BitVec 32 := 1#32
  let v663 : BitVec 32 := Scalar.muli v25 c1_i32_627
  let v664 : BitVec 32 := Scalar.addi c0_i32_628 v663
  v664.toNat
def k0_dev18 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_633 : BitVec 32 := 1#32
  let v665 : BitVec 32 := Scalar.muli v25 c1_i32_633
  let v666 : BitVec 32 := Scalar.addi c0_i32_634 v665
  v666.toNat
def k0_dev19 (d0 : Dev nD) : Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_641 : BitVec 32 := 1#32
  let v671 : BitVec 32 := Scalar.muli v14 c1_i32_641
  let v672 : BitVec 32 := Scalar.addi c0_i32_642 v671
  v672.toNat
def k0_dev20 (d0 : Dev nD) : Nat :=
  let c0_i32_763 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_762 : BitVec 32 := 1#32
  let v797 : BitVec 32 := Scalar.muli v14 c1_i32_762
  let v798 : BitVec 32 := Scalar.addi c0_i32_763 v797
  v798.toNat
def k0_dev21 (d0 : Dev nD) : Nat :=
  let c0_i32_766 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_765 : BitVec 32 := 1#32
  let v799 : BitVec 32 := Scalar.muli v25 c1_i32_765
  let v800 : BitVec 32 := Scalar.addi c0_i32_766 v799
  v800.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Local.lean ====
module

public import proofs.«01_k».proof.Proof.Gen.KernelIdeal
public import proofs.«01_k».proof.Proof.Gen.KernelIdeal.Frame
public import proofs.«01_k».proof.Proof.Gen.KernelIdeal.Launch
public import proofs.«01_k».proof.Proof.Gen.KernelIdeal.Skeleton
public import Idealize.ShloMosaic.Lib.Tactic

@[expose] public section

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Cert.KernelIdeal Cert.KernelIdeal.Gen

/-- The ghost state: the pipeline's rounds, the protocol's rounds, and the counters of the transfers a core makes to itself. -/
abbrev UU : Type := UR sig nD τ × (URounds (GSem nD τ sig) Bool × Counters)

variable {F : FTy → Type} [FloatOps F] {α : Type}

local notation "𝕄" => MT nD τ sig ℕ (Elt F) ℕ UU ℕ

/-- The embedding of the transfers' counters. -/
abbrev EC : UEmb Counters 𝕄 := countersEmb

/-- A core's program. -/
abbrev PR (F : FTy → Type) [FloatOps F] (α : Type) := Prog (TpuEff nD τ sig (Elt F) Λ₀ .tc) α

/-- The run of a core's program from a state. -/
abbrev wpc (c : Dev nD) (p : PR F α) (Q : α → sProp 𝕄) : sProp 𝕄 :=
  wp frame (wpE (defs₀ (F := F)) Variants.none (c : Thread nD τ) none) Set.univ p Q

/-- Core `c` holds the share `q` of the elements under the view `V`, which reads `v`. -/
def ownS (q : PosShare TreeShare) (c : Dev nD) {sp : Space} {s : Shape} {e : EltTy} (V : View sig .tc sp s e) (v : s.Idx → Elt F e) : sProp 𝕄 :=
  iprop(∃ f : Buf (Elt F) (V.loc (c : Thread nD τ)), ⌜V.read (Elt F) f = v⌝ ∗ (V.loc (c : Thread nD τ) ↦[V.set]{q} f))

/-- Core `c` holds the elements under the view `V`, which reads `v`. -/
abbrev own (c : Dev nD) {sp : Space} {s : Shape} {e : EltTy} (V : View sig .tc sp s e) (v : s.Idx → Elt F e) : sProp 𝕄 := ownS fullShare c V v

/-- Core `c` holds the elements under the view `V`, whatever they are. -/
def any (c : Dev nD) {sp : Space} {s : Shape} {e : EltTy} (V : View sig .tc sp s e) : sProp 𝕄 :=
  iprop(∃ v : s.Idx → Elt F e, own c V v)

/-- Core `c` owes `O`, whatever it has waited for. -/
def owing (c : Dev nD) (O : CellTallies nD τ sig ℕ) : sProp 𝕄 := iprop(∃ W, owes (c : Thread nD τ) O W)

/-- A transfer of core `c` to itself is under way on the semaphore `s`; its wait gives `D`. -/
def fly (c : Dev nD) (s : DmaSem sig) (N : ℕ) (D : sProp 𝕄) : sProp 𝕄 :=
  iprop(∃ D' : sProp 𝕄, Transfers.Flight EC (c : Thread nD τ) (.dma s) (0 : ℕ) N D' ∗ (D' -∗ D))

section
variable {sp sp' : Space} {s : Shape} {e : EltTy} (c : Dev nD)

theorem own_any (V : View sig .tc sp s e) (v : s.Idx → Elt F e) : own c V v ⊢ any c V := by
  unfold any; iintro H; iexists v; iexact H

omit [FloatOps F] in
theorem own_of_pt (V : View sig .tc sp s e) (f : Buf (Elt F) (V.loc (c : Thread nD τ))) :
    (V.loc (c : Thread nD τ) ↦[V.set]{fullShare} f : sProp 𝕄) ⊢ own c V (V.read (Elt F) f) := by
  unfold own ownS; iintro H; iexists f; isplitr; · (ipureintro; rfl)
  iexact H

/-- A transfer from a source held in part, to a destination held whole. -/
theorem wp_start {src : Memref sig .tc sp s e} {dst : Memref sig .tc sp' s e} {sm : DmaSem sig}
    {hsrc : src.view.WordExact} {hdst : dst.view.WordExact} {hsem : DmaTarget.Typed (nD := nD) (τ := τ) (p := Proc.tc) sp (.dma sm) (.here dst)}
    {k : PUnit → PR F α} {Q : α → sProp 𝕄} {q : PosShare TreeShare} {fs : Buf (Elt F) (src.view.loc (c : Thread nD τ))}
    {S : Finset (Idx (src.view.loc (c : Thread nD τ)))} (hS : src.view.set ⊆ S) (hN : 0 < dst.view.dmaCredit) :
    iprop((src.view.loc (c : Thread nD τ) ↦[S]{q} fs) ∗ any c dst.view ∗ semVal ((c : Thread nD τ), .dma sm) 0)
      ⊢ iprop((fly c sm dst.view.dmaCredit iprop(own c dst.view (src.view.read (Elt F) fs) ∗ (src.view.loc (c : Thread nD τ) ↦[S]{q} fs))
              -∗ wpc c (k ⟨⟩) Q)
          -∗ wpc c (.op (.enqueueDma src (.here dst) (.dma sm) hsrc hdst hsem) k) Q) := by
  unfold any own ownS fly
  iintro ⟨Hs, ⟨%v, %f, -, Hd⟩, Hv⟩ Hk
  ihave Hs' := (pointsTo_split_subset hS).1 $$ Hs
  icases Hs' with ⟨Hs, Hr⟩
  iapply (Transfers.wp_dmaLocal EC Variants.none (c : Thread nD τ) none (0 : ℕ) dst.view.dmaCredit rfl hN (subset_refl _)) $$ [Hs Hd Hv]
  · isplitl [Hs]; · iexact Hs
    isplitl [Hd]; · iexact Hd
    iexact Hv
  iintro Hf
  iapply Hk
  iexists _
  isplitl [Hf]; · iexact Hf
  iintro ⟨Hd, Hs⟩
  isplitl [Hd]
  · iexists _
    isplitr
    swap
    · iexact Hd
    · ipureintro
      exact View.read_write_univ _ _
  · iapply (pointsTo_split_subset hS).2
    isplitl [Hs]; · iexact Hs
    iexact Hr

/-- What a transfer under way gives can be weakened. -/
theorem fly_mono {sm : DmaSem sig} {N : ℕ} {D D' : sProp 𝕄} (h : D ⊢ D') : fly c sm N D ⊢ fly c sm N D' := by
  unfold fly
  iintro ⟨%D₀, Hf, Hw⟩
  iexists D₀
  isplitl [Hf]; · iexact Hf
  iintro H
  iapply h
  iapply Hw $$ H

/-- A transfer between two views the core owns. -/
theorem wp_startO {src : Memref sig .tc sp s e} {dst : Memref sig .tc sp' s e} {sm : DmaSem sig}
    {hsrc : src.view.WordExact} {hdst : dst.view.WordExact} {hsem : DmaTarget.Typed (nD := nD) (τ := τ) (p := Proc.tc) sp (.dma sm) (.here dst)}
    {k : PUnit → PR F α} {Q : α → sProp 𝕄} {v : s.Idx → Elt F e} (hN : 0 < dst.view.dmaCredit) :
    iprop(own c src.view v ∗ any c dst.view ∗ semVal ((c : Thread nD τ), .dma sm) 0)
      ⊢ iprop((fly c sm dst.view.dmaCredit iprop(own c dst.view v ∗ own c src.view v)
              -∗ wpc c (k ⟨⟩) Q)
          -∗ wpc c (.op (.enqueueDma src (.here dst) (.dma sm) hsrc hdst hsem) k) Q) := by
  iintro ⟨Hs, Hd, Hv⟩ Hk
  unfold own ownS
  icases Hs with ⟨%f, %hf, Hs⟩
  subst hf
  iapply (wp_start c (subset_refl _) hN) $$ [Hs Hd Hv]
  · isplitl [Hs]; · iexact Hs
    isplitl [Hd]; · iexact Hd
    iexact Hv
  iintro Hf
  iapply Hk
  iapply (fly_mono c _) $$ Hf
  iintro ⟨H1, H2⟩
  isplitl [H1]; · unfold own ownS; iexact H1
  iexists f
  isplitr; · (ipureintro; rfl)
  iexact H2

/-- The wait for a transfer to itself. -/
theorem wp_wait {srcw : Memref sig .tc sp' s e} {dstw : Memref sig .tc sp s e} {sm : DmaSem sig}
    {hsrc : srcw.view.WordExact} {hdst : dstw.view.WordExact}
    {k : PUnit → PR F α} {Q : α → sProp 𝕄} {N : ℕ} (hN : dstw.view.dmaCredit = N) {D : sProp 𝕄} {O : CellTallies nD τ sig ℕ} :
    iprop(fly c sm N D ∗ owing c O ∗ Transfers.MayWaits (c : Thread nD τ) 0 O)
      ⊢ iprop((iprop(D ∗ semVal ((c : Thread nD τ), .dma sm) 0 ∗ owing c O) -∗ wpc c (k ⟨⟩) Q)
          -∗ wpc c (.op (.waitDma2 sm srcw dstw hsrc hdst) k) Q) := by
  unfold fly owing
  iintro ⟨⟨%D', Hf, Hw⟩, ⟨%W, HO⟩, #HM⟩ Hk
  iapply (Transfers.wp_waitLocalO EC Variants.none (c : Thread nD τ) none (0 : ℕ) hN (O := O) (W := W)) $$ [Hf HO]
  · isplitl [Hf]; · iexact Hf
    isplitl [HO]; · iexact HO
    iapply (Transfers.MayWaits.elim (.dma sm)) $$ HM
  iintro ⟨HD, Hv, HO⟩
  iapply Hk
  isplitl [Hw HD]; · iapply Hw $$ HD
  isplitl [Hv]; · iexact Hv
  iexists _; iexact HO

/-- A load of a rectangle the core owns a share of. -/
theorem wp_loadO {m : Memref sig .tc .vmem s e} {r : Rect s} {hl : m.view.LoadsAt r.toLoadRect} {k : (r.shape.Idx → Elt F e) → PR F α}
    {Q : α → sProp 𝕄} {v : r.shape.Idx → Elt F e} {q : PosShare TreeShare} :
    ownS q c (m.access r) v
      ⊢ iprop((ownS q c (m.access r) v -∗ wpc c (k v) Q) -∗ wpc c (.op (.load m r.toLoadRect hl) k) Q) := by
  unfold ownS
  iintro ⟨%f, %hf, Hs⟩ Hk
  subst hf
  iapply (wp_load_rect Variants.none (c : Thread nD τ) none Set.univ (subset_refl _)) $$ Hs
  iintro Hs
  iapply Hk
  iexists f
  isplitr; · (ipureintro; rfl)
  iexact Hs

/-- A load whose value is not used. -/
theorem wp_loadA {m : Memref sig .tc .vmem s e} {r : Rect s} {hl : m.view.LoadsAt r.toLoadRect} {k : (r.shape.Idx → Elt F e) → PR F α}
    {Q : α → sProp 𝕄} :
    any c (m.access r)
      ⊢ iprop((∀ v, any c (m.access r) -∗ wpc c (k v) Q) -∗ wpc c (.op (.load m r.toLoadRect hl) k) Q) := by
  iintro Hs Hk
  unfold any
  icases Hs with ⟨%v, Hs⟩
  iapply (wp_loadO c) $$ Hs
  iintro Hs
  iapply Hk
  iexists v
  iexact Hs

/-- A store over a rectangle the core owns. -/
theorem wp_storeO {m : Memref sig .tc .vmem s e} {r : Rect s} {w : r.shape.Idx → Elt F e} {hx : (m.access r).Stores Finset.univ}
    {hm : (Finset.univ : Finset r.shape.Idx) = Finset.univ ∨ ∀ a, r.stride a = 1}
    {k : PUnit → PR F α} {Q : α → sProp 𝕄} :
    any c (m.access r)
      ⊢ iprop((own c (m.access r) w -∗ wpc c (k ⟨⟩) Q) -∗ wpc c (.op (.store m r w Finset.univ hx hm) k) Q) := by
  unfold any own ownS
  iintro ⟨%v, %f, -, Hs⟩ Hk
  iapply (wp_store Variants.none (c : Thread nD τ) none Set.univ (m := m) (r := r) (w := w) (Mk := Finset.univ) (hx := hx) (hm := hm) (S := (m.access r).set) (subset_refl _)) $$ Hs
  iintro Hs
  iapply Hk
  iexists _
  isplitr
  swap
  · iexact Hs
  · ipureintro
    exact View.read_write_univ _ _

end

end Cert.KProof
-- ==== Proof.Names.lean ====
module

public import proofs.«01_k».proof.Proof.Local

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {α : Type}

/-! ### The buffers, their parts and the semaphores, as the program names them -/

abbrev xM := (Memref.whole main_arg0 : Memref sig .tc .hbm S4096x1024 .f32)
abbrev wM := (Memref.whole main_arg1 : Memref sig .tc .hbm S1024x8192 .f32)
abbrev outM := (Memref.whole main_v1_0 : Memref sig .tc .hbm S4096x8192 .f32)
abbrev accA := (Memref.whole main_v1_1 : Memref sig .tc .hbm S1024x4096 .bf16)
abbrev accB := (Memref.whole main_v1_2 : Memref sig .tc .hbm S1024x4096 .bf16)
abbrev pacA := (Memref.whole main_v1_3 : Memref sig .tc .hbm S1024x4096 .f32)
abbrev pacB := (Memref.whole main_v1_4 : Memref sig .tc .hbm S1024x4096 .f32)
abbrev rcvA := (Memref.whole main_v1_5 : Memref sig .tc .hbm S1024x4096 .bf16)
abbrev rcvB := (Memref.whole main_v1_6 : Memref sig .tc .hbm S1024x4096 .bf16)
abbrev xcM := (Memref.whole cc0_scratch0 : Memref sig .tc .vmem S1024x1024 .f32)
abbrev wtM := (Memref.whole cc0_scratch1 : Memref sig .tc .vmem S2x1024x2048 .f32)
abbrev otM := (Memref.whole cc0_scratch2 : Memref sig .tc .vmem S2x1024x2048 .f32)
abbrev obM := (Memref.whole cc0_scratch3 : Memref sig .tc .vmem S2x1024x2048 .bf16)
abbrev qaM := (Memref.whole cc0_scratch4 : Memref sig .tc .vmem S2x1024x4096 .i8)
abbrev qbM := (Memref.whole cc0_scratch5 : Memref sig .tc .vmem S2x1024x4096 .i8)
abbrev amM := (Memref.whole cc0_scratch6 : Memref sig .tc .vmem S4x128 .f32)

/-- The first and second of two semaphores. -/
abbrev s2a (s : DmaSems sig S2) : DmaSem sig := ((s.slice (Rect.unit (s := S2) ![0] S1.size inb_S2_S1_0)).squeeze S_ squeezes_S1_S_).sem
abbrev s2b (s : DmaSems sig S2) : DmaSem sig := ((s.slice (Rect.unit (s := S2) ![1] S1.size inb_S2_S1_1)).squeeze S_ squeezes_S1_S_).sem
/-- The second, third and fourth of four. -/
abbrev s4b (s : DmaSems sig S4) : DmaSem sig := ((s.slice (Rect.unit (s := S4) ![1] S1.size inb_S4_S1_1)).squeeze S_ squeezes_S1_S_).sem
abbrev s4c (s : DmaSems sig S4) : DmaSem sig := ((s.slice (Rect.unit (s := S4) ![2] S1.size inb_S4_S1_2)).squeeze S_ squeezes_S1_S_).sem
abbrev s4d (s : DmaSems sig S4) : DmaSem sig := ((s.slice (Rect.unit (s := S4) ![3] S1.size inb_S4_S1_3)).squeeze S_ squeezes_S1_S_).sem

/-- The rectangle of a slot of a pair of tiles, -/
abbrev r0 : Rect S2x1024x2048 := Rect.unit (s := S2x1024x2048) ![0, 0, 0] S1x1024x2048.size inb_S2x1024x2048_S1x1024x2048_0_0_0
abbrev r1 : Rect S2x1024x2048 := Rect.unit (s := S2x1024x2048) ![1, 0, 0] S1x1024x2048.size inb_S2x1024x2048_S1x1024x2048_1_0_0
/-- and the slot. -/
abbrev sl0 {e : EltTy} (m : Memref sig .tc .vmem S2x1024x2048 e) : Memref sig .tc .vmem S1024x2048 e :=
  (m.slice r0 (fun _ => rfl)).squeeze S1024x2048 squeezes_S1x1024x2048_S1024x2048
abbrev sl1 {e : EltTy} (m : Memref sig .tc .vmem S2x1024x2048 e) : Memref sig .tc .vmem S1024x2048 e :=
  (m.slice r1 (fun _ => rfl)).squeeze S1024x2048 squeezes_S1x1024x2048_S1024x2048

/-- The left and right column tiles of a half. -/
abbrev h0 {e : EltTy} (m : Memref sig .tc .hbm S1024x4096 e) : Memref sig .tc .hbm S1024x2048 e :=
  m.slice (Rect.unit (s := S1024x4096) ![0, 0] S1024x2048.size inb_S1024x4096_S1024x2048_0_0) (fun _ => rfl)
abbrev h1 {e : EltTy} (m : Memref sig .tc .hbm S1024x4096 e) : Memref sig .tc .hbm S1024x2048 e :=
  m.slice (Rect.unit (s := S1024x4096) ![0, 2048] S1024x2048.size inb_S1024x4096_S1024x2048_0_2048) (fun _ => rfl)

/-- The slots of a pair of quantised halves. -/
abbrev q0 (m : Memref sig .tc .vmem S2x1024x4096 .i8) : Memref sig .tc .vmem S1024x4096 .i8 :=
  (m.slice (Rect.unit (s := S2x1024x4096) ![0, 0, 0] S1x1024x4096.size inb_S2x1024x4096_S1x1024x4096_0_0_0) (fun _ => rfl)).squeeze S1024x4096 squeezes_S1x1024x4096_S1024x4096
abbrev q1 (m : Memref sig .tc .vmem S2x1024x4096 .i8) : Memref sig .tc .vmem S1024x4096 .i8 :=
  (m.slice (Rect.unit (s := S2x1024x4096) ![1, 0, 0] S1x1024x4096.size inb_S2x1024x4096_S1x1024x4096_1_0_0) (fun _ => rfl)).squeeze S1024x4096 squeezes_S1x1024x4096_S1024x4096

/-- The four tiles of a pair of quantised halves: slot, then left or right. -/
abbrev t00 : Rect S2x1024x4096 := Rect.unit (s := S2x1024x4096) ![0, 0, 0] S1x1024x2048.size inb_S2x1024x4096_S1x1024x2048_0_0_0
abbrev t01 : Rect S2x1024x4096 := Rect.unit (s := S2x1024x4096) ![0, 0, 2048] S1x1024x2048.size inb_S2x1024x4096_S1x1024x2048_0_0_2048
abbrev t10 : Rect S2x1024x4096 := Rect.unit (s := S2x1024x4096) ![1, 0, 0] S1x1024x2048.size inb_S2x1024x4096_S1x1024x2048_1_0_0
abbrev t11 : Rect S2x1024x4096 := Rect.unit (s := S2x1024x4096) ![1, 0, 2048] S1x1024x2048.size inb_S2x1024x4096_S1x1024x2048_1_0_2048

/-- A memref a copy may go through. -/
structure WM (sp : Space) (s : Shape) (e : EltTy) where
  m : Memref sig .tc sp s e
  h : m.view.WordExact

/-- A rectangle of rows of `x`; -/
abbrev xW (off : Fin 2 → ℕ) (h : ∀ a, off a + S1024x1024.size a ≤ S4096x1024.size a) : WM .hbm S1024x1024 .f32 :=
  ⟨xM.slice (Rect.unit (s := S4096x1024) off S1024x1024.size h) (fun _ => rfl), View.wordExact_bits rfl⟩
/-- a tile of columns of `w`; -/
abbrev wW (off : Fin 2 → ℕ) (h : ∀ a, off a + S1024x2048.size a ≤ S1024x8192.size a) : WM .hbm S1024x2048 .f32 :=
  ⟨wM.slice (Rect.unit (s := S1024x8192) off S1024x2048.size h) (fun _ => rfl), View.wordExact_bits rfl⟩
/-- a tile of the result; -/
abbrev oW (off : Fin 2 → ℕ) (h : ∀ a, off a + S1024x2048.size a ≤ S4096x8192.size a) : WM .hbm S1024x2048 .f32 :=
  ⟨outM.slice (Rect.unit (s := S4096x8192) off S1024x2048.size h) (fun _ => rfl), View.wordExact_bits rfl⟩
/-- the column tiles of a half, in either type; -/
abbrev f0W (m : Memref sig .tc .hbm S1024x4096 .f32) : WM .hbm S1024x2048 .f32 := ⟨h0 m, View.wordExact_bits rfl⟩
abbrev f1W (m : Memref sig .tc .hbm S1024x4096 .f32) : WM .hbm S1024x2048 .f32 := ⟨h1 m, View.wordExact_bits rfl⟩
abbrev b0W (m : Memref sig .tc .hbm S1024x4096 .bf16) (hm : m.IsWhole) : WM .hbm S1024x2048 .bf16 :=
  ⟨h0 m, hm.wordExact_slice rfl _ wordsbf16_S1024x4096_S1024x2048_0_0⟩
abbrev b1W (m : Memref sig .tc .hbm S1024x4096 .bf16) (hm : m.IsWhole) : WM .hbm S1024x2048 .bf16 :=
  ⟨h1 m, hm.wordExact_slice rfl _ wordsbf16_S1024x4096_S1024x2048_0_2048⟩
/-- and the scratch slots. -/
abbrev xcW : WM .vmem S1024x1024 .f32 := ⟨xcM, (Memref.isWhole_whole _).wordExact⟩
abbrev s0W (m : Memref sig .tc .vmem S2x1024x2048 .f32) : WM .vmem S1024x2048 .f32 := ⟨sl0 m, (View.wordExact_bits rfl).reshape _ _⟩
abbrev s1W (m : Memref sig .tc .vmem S2x1024x2048 .f32) : WM .vmem S1024x2048 .f32 := ⟨sl1 m, (View.wordExact_bits rfl).reshape _ _⟩
abbrev ob0W : WM .vmem S1024x2048 .bf16 :=
  ⟨sl0 obM, ((Memref.isWhole_whole _).wordExact_slice rfl _ wordsbf16_S2x1024x2048_S1x1024x2048_0_0_0).reshape _ _⟩
abbrev ob1W : WM .vmem S1024x2048 .bf16 :=
  ⟨sl1 obM, ((Memref.isWhole_whole _).wordExact_slice rfl _ wordsbf16_S2x1024x2048_S1x1024x2048_1_0_0).reshape _ _⟩

/-! ### The operations, with their continuation -/

/-- A copy to itself; -/
abbrev cp {sp sp' : Space} {s : Shape} {e : EltTy} (src : WM sp s e) (dst : WM sp' s e) (sm : DmaSem sig)
    (k : PR F α) (ht : DmaTarget.Typed (nD := nD) (τ := τ) (p := Proc.tc) sp (.dma sm) (.here dst.m) := by exact ⟨Or.inl rfl, trivial⟩) : PR F α :=
  .op (.enqueueDma src.m (.here dst.m) (.dma sm) src.h dst.h ht) fun _ => k
/-- the wait for one; -/
abbrev cw {sp sp' : Space} {s s' : Shape} {e e' : EltTy} (src : WM sp s e) (dst : WM sp' s' e') (sm : DmaSem sig) (k : PR F α) : PR F α :=
  .op (.waitDma2 sm src.m dst.m src.h dst.h) fun _ => k
/-- loads of the two slots of a pair of tiles, -/
abbrev ld0 {e : EltTy} (m : Memref sig .tc .vmem S2x1024x2048 e) (k : Vec F S1x1024x2048 e → PR F α) : PR F α :=
  .op (.load m r0.toLoadRect (View.loadsAt_vmem h_S1x1024x2048)) k
abbrev ld1 {e : EltTy} (m : Memref sig .tc .vmem S2x1024x2048 e) (k : Vec F S1x1024x2048 e → PR F α) : PR F α :=
  .op (.load m r1.toLoadRect (View.loadsAt_vmem h_S1x1024x2048)) k
/-- of the rows of `x`, -/
abbrev ldX (k : Vec F S1024x1024 .f32 → PR F α) : PR F α :=
  .op (.load xcM (Rect.unit (s := S1024x1024) ![0, 0] S1024x1024.size inb_S1024x1024_S1024x1024_0_0).toLoadRect (View.loadsAt_vmem h_S1024x1024)) k
/-- of a quantised tile; -/
abbrev ldQ (m : Memref sig .tc .vmem S2x1024x4096 .i8) (off : Fin 3 → ℕ) (h : ∀ a, off a + S1x1024x2048.size a ≤ S2x1024x4096.size a)
    (k : Vec F S1x1024x2048 .i8 → PR F α) : PR F α :=
  .op (.load m (Rect.unit (s := S2x1024x4096) off S1x1024x2048.size h).toLoadRect (View.loadsAt_vmem h_S1x1024x2048)) k
/-- stores over the same. -/
abbrev stF0 (m : Memref sig .tc .vmem S2x1024x2048 .f32) (w : Vec F S1x1024x2048 .f32) (k : PR F α) : PR F α :=
  .op (.store m r0 w Finset.univ (View.stores_vmem_bits_univ h_S1x1024x2048 rfl) (.inl rfl)) fun _ => k
abbrev stF1 (m : Memref sig .tc .vmem S2x1024x2048 .f32) (w : Vec F S1x1024x2048 .f32) (k : PR F α) : PR F α :=
  .op (.store m r1 w Finset.univ (View.stores_vmem_bits_univ h_S1x1024x2048 rfl) (.inl rfl)) fun _ => k
abbrev stB0 (w : Vec F S1x1024x2048 .bf16) (k : PR F α) : PR F α :=
  .op (.store obM r0 w Finset.univ (View.stores_vmem h_S1x1024x2048 ((Memref.isWhole_whole _).storeExact_slice rfl _ packedbf16_S2x1024x2048_S1x1024x2048_0_0_0) (fun _ => rfl)) (.inl rfl)) fun _ => k
abbrev stB1 (w : Vec F S1x1024x2048 .bf16) (k : PR F α) : PR F α :=
  .op (.store obM r1 w Finset.univ (View.stores_vmem h_S1x1024x2048 ((Memref.isWhole_whole _).storeExact_slice rfl _ packedbf16_S2x1024x2048_S1x1024x2048_1_0_0) (fun _ => rfl)) (.inl rfl)) fun _ => k

/-! ### The segments of the body -/

/-- The product of a chunk of rows of `x` with two column tiles of `w`, in half precision, into `d0` and `d1`. -/
def gemmB (sx : WM .hbm S1024x1024 .f32) (w0 w1 : WM .hbm S1024x2048 .f32) (d0 d1 : WM .hbm S1024x2048 .bf16) (k : PR F α) : PR F α :=
  cp sx xcW cc0_scratch7.sem <| cp w0 (s0W wtM) (s2a cc0_scratch8) <| cp w1 (s1W wtM) (s2b cc0_scratch8) <|
  cw sx xcW cc0_scratch7.sem <| cw w0 (s0W wtM) (s2a cc0_scratch8) <|
  ldX fun v1 => ld0 wtM fun v2 => ld0 otM fun _ => stF0 otM (k0_pay1 v1 v2) <| ld0 otM fun v3 => ld0 obM fun _ => stB0 (k0_pay22 v3) <|
  cp ob0W d0 (s2a cc0_scratch9) <| cw w1 (s1W wtM) (s2b cc0_scratch8) <|
  ldX fun v1 => ld1 wtM fun v2 => ld1 otM fun _ => stF1 otM (k0_pay1 v1 v2) <| ld1 otM fun v3 => ld1 obM fun _ => stB1 (k0_pay22 v3) <|
  cp ob1W d1 (s2b cc0_scratch9) <| cw ob0W d0 (s2a cc0_scratch9) <| cw ob1W d1 (s2b cc0_scratch9) k

/-- The product of a chunk of rows of `x` with two column tiles of `w`, in single precision, into `d0` and `d1`. -/
def gemmF (sx : WM .hbm S1024x1024 .f32) (w0 w1 : WM .hbm S1024x2048 .f32) (d0 d1 : WM .hbm S1024x2048 .f32) (k : PR F α) : PR F α :=
  cp sx xcW cc0_scratch7.sem <| cp w0 (s0W wtM) (s2a cc0_scratch8) <| cp w1 (s1W wtM) (s2b cc0_scratch8) <|
  cw sx xcW cc0_scratch7.sem <| cw w0 (s0W wtM) (s2a cc0_scratch8) <|
  ldX fun v1 => ld0 wtM fun v2 => ld0 otM fun _ => stF0 otM (k0_pay1 v1 v2) <|
  cp (s0W otM) d0 (s2a cc0_scratch9) <| cw w1 (s1W wtM) (s2b cc0_scratch8) <|
  ldX fun v1 => ld1 wtM fun v2 => ld1 otM fun _ => stF1 otM (k0_pay1 v1 v2) <|
  cp (s1W otM) d1 (s2b cc0_scratch9) <| cw (s0W otM) d0 (s2a cc0_scratch9) <| cw (s1W otM) d1 (s2b cc0_scratch9) k

/-- One column tile of each direction: what was received added to the partial product, in both precisions, and the
    greatest magnitude of the two (by `f` of the first sum and `g` of that and the second). -/
def addT (ra rb aa ab : WM .hbm S1024x2048 .bf16) (pa pb : WM .hbm S1024x2048 .f32)
    (f : Vec F S1x1024x2048 .f32 → F .f32) (g : F .f32 → Vec F S1x1024x2048 .f32 → F .f32) (k : F .f32 → PR F α) : PR F α :=
  cp ra ob0W (s2a cc0_scratch9) <| cp pa (s0W wtM) (s2a cc0_scratch8) <| cp rb ob1W (s2b cc0_scratch9) <| cp pb (s1W wtM) (s2b cc0_scratch8) <|
  cw ra ob0W (s2a cc0_scratch9) <| cw pa (s0W wtM) (s2a cc0_scratch8) <|
  ld0 obM fun u => ld0 wtM fun w => ld0 wtM fun _ => stF0 wtM (k0_pay7 (k0_pay6 u) w) <| ld0 wtM fun m => ld0 wtM fun t => ld0 obM fun _ => stB0 (k0_pay9 t) <|
  cp ob0W aa (s2a cc0_scratch10) <| cp (s0W wtM) pa (s2a cc0_scratch8) <|
  cw rb ob1W (s2b cc0_scratch9) <| cw pb (s1W wtM) (s2b cc0_scratch8) <|
  ld1 obM fun u => ld1 wtM fun w => ld1 wtM fun _ => stF1 wtM (k0_pay7 (k0_pay6 u) w) <| ld1 wtM fun m' => ld1 wtM fun t => ld1 obM fun _ => stB1 (k0_pay9 t) <|
  cp ob1W ab (s2b cc0_scratch10) <| cp (s1W wtM) pb (s2b cc0_scratch8) <|
  cw ob0W aa (s2a cc0_scratch10) <| cw (s0W wtM) pa (s2a cc0_scratch8) <| cw ob1W ab (s2b cc0_scratch10) <| cw (s1W wtM) pb (s2b cc0_scratch8) <|
  k (g (f m) m')

/-- A quantised tile, scaled back, into a tile of the result. -/
def deqT (qm : Memref sig .tc .vmem S2x1024x4096 .i8) (off : Fin 3 → ℕ) (h : ∀ a, off a + S1x1024x2048.size a ≤ S2x1024x4096.size a)
    (sc : F .f32) (o : WM .hbm S1024x2048 .f32) (k : PR F α) : PR F α :=
  ldQ qm off h fun v => ld0 otM fun _ => stF0 otM (k0_pay35 sc v) <| cp (s0W otM) o (s2a cc0_scratch9) <| cw (s0W otM) o (s2a cc0_scratch9) k

/-- A tile of the reduced chunk quantised, and scaled back into a tile of the result. -/
def quanT (p : WM .hbm S1024x2048 .f32) (qm : Memref sig .tc .vmem S2x1024x4096 .i8) (off : Fin 3 → ℕ) (h : ∀ a, off a + S1x1024x2048.size a ≤ S2x1024x4096.size a)
    (hst : (qm.access (Rect.unit (s := S2x1024x4096) off S1x1024x2048.size h)).Stores Finset.univ)
    (inv sc : F .f32) (o : WM .hbm S1024x2048 .f32) (k : PR F α) : PR F α :=
  cp p (s0W wtM) (s2a cc0_scratch8) <| cw p (s0W wtM) (s2a cc0_scratch8) <|
  ld0 wtM fun v => ldQ qm off h fun _ =>
  Prog.op (.store qm (Rect.unit (s := S2x1024x4096) off S1x1024x2048.size h) (k0_pay34 inv v) Finset.univ hst (.inl rfl)) fun _ =>
  deqT qm off h sc o k

/-! ### The remote operations -/

/-- A copy to device `d`; -/
abbrev rcp {sp sp' : Space} {s : Shape} {e : EltTy} (src : WM sp s e) (d : Dev nD) (dst : WM sp' s e) (sS sR : DmaSem sig)
    (k : PR F α) (hsc : dst.m.view.ref.isScScratch = false := by exact rfl)
    (ht : DmaTarget.Typed (nD := nD) (τ := τ) (p := Proc.tc) sp (.dma sR) (.remote (Dev.tc d : Thread nD τ) dst.m (.dma sS) hsc) := by exact ⟨⟨rfl, Or.inl rfl⟩, trivial⟩) : PR F α :=
  .op (.enqueueDma src.m (.remote (Dev.tc d : Thread nD τ) dst.m (.dma sS) hsc) (.dma sR) src.h dst.h ht) fun _ => k

abbrev aW (m : Memref sig .tc .hbm S1024x4096 .bf16) (hm : m.IsWhole) : WM .hbm S1024x4096 .bf16 := ⟨m, hm.wordExact⟩
abbrev q0W (m : Memref sig .tc .vmem S2x1024x4096 .i8) (hm : m.IsWhole) : WM .vmem S1024x4096 .i8 :=
  ⟨q0 m, (hm.wordExact_slice rfl _ wordsi8_S2x1024x4096_S1x1024x4096_0_0_0).reshape _ _⟩
abbrev q1W (m : Memref sig .tc .vmem S2x1024x4096 .i8) (hm : m.IsWhole) : WM .vmem S1024x4096 .i8 :=
  ⟨q1 m, (hm.wordExact_slice rfl _ wordsi8_S2x1024x4096_S1x1024x4096_1_0_0).reshape _ _⟩
/-- A row of the table of magnitudes. -/
abbrev rowW (off : Fin 2 → ℕ) (h : ∀ a, off a + S1x128.size a ≤ S4x128.size a) : WM .vmem S1x128 .f32 :=
  ⟨amM.slice (Rect.unit (s := S4x128) off S1x128.size h) (fun _ => rfl), View.wordExact_bits rfl⟩

abbrev sig' (d : Dev nD) (s : Sem sig) (k : PR F α) : PR F α := semSignalWord d s 1#32 >>= fun _ => k
abbrev wai' (s : Sem sig) (k : PR F α) : PR F α := semWaitWord s 2#32 >>= fun _ => k

abbrev whl {b : Ref sig .tc} : (Memref.whole b : Memref sig .tc _ _ _).IsWhole := Memref.isWhole_whole b

/-- One step of the reduction. -/
def step (d : Dev nD) (t : Fin k0_t1_loop.trips) (k : F .f32 → PR F α) : PR F α :=
  rcp (aW accA whl) (⟨k0_dev3 d, k0_dev3_lt d⟩ : Dev nD) (aW rcvA whl) cc0_scratch11.sem cc0_scratch12.sem <|
  rcp (aW accB whl) (⟨k0_dev4 d, k0_dev4_lt d⟩ : Dev nD) (aW rcvB whl) cc0_scratch13.sem cc0_scratch14.sem <|
  gemmF (xW (k0_off2 d t) (k0_off2_inb d t)) (wW ![0, 0] inb_S1024x8192_S1024x2048_0_0) (wW ![0, 2048] inb_S1024x8192_S1024x2048_0_2048) (f0W pacA) (f1W pacA) <|
  gemmF (xW (k0_off3 d t) (k0_off3_inb d t)) (wW ![0, 4096] inb_S1024x8192_S1024x2048_0_4096) (wW ![0, 6144] inb_S1024x8192_S1024x2048_0_6144) (f0W pacB) (f1W pacB) <|
  cw (aW rcvA whl) (aW accA whl) cc0_scratch11.sem <| cw (aW accA whl) (aW rcvA whl) cc0_scratch12.sem <|
  cw (aW rcvB whl) (aW accB whl) cc0_scratch13.sem <| cw (aW accB whl) (aW rcvB whl) cc0_scratch14.sem <|
  addT (b0W rcvA whl) (b0W rcvB whl) (b0W accA whl) (b0W accB whl) (f0W pacA) (f0W pacB) k0_pay8 k0_pay11 fun am =>
  addT (b1W rcvA whl) (b1W rcvB whl) (b1W accA whl) (b1W accB whl) (f1W pacA) (f1W pacB) (fun v => k0_pay16 am (k0_pay15 v)) k0_pay19 fun am =>
  sig' ⟨k0_dev5 d, k0_dev5_lt d⟩ cc0_scratch17.sem <| sig' ⟨k0_dev6 d, k0_dev6_lt d⟩ cc0_scratch17.sem <| wai' cc0_scratch17.sem <|
  k am

set_option maxHeartbeats 4000000 in
/-- The body of the printed loop is the step. -/
theorem step_eq (d : Dev nD) (v2 v14 v25 : BitVec 32) (t : Fin k0_t1_loop.trips) (am : F .f32) :
    k0_t1_body xM whl wM whl outM whl accA whl accB whl pacA whl pacB whl rcvA whl rcvB whl xcM whl wtM whl otM whl obM whl qaM whl qbM whl amM whl
      cc0_scratch7 cc0_scratch8 cc0_scratch9 cc0_scratch10 cc0_scratch11 cc0_scratch12 cc0_scratch13 cc0_scratch14 cc0_scratch15 cc0_scratch16 cc0_scratch17
      d v2 v14 v25 t am = step d t (fun a => Prog.ret (k0_pay29 am (Scf.iv 0#32 1#32 t) a)) := rfl

/-- The words of a tile of the quantised halves. -/
theorem stQ0 {m : Memref sig .tc .vmem S2x1024x4096 .i8} (hm : m.IsWhole) : (m.access t00).Stores Finset.univ :=
  View.stores_vmem h_S1x1024x2048 (hm.storeExact_slice rfl _ packedi8_S2x1024x4096_S1x1024x2048_0_0_0) (fun _ => rfl)
theorem stQ1 {m : Memref sig .tc .vmem S2x1024x4096 .i8} (hm : m.IsWhole) : (m.access t01).Stores Finset.univ :=
  View.stores_vmem h_S1x1024x2048 (hm.storeExact_slice rfl _ packedi8_S2x1024x4096_S1x1024x2048_0_0_2048) (fun _ => rfl)

/-- A signal to each neighbour (the left one first) and the wait for the same from both. -/
abbrev meet (dl dr : Dev nD) (s : Sem sig) (k : PR F α) : PR F α := sig' dl s <| sig' dr s <| wai' s k

/-- The waits for the two transfers of a step of the gather. -/
abbrev drain {sp : Space} {s : Shape} {e : EltTy} (fa ta fb tb : WM sp s e) (k : PR F α) : PR F α :=
  cw ta fa cc0_scratch11.sem <| cw fa ta cc0_scratch12.sem <| cw tb fb cc0_scratch13.sem <| cw fb tb cc0_scratch14.sem k

/-- The exchange of the greatest magnitudes, and the whole table. -/
def amaxX (d : Dev nD) (v : F .f32) (k : Vec F S4x128 .f32 → PR F α) : PR F α :=
  .op (.load amM (Rect.unit (s := S4x128) (k0_off4 d) S1x128.size (k0_off4_inb d)).toLoadRect (View.loadsAt_vmem h_S1x128)) fun _ =>
  .op (.store amM (Rect.unit (s := S4x128) (k0_off4 d) S1x128.size (k0_off4_inb d)) (k0_pay30 v) Finset.univ (View.stores_vmem_bits_univ h_S1x128 rfl) (.inl rfl)) fun _ =>
  rcp (rowW (k0_off5 d) (k0_off5_inb d)) (⟨k0_dev7 d, k0_dev7_lt d⟩ : Dev nD) (rowW (k0_off5 d) (k0_off5_inb d)) (s4b cc0_scratch15) (s4b cc0_scratch16) <|
  rcp (rowW (k0_off5 d) (k0_off5_inb d)) (⟨k0_dev8 d, k0_dev8_lt d⟩ : Dev nD) (rowW (k0_off5 d) (k0_off5_inb d)) (s4c cc0_scratch15) (s4c cc0_scratch16) <|
  rcp (rowW (k0_off5 d) (k0_off5_inb d)) (⟨k0_dev9 d, k0_dev9_lt d⟩ : Dev nD) (rowW (k0_off5 d) (k0_off5_inb d)) (s4d cc0_scratch15) (s4d cc0_scratch16) <|
  cw (rowW (k0_off5 d) (k0_off5_inb d)) (rowW (k0_off6 d 1#32) (k0_off6_inb d 0)) (s4b cc0_scratch16) <|
  cw (rowW (k0_off6 d 1#32) (k0_off6_inb d 0)) (rowW (k0_off5 d) (k0_off5_inb d)) (s4b cc0_scratch15) <|
  cw (rowW (k0_off5 d) (k0_off5_inb d)) (rowW (k0_off6 d 2#32) (k0_off6_inb d 1)) (s4c cc0_scratch16) <|
  cw (rowW (k0_off6 d 2#32) (k0_off6_inb d 1)) (rowW (k0_off5 d) (k0_off5_inb d)) (s4c cc0_scratch15) <|
  cw (rowW (k0_off5 d) (k0_off5_inb d)) (rowW (k0_off6 d 3#32) (k0_off6_inb d 2)) (s4d cc0_scratch16) <|
  cw (rowW (k0_off6 d 3#32) (k0_off6_inb d 2)) (rowW (k0_off5 d) (k0_off5_inb d)) (s4d cc0_scratch15) <|
  .op (.load amM (Rect.unit (s := S4x128) ![0, 0] S4x128.size inb_S4x128_S4x128_0_0).toLoadRect (View.loadsAt_vmem h_S4x128)) k

/-- The four tiles of the device's own chunk. -/
def quan4 (d : Dev nD) (inv sc : F .f32) (k : PR F α) : PR F α :=
  quanT (f0W pacA) qaM ![0, 0, 0] inb_S2x1024x4096_S1x1024x2048_0_0_0 (stQ0 whl) inv sc (oW (k0_off7 d) (k0_off7_inb d)) <|
  quanT (f1W pacA) qaM ![0, 0, 2048] inb_S2x1024x4096_S1x1024x2048_0_0_2048 (stQ1 whl) inv sc (oW (k0_off8 d) (k0_off8_inb d)) <|
  quanT (f0W pacB) qbM ![0, 0, 0] inb_S2x1024x4096_S1x1024x2048_0_0_0 (stQ0 whl) inv sc (oW (k0_off9 d) (k0_off9_inb d)) <|
  quanT (f1W pacB) qbM ![0, 0, 2048] inb_S2x1024x4096_S1x1024x2048_0_0_2048 (stQ1 whl) inv sc (oW (k0_off10 d) (k0_off10_inb d)) k

/-- The four tiles of a chunk received, from the first slot or the second. -/
def deq40 (sc : F .f32) (o1 o2 o3 o4 : WM .hbm S1024x2048 .f32) (k : PR F α) : PR F α :=
  deqT qaM ![0, 0, 0] inb_S2x1024x4096_S1x1024x2048_0_0_0 sc o1 <| deqT qaM ![0, 0, 2048] inb_S2x1024x4096_S1x1024x2048_0_0_2048 sc o2 <|
  deqT qbM ![0, 0, 0] inb_S2x1024x4096_S1x1024x2048_0_0_0 sc o3 <| deqT qbM ![0, 0, 2048] inb_S2x1024x4096_S1x1024x2048_0_0_2048 sc o4 k
def deq41 (sc : F .f32) (o1 o2 o3 o4 : WM .hbm S1024x2048 .f32) (k : PR F α) : PR F α :=
  deqT qaM ![1, 0, 0] inb_S2x1024x4096_S1x1024x2048_1_0_0 sc o1 <| deqT qaM ![1, 0, 2048] inb_S2x1024x4096_S1x1024x2048_1_0_2048 sc o2 <|
  deqT qbM ![1, 0, 0] inb_S2x1024x4096_S1x1024x2048_1_0_0 sc o3 <| deqT qbM ![1, 0, 2048] inb_S2x1024x4096_S1x1024x2048_1_0_2048 sc o4 k

/-- The quantised chunks once around the ring. -/
def gather (d : Dev nD) (sc : F .f32) (k : PR F α) : PR F α :=
  rcp (q0W qaM whl) (⟨k0_dev10 d, k0_dev10_lt d⟩ : Dev nD) (q1W qaM whl) cc0_scratch11.sem cc0_scratch12.sem <|
  rcp (q0W qbM whl) (⟨k0_dev11 d, k0_dev11_lt d⟩ : Dev nD) (q1W qbM whl) cc0_scratch13.sem cc0_scratch14.sem <|
  drain (q0W qaM whl) (q1W qaM whl) (q0W qbM whl) (q1W qbM whl) <|
  meet ⟨k0_dev12 d, k0_dev12_lt d⟩ ⟨k0_dev13 d, k0_dev13_lt d⟩ cc0_scratch17.sem <|
  rcp (q1W qaM whl) (⟨k0_dev14 d, k0_dev14_lt d⟩ : Dev nD) (q0W qaM whl) cc0_scratch11.sem cc0_scratch12.sem <|
  rcp (q1W qbM whl) (⟨k0_dev15 d, k0_dev15_lt d⟩ : Dev nD) (q0W qbM whl) cc0_scratch13.sem cc0_scratch14.sem <|
  deq41 sc (oW (k0_off11 d 1#32 1#32) (k0_off11_inb d 0)) (oW (k0_off12 d 1#32 1#32) (k0_off12_inb d 0))
    (oW (k0_off13 d 1#32 1#32) (k0_off13_inb d 0)) (oW (k0_off14 d 1#32 1#32) (k0_off14_inb d 0)) <|
  drain (q1W qaM whl) (q0W qaM whl) (q1W qbM whl) (q0W qbM whl) <|
  meet ⟨k0_dev16 d, k0_dev16_lt d⟩ ⟨k0_dev17 d, k0_dev17_lt d⟩ cc0_scratch17.sem <|
  rcp (q0W qaM whl) (⟨k0_dev18 d, k0_dev18_lt d⟩ : Dev nD) (q1W qaM whl) cc0_scratch11.sem cc0_scratch12.sem <|
  rcp (q0W qbM whl) (⟨k0_dev19 d, k0_dev19_lt d⟩ : Dev nD) (q1W qbM whl) cc0_scratch13.sem cc0_scratch14.sem <|
  deq40 sc (oW (k0_off11 d 2#32 1#32) (k0_off11_inb d 1)) (oW (k0_off12 d 2#32 1#32) (k0_off12_inb d 1))
    (oW (k0_off13 d 2#32 1#32) (k0_off13_inb d 1)) (oW (k0_off14 d 2#32 1#32) (k0_off14_inb d 1)) <|
  drain (q0W qaM whl) (q1W qaM whl) (q0W qbM whl) (q1W qbM whl) <|
  meet ⟨k0_dev20 d, k0_dev20_lt d⟩ ⟨k0_dev21 d, k0_dev21_lt d⟩ cc0_scratch17.sem <|
  deq41 sc (oW (k0_off11 d 4#32 2#32) (k0_off11_inb d 2)) (oW (k0_off12 d 4#32 2#32) (k0_off12_inb d 2))
    (oW (k0_off13 d 4#32 2#32) (k0_off13_inb d 2)) (oW (k0_off14 d 4#32 2#32) (k0_off14_inb d 2)) k

/-- The three steps of the reduction; the greatest magnitude of the last. -/
def steps (d : Dev nD) : PR F (F .f32) :=
  Scf.Loop.for k0_t1_loop k0_t1_ok (Scalar.ofBits .f32 0#32) fun t am => step d t (fun a => Prog.ret (k0_pay29 am (Scf.iv 0#32 1#32 t) a))

/-- The body. -/
def bodyP (d : Dev nD) : PR F PUnit :=
  gemmB (xW (k0_off1 d) (k0_off1_inb d)) (wW ![0, 0] inb_S1024x8192_S1024x2048_0_0) (wW ![0, 2048] inb_S1024x8192_S1024x2048_0_2048) (b0W accA whl) (b1W accA whl) <|
  gemmB (xW (k0_off1 d) (k0_off1_inb d)) (wW ![0, 4096] inb_S1024x8192_S1024x2048_0_4096) (wW ![0, 6144] inb_S1024x8192_S1024x2048_0_6144) (b0W accB whl) (b1W accB whl) <|
  meet ⟨k0_dev1 d, k0_dev1_lt d⟩ ⟨k0_dev2 d, k0_dev2_lt d⟩ (SemArray.scalar (sig.barrier 0 rfl) : Sems sig S_).sem <|
  steps d >>= fun v => amaxX d v fun tab => quan4 d (k0_pay32 tab) (k0_pay33 tab) <| gather d (k0_pay33 tab) <| Prog.ret ⟨⟩

set_option maxHeartbeats 8000000 in
/-- The body as the program prints it. -/
theorem body_eq :
    cc0__ar_body (F := F) xM whl wM whl outM whl accA whl accB whl pacA whl pacB whl rcvA whl rcvB whl xcM whl wtM whl otM whl obM whl qaM whl qbM whl amM whl
      cc0_scratch7 cc0_scratch8 cc0_scratch9 cc0_scratch10 cc0_scratch11 cc0_scratch12 cc0_scratch13 cc0_scratch14 cc0_scratch15 cc0_scratch16 cc0_scratch17
      = .op .deviceId fun d => bodyP d := by
  rw [cc0__ar_body_eq_skeleton]
  unfold cc0__ar_body_skel
  rw [k0_part47_eq_skeleton]
  unfold k0_part47_skel
  rw [k0_part22_eq_skeleton]
  unfold k0_part22_skel
  simp only [bind_assoc]
  rfl

end Cert.KProof
-- ==== Proof.Segments.lean ====
module

public import proofs.«01_k».proof.Proof.Names

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {α : Type}

local notation "𝕄" => MT nD τ sig ℕ (Elt F) ℕ UU ℕ

/-! ### Values -/

/-- A tile as a slot of a pair, and back. -/
abbrev up {e : EltTy} (w : Vec F S1024x2048 e) : Vec F S1x1024x2048 e := shapeCast S1x1024x2048 w shapeCasts_S1024x2048_S1x1024x2048
abbrev dn {e : EltTy} (w : Vec F S1x1024x2048 e) : Vec F S1024x2048 e := shapeCast S1024x2048 w shapeCasts_S1x1024x2048_S1024x2048

theorem up_dn {e : EltTy} (w : Vec F S1x1024x2048 e) : up (dn w) = w := by
  funext j
  show w (Shape.reshapeEquiv _ (Shape.reshapeEquiv _ j)) = w j
  rw [Shape.reshapeEquiv_reshapeEquiv, Shape.reshapeEquiv_self]

theorem dn_up {e : EltTy} (w : Vec F S1024x2048 e) : dn (up w) = w := by
  funext j
  show w (Shape.reshapeEquiv _ (Shape.reshapeEquiv _ j)) = w j
  rw [Shape.reshapeEquiv_reshapeEquiv, Shape.reshapeEquiv_self]

/-- A chunk of `x` by a tile of `w`; -/
def gm (x : Vec F S1024x1024 .f32) (w : Vec F S1024x2048 .f32) : Vec F S1024x2048 .f32 := dn (k0_pay1 x (up w))
/-- in half precision; -/
def half (v : Vec F S1024x2048 .f32) : Vec F S1024x2048 .bf16 := dn (k0_pay22 (up v))
/-- what was received added to a partial product; -/
def plus (u : Vec F S1024x2048 .bf16) (w : Vec F S1024x2048 .f32) : Vec F S1024x2048 .f32 := dn (k0_pay7 (k0_pay6 (up u)) (up w))
/-- a tile quantised, -/
def quan (inv : F .f32) (v : Vec F S1024x2048 .f32) : Vec F S1024x2048 .i8 := dn (k0_pay34 inv (up v))
/-- and scaled back. -/
def back (sc : F .f32) (q : Vec F S1024x2048 .i8) : Vec F S1024x2048 .f32 := dn (k0_pay35 sc (up q))

theorem half_eq (u : Vec F S1x1024x2048 .f32) : dn (k0_pay9 u) = half (dn u) := by
  unfold half; rw [up_dn]; rfl

/-! ### Loads and stores of slots -/

section
variable (c : Dev nD) {s : Shape} {e : EltTy}

omit [FloatOps F] in
/-- A region read in another shape. -/
theorem own_unreshape {sh : PosShare TreeShare} {sp : Space} {s s' : Shape} {V : View sig .tc sp s e} {h : s'.numel = s.numel} (h' : s.numel = s'.numel) (w : s'.Idx → Elt F e) :
    ownS sh c (V.reshape s' h) w ⊢ ownS sh c V (fun j => w (Shape.reshapeEquiv h' j)) := by
  unfold ownS
  iintro ⟨%f, %hf, H⟩
  iexists f
  isplitr
  · ipureintro
    funext j
    rw [← hf]
    show _ = V.read (Elt F) f (Shape.reshapeEquiv h _)
    rw [Shape.reshapeEquiv_reshapeEquiv, Shape.reshapeEquiv_self]
  · rw [View.set_reshape]
    iexact H

omit [FloatOps F] in
theorem own_reshape {sh : PosShare TreeShare} {sp : Space} {s s' : Shape} {V : View sig .tc sp s e} {h : s'.numel = s.numel} (w : s.Idx → Elt F e) :
    ownS sh c V w ⊢ ownS sh c (V.reshape s' h) (fun j => w (Shape.reshapeEquiv h j)) := by
  unfold ownS
  iintro ⟨%f, %hf, H⟩
  iexists f
  isplitr
  · ipureintro
    subst hf
    rfl
  · rw [View.set_reshape]
    iexact H

omit [FloatOps F] in
/-- A region of three dimensions read through two. -/
theorem own_up {sh : PosShare TreeShare} {V : View sig .tc .vmem S1x1024x2048 e} {h : S1024x2048.numel = S1x1024x2048.numel} (w : Vec F S1024x2048 e) :
    ownS sh c (V.reshape S1024x2048 h) w ⊢ ownS sh c V (up w) := own_unreshape c _ w

omit [FloatOps F] in
theorem own_dn {sh : PosShare TreeShare} {V : View sig .tc .vmem S1x1024x2048 e} {h : S1024x2048.numel = S1x1024x2048.numel} (w : Vec F S1x1024x2048 e) :
    ownS sh c V w ⊢ ownS sh c (V.reshape S1024x2048 h) (dn w) := own_reshape c w

/-- The tile of a three-dimensional buffer at `off`. -/
abbrev tl {n : Fin 3 → ℕ} (m : Memref sig .tc .vmem ⟨3, n⟩ e) (off : Fin 3 → ℕ) (h : ∀ a, off a + S1x1024x2048.size a ≤ n a) :
    View sig .tc .vmem S1024x2048 e :=
  View.reshape (s := S1x1024x2048) (m.access (Rect.unit (s := ⟨3, n⟩) off S1x1024x2048.size h)) S1024x2048 squeezes_S1x1024x2048_S1024x2048.numel_eq

variable {n : Fin 3 → ℕ} {m : Memref sig .tc .vmem ⟨3, n⟩ e} {off : Fin 3 → ℕ} {h : ∀ a, off a + S1x1024x2048.size a ≤ n a}

/-- A load of a tile; -/
theorem wp_ldT {sh : PosShare TreeShare} {hl : m.view.LoadsAt (Rect.unit (s := ⟨3, n⟩) off S1x1024x2048.size h).toLoadRect}
    {k : Vec F S1x1024x2048 e → PR F α} {Q : α → sProp 𝕄} {w : Vec F S1024x2048 e} :
    ownS sh c (tl m off h) w ⊢ iprop((ownS sh c (tl m off h) w -∗ wpc c (k (up w)) Q)
      -∗ wpc c (.op (.load m (Rect.unit (s := ⟨3, n⟩) off S1x1024x2048.size h).toLoadRect hl) k) Q) := by
  iintro H Hk
  ihave H' := (own_up c w) $$ H
  iapply (wp_loadO c (r := Rect.unit (s := ⟨3, n⟩) off S1x1024x2048.size h)) $$ H'
  iintro H
  iapply Hk
  ihave H' := (own_dn c (V := m.access (Rect.unit (s := ⟨3, n⟩) off S1x1024x2048.size h)) (h := squeezes_S1x1024x2048_S1024x2048.numel_eq) (up w)) $$ H
  rw [dn_up]
  iexact H'

/-- one whose value is not used; -/
theorem wp_ldTA {hl : m.view.LoadsAt (Rect.unit (s := ⟨3, n⟩) off S1x1024x2048.size h).toLoadRect}
    {k : Vec F S1x1024x2048 e → PR F α} {Q : α → sProp 𝕄} :
    any c (tl m off h) ⊢ iprop((∀ w, any c (tl m off h) -∗ wpc c (k w) Q)
      -∗ wpc c (.op (.load m (Rect.unit (s := ⟨3, n⟩) off S1x1024x2048.size h).toLoadRect hl) k) Q) := by
  unfold any
  iintro ⟨%w, H⟩ Hk
  iapply (wp_ldT c) $$ H
  iintro H
  iapply Hk
  iexists w
  iexact H

/-- a store over a tile. -/
theorem wp_stT {w : Vec F S1x1024x2048 e} {hx : (m.access (Rect.unit (s := ⟨3, n⟩) off S1x1024x2048.size h)).Stores Finset.univ}
    {hm : (Finset.univ : Finset (Rect.unit (s := ⟨3, n⟩) off S1x1024x2048.size h).shape.Idx) = Finset.univ ∨
      ∀ a, (Rect.unit (s := ⟨3, n⟩) off S1x1024x2048.size h).stride a = 1}
    {k : PUnit → PR F α} {Q : α → sProp 𝕄} :
    any c (tl m off h) ⊢ iprop((own c (tl m off h) (dn w) -∗ wpc c (k ⟨⟩) Q)
      -∗ wpc c (.op (.store m (Rect.unit (s := ⟨3, n⟩) off S1x1024x2048.size h) w Finset.univ hx hm) k) Q) := by
  iintro H Hk
  ihave H' : iprop(any c (m.access (Rect.unit (s := ⟨3, n⟩) off S1x1024x2048.size h))) $$ [H]
  · unfold any
    icases H with ⟨%v, H⟩
    iexists (up v)
    iapply (own_up c v) $$ H
  iapply (wp_storeO c (r := Rect.unit (s := ⟨3, n⟩) off S1x1024x2048.size h)) $$ H'
  iintro H
  iapply Hk
  iapply (own_dn c (V := m.access (Rect.unit (s := ⟨3, n⟩) off S1x1024x2048.size h)) (h := squeezes_S1x1024x2048_S1024x2048.numel_eq) w) $$ H

omit [FloatOps F] in
/-- The whole of a view as a rectangle of it. -/
theorem full_emb {s : Shape} {off : Fin s.rank → ℕ} {h : ∀ a, off a + s.size a ≤ s.size a} (x : s.Idx) : (Rect.unit (s := s) off s.size h).emb x = x := by
  funext a
  apply Fin.ext
  have := h a
  show off a + 1 * (x a).val = (x a).val
  omega

omit [FloatOps F] in
theorem full_set {sp : Space} {s : Shape} {V : View sig .tc sp s e} {off : Fin s.rank → ℕ} {h : ∀ a, off a + s.size a ≤ s.size a} :
    (V.slice (Rect.unit (s := s) off s.size h)).set = V.set := by
  ext i
  simp only [View.set, Finset.mem_map, Finset.mem_univ, true_and]
  constructor
  · rintro ⟨x, hx⟩; exact ⟨_, hx⟩
  · rintro ⟨x, hx⟩
    refine ⟨x, ?_⟩
    show V.emb ((Rect.unit (s := s) off s.size h).emb x) = i
    rw [full_emb]; exact hx

omit [FloatOps F] in
theorem own_full {sp : Space} {s : Shape} {V : View sig .tc sp s e} {off : Fin s.rank → ℕ} {h : ∀ a, off a + s.size a ≤ s.size a} (v : s.Idx → Elt F e) :
    own c V v ⊢ own c (V.slice (Rect.unit (s := s) off s.size h)) v := by
  unfold own ownS
  iintro ⟨%f, %hf, H⟩
  iexists f
  isplitr
  · ipureintro
    funext x
    rw [← hf]
    show V.read (Elt F) f ((Rect.unit (s := s) off s.size h).emb x) = _
    rw [full_emb]
  · rw [full_set]; iexact H

omit [FloatOps F] in
theorem own_unfull {sp : Space} {s : Shape} {V : View sig .tc sp s e} {off : Fin s.rank → ℕ} {h : ∀ a, off a + s.size a ≤ s.size a} (v : s.Idx → Elt F e) :
    own c (V.slice (Rect.unit (s := s) off s.size h)) v ⊢ own c V v := by
  unfold own ownS
  iintro ⟨%f, %hf, H⟩
  iexists f
  isplitr
  · ipureintro
    funext x
    rw [← hf]
    show _ = V.read (Elt F) f ((Rect.unit (s := s) off s.size h).emb x)
    rw [full_emb]
  · rw [full_set]; iexact H

/-- A load of a whole buffer. -/
theorem wp_ldW {s : Shape} {m : Memref sig .tc .vmem s e} {off : Fin s.rank → ℕ} {h : ∀ a, off a + s.size a ≤ s.size a}
    {hl : m.view.LoadsAt (Rect.unit (s := s) off s.size h).toLoadRect}
    {k : (s.Idx → Elt F e) → PR F α} {Q : α → sProp 𝕄} {v : s.Idx → Elt F e} :
    own c m.view v ⊢ iprop((own c m.view v -∗ wpc c (k v) Q)
      -∗ wpc c (.op (.load m (Rect.unit (s := s) off s.size h).toLoadRect hl) k) Q) := by
  iintro H Hk
  ihave H' := (own_full c (V := m.view) (off := off) (h := h) v) $$ H
  iapply (wp_loadO c (r := Rect.unit (s := s) off s.size h)) $$ H'
  iintro H
  iapply Hk
  iapply (own_unfull c (V := m.view) (off := off) (h := h) v) $$ H

end

/-! ### The scratch of a core -/

section
variable (c : Dev nD)

/-- A local semaphore at rest. -/
abbrev rest (s : DmaSem sig) : sProp 𝕄 := semVal ((c : Thread nD τ), .dma s) 0

/-- The scratch a core's own copies go through, with their semaphores at rest. -/
def Scr : sProp 𝕄 :=
  iprop((any c xcW.m.view ∗ any c (s0W wtM).m.view ∗ any c (s1W wtM).m.view ∗ any c (s0W otM).m.view ∗ any c (s1W otM).m.view ∗ any c ob0W.m.view ∗ any c ob1W.m.view)
    ∗ rest c cc0_scratch7.sem ∗ rest c (s2a cc0_scratch8) ∗ rest c (s2b cc0_scratch8) ∗ rest c (s2a cc0_scratch9) ∗ rest c (s2b cc0_scratch9)
    ∗ rest c (s2a cc0_scratch10) ∗ rest c (s2b cc0_scratch10))

variable {c} {sm : DmaSem sig} {k : PR F α} {O : CellTallies nD τ sig ℕ} {sp sp' : Space} {e : EltTy}

/-- The copy and the wait, as they are written in the segments. -/
theorem wp_cpP {Q : α → sProp 𝕄} {s : Shape} {src : WM sp s e} {dst : WM sp' s e} {ht} {q : PosShare TreeShare} {fs : Buf (Elt F) (src.m.view.loc (c : Thread nD τ))}
    {S : Finset (Idx (src.m.view.loc (c : Thread nD τ)))} (hS : src.m.view.set ⊆ S) (hN : 0 < s.numel) :
    iprop((src.m.view.loc (c : Thread nD τ) ↦[S]{q} fs) ∗ any c dst.m.view ∗ rest c sm)
      ⊢ iprop((fly c sm dst.m.view.dmaCredit iprop(own c dst.m.view (src.m.view.read (Elt F) fs) ∗ (src.m.view.loc (c : Thread nD τ) ↦[S]{q} fs))
              -∗ wpc c k Q) -∗ wpc c (cp src dst sm k ht) Q) :=
  wp_start c (k := fun _ => k) hS (View.dmaCredit_pos _ hN)

theorem wp_cpO {Q : α → sProp 𝕄} {s : Shape} {src : WM sp s e} {dst : WM sp' s e} {ht} {v : s.Idx → Elt F e} (hN : 0 < s.numel) :
    iprop(own c src.m.view v ∗ any c dst.m.view ∗ rest c sm)
      ⊢ iprop((fly c sm dst.m.view.dmaCredit iprop(own c dst.m.view v ∗ own c src.m.view v) -∗ wpc c k Q) -∗ wpc c (cp src dst sm k ht) Q) :=
  wp_startO c (k := fun _ => k) (View.dmaCredit_pos _ hN)

theorem wp_cw {Q : α → sProp 𝕄} {s : Shape} {src : WM sp s e} {dst : WM sp' s e} {D : sProp 𝕄} :
    iprop(fly c sm dst.m.view.dmaCredit D ∗ owing c O ∗ Transfers.MayWaits (c : Thread nD τ) 0 O)
      ⊢ iprop((iprop(D ∗ rest c sm ∗ owing c O) -∗ wpc c k Q) -∗ wpc c (cw src dst sm k) Q) :=
  wp_wait c (k := fun _ => k) rfl

theorem npos : 0 < S1024x2048.numel := by decide
theorem npos' : 0 < S1024x1024.numel := by decide

variable {m : Memref sig .tc .vmem S2x1024x2048 e}

theorem wp_ld0 {Q : α → sProp 𝕄} {kk : Vec F S1x1024x2048 e → PR F α} {w : Vec F S1024x2048 e} :
    own c (sl0 m).view w ⊢ iprop((own c (sl0 m).view w -∗ wpc c (kk (up w)) Q) -∗ wpc c (ld0 m kk) Q) :=
  wp_ldT (n := ![2, 1024, 2048]) c
theorem wp_ld1 {Q : α → sProp 𝕄} {kk : Vec F S1x1024x2048 e → PR F α} {w : Vec F S1024x2048 e} :
    own c (sl1 m).view w ⊢ iprop((own c (sl1 m).view w -∗ wpc c (kk (up w)) Q) -∗ wpc c (ld1 m kk) Q) :=
  wp_ldT (n := ![2, 1024, 2048]) c
theorem wp_ld0A {Q : α → sProp 𝕄} {kk : Vec F S1x1024x2048 e → PR F α} :
    any c (sl0 m).view ⊢ iprop((∀ w, any c (sl0 m).view -∗ wpc c (kk w) Q) -∗ wpc c (ld0 m kk) Q) :=
  wp_ldTA (n := ![2, 1024, 2048]) c
theorem wp_ld1A {Q : α → sProp 𝕄} {kk : Vec F S1x1024x2048 e → PR F α} :
    any c (sl1 m).view ⊢ iprop((∀ w, any c (sl1 m).view -∗ wpc c (kk w) Q) -∗ wpc c (ld1 m kk) Q) :=
  wp_ldTA (n := ![2, 1024, 2048]) c
theorem wp_ldX {Q : α → sProp 𝕄} {kk : Vec F S1024x1024 .f32 → PR F α} {w : Vec F S1024x1024 .f32} :
    own c xcM.view w ⊢ iprop((own c xcM.view w -∗ wpc c (kk w) Q) -∗ wpc c (ldX kk) Q) :=
  wp_ldW c
theorem wp_stF0 {Q : α → sProp 𝕄} {m : Memref sig .tc .vmem S2x1024x2048 .f32} {w : Vec F S1x1024x2048 .f32} :
    any c (sl0 m).view ⊢ iprop((own c (sl0 m).view (dn w) -∗ wpc c k Q) -∗ wpc c (stF0 m w k) Q) :=
  wp_stT (n := ![2, 1024, 2048]) (k := fun _ => k) c
theorem wp_stF1 {Q : α → sProp 𝕄} {m : Memref sig .tc .vmem S2x1024x2048 .f32} {w : Vec F S1x1024x2048 .f32} :
    any c (sl1 m).view ⊢ iprop((own c (sl1 m).view (dn w) -∗ wpc c k Q) -∗ wpc c (stF1 m w k) Q) :=
  wp_stT (n := ![2, 1024, 2048]) (k := fun _ => k) c
theorem wp_stB0 {Q : α → sProp 𝕄} {w : Vec F S1x1024x2048 .bf16} :
    any c (sl0 obM).view ⊢ iprop((own c (sl0 obM).view (dn w) -∗ wpc c k Q) -∗ wpc c (stB0 w k) Q) :=
  wp_stT (n := ![2, 1024, 2048]) (k := fun _ => k) c
theorem wp_stB1 {Q : α → sProp 𝕄} {w : Vec F S1x1024x2048 .bf16} :
    any c (sl1 obM).view ⊢ iprop((own c (sl1 obM).view (dn w) -∗ wpc c k Q) -∗ wpc c (stB1 w k) Q) :=
  wp_stT (n := ![2, 1024, 2048]) (k := fun _ => k) c

/-! ### What the segments do -/

/-- A part of a buffer in the main memory, held with share `q` and contents `f`. -/
abbrev src {sp : Space} {s : Shape} {e : EltTy} (c : Dev nD) (w : WM sp s e) (S : Finset (Idx (w.m.view.loc (c : Thread nD τ)))) (q : PosShare TreeShare)
    (f : Buf (Elt F) (w.m.view.loc (c : Thread nD τ))) : sProp 𝕄 := (w.m.view.loc (c : Thread nD τ) ↦[S]{q} f)

variable {sx : WM .hbm S1024x1024 .f32} {w0 w1 : WM .hbm S1024x2048 .f32} {qx q0 q1 : PosShare TreeShare}
  {fx : Buf (Elt F) (sx.m.view.loc (c : Thread nD τ))} {Sx : Finset (Idx (sx.m.view.loc (c : Thread nD τ)))} (hSx : sx.m.view.set ⊆ Sx)
  {f0 : Buf (Elt F) (w0.m.view.loc (c : Thread nD τ))} {S0 : Finset (Idx (w0.m.view.loc (c : Thread nD τ)))} (hS0 : w0.m.view.set ⊆ S0)
  {f1 : Buf (Elt F) (w1.m.view.loc (c : Thread nD τ))} {S1 : Finset (Idx (w1.m.view.loc (c : Thread nD τ)))} (hS1 : w1.m.view.set ⊆ S1)

include hSx hS0 hS1

set_option maxHeartbeats 1000000 in
/-- Two tiles of the product in single precision. -/
theorem wp_gemmF {Q : α → sProp 𝕄} {d0 d1 : WM .hbm S1024x2048 .f32} :
    iprop(Scr c ∗ src c sx Sx qx fx ∗ src c w0 S0 q0 f0 ∗ src c w1 S1 q1 f1 ∗ any c d0.m.view ∗ any c d1.m.view
        ∗ owing c O ∗ Transfers.MayWaits (c : Thread nD τ) 0 O)
      ⊢ iprop((iprop(Scr c ∗ src c sx Sx qx fx ∗ src c w0 S0 q0 f0 ∗ src c w1 S1 q1 f1
            ∗ own c d0.m.view (gm (sx.m.view.read (Elt F) fx) (w0.m.view.read (Elt F) f0))
            ∗ own c d1.m.view (gm (sx.m.view.read (Elt F) fx) (w1.m.view.read (Elt F) f1)) ∗ owing c O) -∗ wpc c k Q)
          -∗ wpc c (gemmF sx w0 w1 d0 d1 k) Q) := by
  unfold Scr gemmF
  iintro ⟨⟨⟨Hxc, Ha, Hb, Hoa, Hob, Hba, Hbb⟩, Rx, Rwa, Rwb, Roa, Rob, Rsa, Rsb⟩, Hx, Hw0, Hw1, Hd0, Hd1, HO, #HM⟩ Hk
  iapply (wp_cpP hSx npos') $$ [Hx Hxc Rx]
  · isplitl [Hx]; · iexact Hx
    isplitl [Hxc]; · iexact Hxc
    iexact Rx
  iintro Fx
  iapply (wp_cpP hS0 npos) $$ [Hw0 Ha Rwa]
  · isplitl [Hw0]; · iexact Hw0
    isplitl [Ha]; · iexact Ha
    iexact Rwa
  iintro Fa
  iapply (wp_cpP hS1 npos) $$ [Hw1 Hb Rwb]
  · isplitl [Hw1]; · iexact Hw1
    isplitl [Hb]; · iexact Hb
    iexact Rwb
  iintro Fb
  iapply wp_cw $$ [Fx HO]
  · isplitl [Fx]; · iexact Fx
    isplitl [HO]; · iexact HO
    iexact HM
  iintro ⟨⟨Hxc, Hx⟩, Rx, HO⟩
  iapply wp_cw $$ [Fa HO]
  · isplitl [Fa]; · iexact Fa
    isplitl [HO]; · iexact HO
    iexact HM
  iintro ⟨⟨Ha, Hw0⟩, Rwa, HO⟩
  iapply wp_ldX $$ Hxc
  iintro Hxc
  iapply wp_ld0 $$ Ha
  iintro Ha
  iapply wp_ld0A $$ Hoa
  iintro %_ Hoa
  iapply wp_stF0 $$ Hoa
  iintro Hoa
  iapply (wp_cpO npos) $$ [Hoa Hd0 Roa]
  · isplitl [Hoa]; · iexact Hoa
    isplitl [Hd0]; · iexact Hd0
    iexact Roa
  iintro Fo
  iapply wp_cw $$ [Fb HO]
  · isplitl [Fb]; · iexact Fb
    isplitl [HO]; · iexact HO
    iexact HM
  iintro ⟨⟨Hb, Hw1⟩, Rwb, HO⟩
  iapply wp_ldX $$ Hxc
  iintro Hxc
  iapply wp_ld1 $$ Hb
  iintro Hb
  iapply wp_ld1A $$ Hob
  iintro %_ Hob
  iapply wp_stF1 $$ Hob
  iintro Hob
  iapply (wp_cpO npos) $$ [Hob Hd1 Rob]
  · isplitl [Hob]; · iexact Hob
    isplitl [Hd1]; · iexact Hd1
    iexact Rob
  iintro Fp
  iapply wp_cw $$ [Fo HO]
  · isplitl [Fo]; · iexact Fo
    isplitl [HO]; · iexact HO
    iexact HM
  iintro ⟨⟨Hd0, Hoa⟩, Roa, HO⟩
  iapply wp_cw $$ [Fp HO]
  · isplitl [Fp]; · iexact Fp
    isplitl [HO]; · iexact HO
    iexact HM
  iintro ⟨⟨Hd1, Hob⟩, Rob, HO⟩
  iapply Hk
  ihave Hxc := (own_any c _ _) $$ Hxc
  ihave Ha := (own_any c _ _) $$ Ha
  ihave Hb := (own_any c _ _) $$ Hb
  ihave Hoa := (own_any c _ _) $$ Hoa
  ihave Hob := (own_any c _ _) $$ Hob
  isplitl [Hxc Ha Hb Hoa Hob Hba Hbb Rx Rwa Rwb Roa Rob Rsa Rsb]
  · iframe
  iframe
  isplitl [Hd0]; · iexact Hd0
  iexact Hd1

set_option maxHeartbeats 1000000 in
/-- Two tiles of the product in half precision. -/
theorem wp_gemmB {Q : α → sProp 𝕄} {d0 d1 : WM .hbm S1024x2048 .bf16} :
    iprop(Scr c ∗ src c sx Sx qx fx ∗ src c w0 S0 q0 f0 ∗ src c w1 S1 q1 f1 ∗ any c d0.m.view ∗ any c d1.m.view
        ∗ owing c O ∗ Transfers.MayWaits (c : Thread nD τ) 0 O)
      ⊢ iprop((iprop(Scr c ∗ src c sx Sx qx fx ∗ src c w0 S0 q0 f0 ∗ src c w1 S1 q1 f1
            ∗ own c d0.m.view (half (gm (sx.m.view.read (Elt F) fx) (w0.m.view.read (Elt F) f0)))
            ∗ own c d1.m.view (half (gm (sx.m.view.read (Elt F) fx) (w1.m.view.read (Elt F) f1))) ∗ owing c O) -∗ wpc c k Q)
          -∗ wpc c (gemmB sx w0 w1 d0 d1 k) Q) := by
  unfold Scr gemmB
  iintro ⟨⟨⟨Hxc, Ha, Hb, Hoa, Hob, Hba, Hbb⟩, Rx, Rwa, Rwb, Roa, Rob, Rsa, Rsb⟩, Hx, Hw0, Hw1, Hd0, Hd1, HO, #HM⟩ Hk
  iapply (wp_cpP hSx npos') $$ [Hx Hxc Rx]
  · isplitl [Hx]; · iexact Hx
    isplitl [Hxc]; · iexact Hxc
    iexact Rx
  iintro Fx
  iapply (wp_cpP hS0 npos) $$ [Hw0 Ha Rwa]
  · isplitl [Hw0]; · iexact Hw0
    isplitl [Ha]; · iexact Ha
    iexact Rwa
  iintro Fa
  iapply (wp_cpP hS1 npos) $$ [Hw1 Hb Rwb]
  · isplitl [Hw1]; · iexact Hw1
    isplitl [Hb]; · iexact Hb
    iexact Rwb
  iintro Fb
  iapply wp_cw $$ [Fx HO]
  · isplitl [Fx]; · iexact Fx
    isplitl [HO]; · iexact HO
    iexact HM
  iintro ⟨⟨Hxc, Hx⟩, Rx, HO⟩
  iapply wp_cw $$ [Fa HO]
  · isplitl [Fa]; · iexact Fa
    isplitl [HO]; · iexact HO
    iexact HM
  iintro ⟨⟨Ha, Hw0⟩, Rwa, HO⟩
  iapply wp_ldX $$ Hxc
  iintro Hxc
  iapply wp_ld0 $$ Ha
  iintro Ha
  iapply wp_ld0A $$ Hoa
  iintro %_ Hoa
  iapply wp_stF0 $$ Hoa
  iintro Hoa
  iapply wp_ld0 $$ Hoa
  iintro Hoa
  iapply wp_ld0A $$ Hba
  iintro %_ Hba
  iapply wp_stB0 $$ Hba
  iintro Hba
  iapply (wp_cpO npos) $$ [Hba Hd0 Roa]
  · isplitl [Hba]; · iexact Hba
    isplitl [Hd0]; · iexact Hd0
    iexact Roa
  iintro Fo
  iapply wp_cw $$ [Fb HO]
  · isplitl [Fb]; · iexact Fb
    isplitl [HO]; · iexact HO
    iexact HM
  iintro ⟨⟨Hb, Hw1⟩, Rwb, HO⟩
  iapply wp_ldX $$ Hxc
  iintro Hxc
  iapply wp_ld1 $$ Hb
  iintro Hb
  iapply wp_ld1A $$ Hob
  iintro %_ Hob
  iapply wp_stF1 $$ Hob
  iintro Hob
  iapply wp_ld1 $$ Hob
  iintro Hob
  iapply wp_ld1A $$ Hbb
  iintro %_ Hbb
  iapply wp_stB1 $$ Hbb
  iintro Hbb
  iapply (wp_cpO npos) $$ [Hbb Hd1 Rob]
  · isplitl [Hbb]; · iexact Hbb
    isplitl [Hd1]; · iexact Hd1
    iexact Rob
  iintro Fp
  iapply wp_cw $$ [Fo HO]
  · isplitl [Fo]; · iexact Fo
    isplitl [HO]; · iexact HO
    iexact HM
  iintro ⟨⟨Hd0, Hba⟩, Roa, HO⟩
  iapply wp_cw $$ [Fp HO]
  · isplitl [Fp]; · iexact Fp
    isplitl [HO]; · iexact HO
    iexact HM
  iintro ⟨⟨Hd1, Hbb⟩, Rob, HO⟩
  iapply Hk
  ihave Hxc := (own_any c _ _) $$ Hxc
  ihave Ha := (own_any c _ _) $$ Ha
  ihave Hb := (own_any c _ _) $$ Hb
  ihave Hoa := (own_any c _ _) $$ Hoa
  ihave Hob := (own_any c _ _) $$ Hob
  ihave Hba := (own_any c _ _) $$ Hba
  ihave Hbb := (own_any c _ _) $$ Hbb
  isplitl [Hxc Ha Hb Hoa Hob Hba Hbb Rx Rwa Rwb Roa Rob Rsa Rsb]
  · iframe
  iframe
  isplitl [Hd0]; · iexact Hd0
  iexact Hd1

end

section
variable {c : Dev nD} {k : PR F α} {O : CellTallies nD τ sig ℕ}

set_option maxHeartbeats 2000000 in
/-- A column tile of each direction added, kept in both precisions. -/
theorem wp_addT {Q : α → sProp 𝕄} {ra rb aa ab : WM .hbm S1024x2048 .bf16} {pa pb : WM .hbm S1024x2048 .f32}
    {f : Vec F S1x1024x2048 .f32 → F .f32} {g : F .f32 → Vec F S1x1024x2048 .f32 → F .f32} {kk : F .f32 → PR F α}
    {ua ub : Vec F S1024x2048 .bf16} {va vb : Vec F S1024x2048 .f32} :
    iprop(Scr c ∗ own c ra.m.view ua ∗ own c rb.m.view ub ∗ own c pa.m.view va ∗ own c pb.m.view vb ∗ any c aa.m.view ∗ any c ab.m.view
        ∗ owing c O ∗ Transfers.MayWaits (c : Thread nD τ) 0 O)
      ⊢ iprop((iprop(Scr c ∗ own c ra.m.view ua ∗ own c rb.m.view ub ∗ own c pa.m.view (plus ua va) ∗ own c pb.m.view (plus ub vb)
            ∗ own c aa.m.view (half (plus ua va)) ∗ own c ab.m.view (half (plus ub vb)) ∗ owing c O)
              -∗ wpc c (kk (g (f (up (plus ua va))) (up (plus ub vb)))) Q)
          -∗ wpc c (addT ra rb aa ab pa pb f g kk) Q) := by
  unfold Scr addT
  iintro ⟨⟨⟨Hxc, Ha, Hb, Hoa, Hob, Hba, Hbb⟩, Rx, Rwa, Rwb, Roa, Rob, Rsa, Rsb⟩, Hra, Hrb, Hpa, Hpb, Haa, Hab, HO, #HM⟩ Hk
  iapply (wp_cpO npos) $$ [Hra Hba Roa]
  · isplitl [Hra]; · iexact Hra
    isplitl [Hba]; · iexact Hba
    iexact Roa
  iintro Fo
  iapply (wp_cpO npos) $$ [Hpa Ha Rwa]
  · isplitl [Hpa]; · iexact Hpa
    isplitl [Ha]; · iexact Ha
    iexact Rwa
  iintro Fa
  iapply (wp_cpO npos) $$ [Hrb Hbb Rob]
  · isplitl [Hrb]; · iexact Hrb
    isplitl [Hbb]; · iexact Hbb
    iexact Rob
  iintro Fp
  iapply (wp_cpO npos) $$ [Hpb Hb Rwb]
  · isplitl [Hpb]; · iexact Hpb
    isplitl [Hb]; · iexact Hb
    iexact Rwb
  iintro Fb
  iapply wp_cw $$ [Fo HO]
  · isplitl [Fo]; · iexact Fo
    isplitl [HO]; · iexact HO
    iexact HM
  iintro ⟨⟨Hba, Hra⟩, Roa, HO⟩
  iapply wp_cw $$ [Fa HO]
  · isplitl [Fa]; · iexact Fa
    isplitl [HO]; · iexact HO
    iexact HM
  iintro ⟨⟨Ha, Hpa⟩, Rwa, HO⟩
  iapply wp_ld0 $$ Hba
  iintro Hba
  iapply wp_ld0 $$ Ha
  iintro Ha
  iapply wp_ld0 $$ Ha
  iintro Ha
  ihave Ha := (own_any c _ _) $$ Ha
  iapply wp_stF0 $$ Ha
  iintro Ha
  iapply wp_ld0 $$ Ha
  iintro Ha
  iapply wp_ld0 $$ Ha
  iintro Ha
  iapply wp_ld0 $$ Hba
  iintro Hba
  ihave Hba := (own_any c _ _) $$ Hba
  iapply wp_stB0 $$ Hba
  iintro Hba
  ihave Hpa := (own_any c _ _) $$ Hpa
  iapply (wp_cpO npos) $$ [Hba Haa Rsa]
  · isplitl [Hba]; · iexact Hba
    isplitl [Haa]; · iexact Haa
    iexact Rsa
  iintro Fo
  iapply (wp_cpO npos) $$ [Ha Hpa Rwa]
  · isplitl [Ha]; · iexact Ha
    isplitl [Hpa]; · iexact Hpa
    iexact Rwa
  iintro Fa
  iapply wp_cw $$ [Fp HO]
  · isplitl [Fp]; · iexact Fp
    isplitl [HO]; · iexact HO
    iexact HM
  iintro ⟨⟨Hbb, Hrb⟩, Rob, HO⟩
  iapply wp_cw $$ [Fb HO]
  · isplitl [Fb]; · iexact Fb
    isplitl [HO]; · iexact HO
    iexact HM
  iintro ⟨⟨Hb, Hpb⟩, Rwb, HO⟩
  iapply wp_ld1 $$ Hbb
  iintro Hbb
  iapply wp_ld1 $$ Hb
  iintro Hb
  iapply wp_ld1 $$ Hb
  iintro Hb
  ihave Hb := (own_any c _ _) $$ Hb
  iapply wp_stF1 $$ Hb
  iintro Hb
  iapply wp_ld1 $$ Hb
  iintro Hb
  iapply wp_ld1 $$ Hb
  iintro Hb
  iapply wp_ld1 $$ Hbb
  iintro Hbb
  ihave Hbb := (own_any c _ _) $$ Hbb
  iapply wp_stB1 $$ Hbb
  iintro Hbb
  ihave Hpb := (own_any c _ _) $$ Hpb
  iapply (wp_cpO npos) $$ [Hbb Hab Rsb]
  · isplitl [Hbb]; · iexact Hbb
    isplitl [Hab]; · iexact Hab
    iexact Rsb
  iintro Fp
  iapply (wp_cpO npos) $$ [Hb Hpb Rwb]
  · isplitl [Hb]; · iexact Hb
    isplitl [Hpb]; · iexact Hpb
    iexact Rwb
  iintro Fb
  iapply wp_cw $$ [Fo HO]
  · isplitl [Fo]; · iexact Fo
    isplitl [HO]; · iexact HO
    iexact HM
  iintro ⟨⟨Haa, Hba⟩, Rsa, HO⟩
  iapply wp_cw $$ [Fa HO]
  · isplitl [Fa]; · iexact Fa
    isplitl [HO]; · iexact HO
    iexact HM
  iintro ⟨⟨Hpa, Ha⟩, Rwa, HO⟩
  iapply wp_cw $$ [Fp HO]
  · isplitl [Fp]; · iexact Fp
    isplitl [HO]; · iexact HO
    iexact HM
  iintro ⟨⟨Hab, Hbb⟩, Rsb, HO⟩
  iapply wp_cw $$ [Fb HO]
  · isplitl [Fb]; · iexact Fb
    isplitl [HO]; · iexact HO
    iexact HM
  iintro ⟨⟨Hpb, Hb⟩, Rwb, HO⟩
  iapply Hk
  ihave Ha := (own_any c _ _) $$ Ha
  ihave Hb := (own_any c _ _) $$ Hb
  ihave Hba := (own_any c _ _) $$ Hba
  ihave Hbb := (own_any c _ _) $$ Hbb
  isplitl [Hxc Ha Hb Hoa Hob Hba Hbb Rx Rwa Rwb Roa Rob Rsa Rsb]
  · iframe
  isplitl [Hra]; · iexact Hra
  isplitl [Hrb]; · iexact Hrb
  isplitl [Hpa]; · iexact Hpa
  isplitl [Hpb]; · iexact Hpb
  isplitl [Haa]; · iexact Haa
  isplitl [Hab]; · iexact Hab
  iexact HO

variable {qm : Memref sig .tc .vmem S2x1024x4096 .i8} {off : Fin 3 → ℕ} {h : ∀ a, off a + S1x1024x2048.size a ≤ S2x1024x4096.size a}

/-- The tile of a pair of quantised halves at `off`. -/
abbrev tq (qm : Memref sig .tc .vmem S2x1024x4096 .i8) (off : Fin 3 → ℕ) (h : ∀ a, off a + S1x1024x2048.size a ≤ S2x1024x4096.size a) :
    View sig .tc .vmem S1024x2048 .i8 := tl (n := ![2, 1024, 4096]) qm off h

/-- A quantised tile scaled back into the result. -/
theorem wp_deqT {sh : PosShare TreeShare} {Q : α → sProp 𝕄} {sc : F .f32} {o : WM .hbm S1024x2048 .f32} {q : Vec F S1024x2048 .i8} :
    iprop(Scr c ∗ ownS sh c (tq qm off h) q ∗ any c o.m.view ∗ owing c O ∗ Transfers.MayWaits (c : Thread nD τ) 0 O)
      ⊢ iprop((iprop(Scr c ∗ ownS sh c (tq qm off h) q ∗ own c o.m.view (back sc q) ∗ owing c O) -∗ wpc c k Q)
          -∗ wpc c (deqT qm off h sc o k) Q) := by
  unfold Scr deqT
  iintro ⟨⟨⟨Hxc, Ha, Hb, Hoa, Hob, Hba, Hbb⟩, Rx, Rwa, Rwb, Roa, Rob, Rsa, Rsb⟩, Hq, Ho, HO, #HM⟩ Hk
  iapply (wp_ldT (n := ![2, 1024, 4096]) c) $$ Hq
  iintro Hq
  iapply wp_ld0A $$ Hoa
  iintro %_ Hoa
  iapply wp_stF0 $$ Hoa
  iintro Hoa
  iapply (wp_cpO npos) $$ [Hoa Ho Roa]
  · isplitl [Hoa]; · iexact Hoa
    isplitl [Ho]; · iexact Ho
    iexact Roa
  iintro Fo
  iapply wp_cw $$ [Fo HO]
  · isplitl [Fo]; · iexact Fo
    isplitl [HO]; · iexact HO
    iexact HM
  iintro ⟨⟨Ho, Hoa⟩, Roa, HO⟩
  iapply Hk
  ihave Hoa := (own_any c _ _) $$ Hoa
  isplitl [Hxc Ha Hb Hoa Hob Hba Hbb Rx Rwa Rwb Roa Rob Rsa Rsb]
  · iframe
  isplitl [Hq]; · iexact Hq
  isplitl [Ho]; · iexact Ho
  iexact HO

/-- A tile of the sum quantised, and scaled back into the result. -/
theorem wp_quanT {Q : α → sProp 𝕄} {p : WM .hbm S1024x2048 .f32} {inv sc : F .f32} {o : WM .hbm S1024x2048 .f32} {v : Vec F S1024x2048 .f32}
    {hst : (qm.access (Rect.unit (s := S2x1024x4096) off S1x1024x2048.size h)).Stores Finset.univ} :
    iprop(Scr c ∗ own c p.m.view v ∗ any c (tq qm off h) ∗ any c o.m.view ∗ owing c O ∗ Transfers.MayWaits (c : Thread nD τ) 0 O)
      ⊢ iprop((iprop(Scr c ∗ own c p.m.view v ∗ own c (tq qm off h) (quan inv v) ∗ own c o.m.view (back sc (quan inv v)) ∗ owing c O) -∗ wpc c k Q)
          -∗ wpc c (quanT p qm off h hst inv sc o k) Q) := by
  unfold quanT
  iintro ⟨HS, Hp, Hq, Ho, HO, #HM⟩ Hk
  unfold Scr
  icases HS with ⟨⟨Hxc, Ha, Hb, Hoa, Hob, Hba, Hbb⟩, Rx, Rwa, Rwb, Roa, Rob, Rsa, Rsb⟩
  iapply (wp_cpO npos) $$ [Hp Ha Rwa]
  · isplitl [Hp]; · iexact Hp
    isplitl [Ha]; · iexact Ha
    iexact Rwa
  iintro Fa
  iapply wp_cw $$ [Fa HO]
  · isplitl [Fa]; · iexact Fa
    isplitl [HO]; · iexact HO
    iexact HM
  iintro ⟨⟨Ha, Hp⟩, Rwa, HO⟩
  iapply wp_ld0 $$ Ha
  iintro Ha
  iapply (wp_ldTA (n := ![2, 1024, 4096]) c) $$ Hq
  iintro %_ Hq
  iapply (wp_stT (n := ![2, 1024, 4096]) c) $$ Hq
  iintro Hq
  ihave Ha := (own_any c _ _) $$ Ha
  iapply wp_deqT $$ [Hxc Ha Hb Hoa Hob Hba Hbb Rx Rwa Rwb Roa Rob Rsa Rsb Hq Ho HO]
  · isplitl [Hxc Ha Hb Hoa Hob Hba Hbb Rx Rwa Rwb Roa Rob Rsa Rsb]
    · unfold Scr; iframe
    isplitl [Hq]; · iexact Hq
    isplitl [Ho]; · iexact Ho
    isplitl [HO]; · iexact HO
    iexact HM
  iintro ⟨HS, Hq, Ho, HO⟩
  iapply Hk
  isplitl [HS]; · (unfold Scr; iexact HS)
  isplitl [Hp]; · iexact Hp
  isplitl [Hq]; · iexact Hq
  isplitl [Ho]; · iexact Ho
  iexact HO

end

end Cert.KProof
-- ==== Proof.Tiles.lean ====
module

public import proofs.«01_k».proof.Proof.Segments

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {α : Type}

local notation "𝕄" => MT nD τ sig ℕ (Elt F) ℕ UU ℕ

/-! ### Tilings of a rectangle -/

/-- The rectangles `t` are the rectangle `R` in pieces: place `x` of piece `i` is place `e i x` of `R`. -/
structure Tiling {s : Shape} (R : Rect s) {ι : Type} (t : ι → Rect s) where
  e : ∀ i, (t i).shape.Idx → R.shape.Idx
  at_ : ∀ i x, (t i).emb x = R.emb (e i x)
  cov : ∀ y, ∃ i x, e i x = y
  dis : ∀ i j x y, e i x = e j y → i = j

namespace Tiling
variable {s : Shape} {R : Rect s} {ι : Type} {t : ι → Rect s} (T : Tiling R t) {β : Type}

include T in
theorem e_inj (i : ι) {x y : (t i).shape.Idx} (h : T.e i x = T.e i y) : x = y :=
  (t i).emb.injective (by rw [T.at_, T.at_, h])

/-- The pieces put together. -/
def glue (u : ∀ i, (t i).shape.Idx → β) (y : R.shape.Idx) : β := u (T.cov y).choose (T.cov y).choose_spec.choose

theorem glue_at (u : ∀ i, (t i).shape.Idx → β) (i : ι) (x : (t i).shape.Idx) : T.glue u (T.e i x) = u i x := by
  unfold glue
  have h := (T.cov (T.e i x)).choose_spec.choose_spec
  have hi := T.dis _ _ _ _ h
  generalize (T.cov (T.e i x)).choose_spec.choose = x' at h
  generalize (T.cov (T.e i x)).choose = i' at *
  subst hi
  rw [T.e_inj _ h]

end Tiling

section
variable {sp : Space} {s : Shape} {e : EltTy} (c : Dev nD) {q : PosShare TreeShare} (V : View sig .tc sp s e) {R : Rect s} {ι : Type} [Fintype ι]
  {t : ι → Rect s} (T : Tiling R t)

include T in
omit [FloatOps F] in
theorem tile_set : (V.slice R).set = (Finset.univ : Finset ι).biUnion fun i => (V.slice (t i)).set := by
  ext j
  simp only [View.set, Finset.mem_map, Finset.mem_univ, true_and, Finset.mem_biUnion]
  constructor
  · rintro ⟨y, rfl⟩
    obtain ⟨i, x, rfl⟩ := T.cov y
    exact ⟨i, x, congrArg V.emb (T.at_ i x)⟩
  · rintro ⟨i, x, rfl⟩
    exact ⟨T.e i x, (congrArg V.emb (T.at_ i x)).symm⟩

include T in
omit [FloatOps F] [Fintype ι] in
theorem tile_disj (i j : ι) (hij : i ≠ j) : Disjoint (V.slice (t i)).set (V.slice (t j)).set := by
  rw [Finset.disjoint_left]
  intro a ha hb
  simp only [View.set, Finset.mem_map, Finset.mem_univ, true_and] at ha hb
  obtain ⟨x, hx⟩ := ha
  obtain ⟨y, hy⟩ := hb
  have hxy : (t i).emb x = (t j).emb y := V.emb.injective (hx.trans hy.symm)
  rw [T.at_, T.at_] at hxy
  exact hij (T.dis i j x y (R.emb.injective hxy))

omit [FloatOps F] [Fintype ι] in
theorem tile_read (f : Buf (Elt F) (V.loc (c : Thread nD τ))) (i : ι) (x : (t i).shape.Idx) :
    (V.slice (t i)).read (Elt F) f x = (V.slice R).read (Elt F) f (T.e i x) := by
  show V.read (Elt F) f ((t i).emb x) = V.read (Elt F) f (R.emb (T.e i x))
  rw [T.at_]

omit [FloatOps F] in
/-- A region is its pieces; -/
theorem own_split (v : R.shape.Idx → Elt F e) :
    (ownS q c (V.slice R) v : sProp 𝕄) ⊢ bigSep Finset.univ fun i => ownS q c (V.slice (t i)) (fun x => v (T.e i x)) := by
  unfold ownS
  iintro ⟨%f, %hf, H⟩
  have hi : ∀ i, (V.loc (c : Thread nD τ) ↦[(V.slice (t i)).set]{q} f : sProp 𝕄)
      ⊢ iprop(∃ g : Buf (Elt F) ((V.slice (t i)).loc (c : Thread nD τ)), ⌜(V.slice (t i)).read (Elt F) g = fun x => v (T.e i x)⌝
        ∗ ((V.slice (t i)).loc (c : Thread nD τ) ↦[(V.slice (t i)).set]{q} g)) := fun i => by
    iintro H
    iexists f
    isplitr
    · ipureintro
      funext x
      rw [tile_read c V T, hf]
    iexact H
  have hm : (bigSep (Finset.univ : Finset ι) fun i => (V.loc (c : Thread nD τ) ↦[(V.slice (t i)).set]{q} f : sProp 𝕄))
      ⊢ bigSep Finset.univ fun i => iprop(∃ g : Buf (Elt F) ((V.slice (t i)).loc (c : Thread nD τ)), ⌜(V.slice (t i)).read (Elt F) g = fun x => v (T.e i x)⌝
        ∗ ((V.slice (t i)).loc (c : Thread nD τ) ↦[(V.slice (t i)).set]{q} g)) :=
    bigSep_mono fun i _ => hi i
  iapply hm
  rw [← pointsTo_biUnion Finset.univ _ (fun i _ j _ hij => tile_disj V T i j hij), ← tile_set V T]
  iexact H

/-- and the pieces make the region. -/
theorem own_join' [DecidableEq ι] (i₀ : ι) (u : ∀ i, (t i).shape.Idx → Elt F e) :
    (bigSep Finset.univ fun i => ownS q c (V.slice (t i)) (u i) : sProp 𝕄) ⊢ iprop(∃ v, ⌜∀ i x, v (T.e i x) = u i x⌝ ∗ ownS q c (V.slice R) v) := by
  unfold ownS
  refine (BI.bigSep_exists_pi _ _).trans ?_
  iintro ⟨%fs, H⟩
  ihave H' := (bigSep_pure_sep Finset.univ _ _) $$ H
  icases H' with ⟨%hfs, H⟩
  ihave H' := (pointsTo_biUnion_join (ℓ := V.loc (c : Thread nD τ)) Finset.univ (fun i => (V.slice (t i)).set) fs (fs i₀) (fun i _ j _ hij => tile_disj V T i j hij)) $$ H
  icases H' with ⟨%g, %hg, H⟩
  iexists (V.slice R).read (Elt F) g
  isplitr
  · ipureintro
    intro i x
    rw [← tile_read c V T, ← hfs i (Finset.mem_univ _)]
    have := hg i (Finset.mem_univ _) ((V.slice (t i)).emb x) (Finset.mem_map_of_mem _ (Finset.mem_univ x))
    unfold View.read
    rw [this]
  · iexists g
    isplitr; · (ipureintro; rfl)
    rw [tile_set V T]
    iexact H

theorem own_join [DecidableEq ι] (i₀ : ι) (u : ∀ i, (t i).shape.Idx → Elt F e) :
    (bigSep Finset.univ fun i => ownS q c (V.slice (t i)) (u i) : sProp 𝕄) ⊢ ownS q c (V.slice R) (T.glue u) := by
  refine (own_join' c V T i₀ u).trans ?_
  iintro ⟨%v, %hv, H⟩
  have : v = T.glue u := by
    funext y
    obtain ⟨i, x, rfl⟩ := T.cov y
    rw [hv, T.glue_at]
  subst this
  iexact H

include T in
omit [FloatOps F] in
/-- The same whatever is in it. -/
theorem any_split : (any c (V.slice R) : sProp 𝕄) ⊢ bigSep Finset.univ fun i => any c (V.slice (t i)) := by
  unfold any
  iintro ⟨%v, H⟩
  have hi : ∀ i, (own c (V.slice (t i)) (fun x => v (T.e i x)) : sProp 𝕄) ⊢ iprop(∃ v, own c (V.slice (t i)) v) := fun i => by
    iintro H; iexists _; iexact H
  have hm : (bigSep (Finset.univ : Finset ι) fun i => (own c (V.slice (t i)) (fun x => v (T.e i x)) : sProp 𝕄))
      ⊢ bigSep Finset.univ fun i => iprop(∃ v, own c (V.slice (t i)) v) := bigSep_mono fun i _ => hi i
  iapply hm
  iapply (own_split c V T v) $$ H

include T in
theorem any_join [DecidableEq ι] (i₀ : ι) : (bigSep Finset.univ fun i => any c (V.slice (t i)) : sProp 𝕄) ⊢ any c (V.slice R) := by
  unfold any
  refine (BI.bigSep_exists_pi _ _).trans ?_
  iintro ⟨%us, H⟩
  ihave H := (own_join' c V T i₀ us) $$ H
  icases H with ⟨%v, -, H⟩
  iexists v
  iexact H

omit [FloatOps F] in
/-- A region in two halves of its share; -/
theorem own_halve (v : s.Idx → Elt F e) : (ownS q c V v : sProp 𝕄) ⊢ iprop(ownS q.left c V v ∗ ownS q.right c V v) := by
  unfold ownS
  iintro ⟨%f, %hf, H⟩
  ihave H2 := (pointsTo_share (PosShare.mem_left_op_right q)).1 $$ H
  icases H2 with ⟨Hl, Hr⟩
  isplitl [Hl]
  all_goals
    iexists f
    isplitr; · (ipureintro; exact hf)
    iassumption

omit [FloatOps F] in
/-- and back. -/
theorem own_unhalve (v v' : s.Idx → Elt F e) : (iprop(ownS q.left c V v ∗ ownS q.right c V v') : sProp 𝕄) ⊢ ownS q c V v := by
  unfold ownS
  iintro ⟨⟨%f, %hf, Hl⟩, ⟨%g, -, Hr⟩⟩
  iapply (show iprop((V.loc (c : Thread nD τ) ↦[V.set]{q.left} f) ∗ (V.loc (c : Thread nD τ) ↦[V.set]{q.right} g))
      ⊢ (iprop(∃ f, ⌜V.read (Elt F) f = v⌝ ∗ (V.loc (c : Thread nD τ) ↦[V.set]{q} f)) : sProp 𝕄) from
    pure_elim _ pointsTo_agree fun hv => by
      rw [pointsTo_congr (f := g) (g := f) (fun i hi => ((hv i (Finset.mem_inter.mpr ⟨hi, hi⟩)).1).symm)]
      iintro H
      iexists f
      isplitr; · (ipureintro; exact hf)
      iapply (pointsTo_share (PosShare.mem_left_op_right q)).2 $$ H)
  isplitl [Hl]; · iexact Hl
  iexact Hr

end

/-! ### Tilings by offset -/

section
variable {s : Shape} {o S Tz : Fin s.rank → ℕ} {hS : ∀ a, o a + S a ≤ s.size a} {ι : Type} {o' : ι → Fin s.rank → ℕ} {hT : ∀ i a, o' i a + Tz a ≤ s.size a}

/-- Pieces of one size whose offsets, from that of the whole, are `d`. -/
def tilingAt (d : ι → Fin s.rank → ℕ) (ho : ∀ i a, o' i a = o a + d i a) (hd : ∀ i a, d i a + Tz a ≤ S a)
    (cov : ∀ y : (∀ a, Fin (S a)), ∃ i, ∀ a, d i a ≤ (y a).val ∧ (y a).val < d i a + Tz a)
    (dis : ∀ i j, i ≠ j → ∃ a, d i a + Tz a ≤ d j a ∨ d j a + Tz a ≤ d i a) :
    Tiling (Rect.unit (s := s) o S hS) (fun i => Rect.unit (s := s) (o' i) Tz (hT i)) where
  e i x a := ⟨d i a + (x a).val, lt_of_lt_of_le (Nat.add_lt_add_left (x a).isLt _) (hd i a)⟩
  at_ i x := funext fun a => Fin.ext (by
    show o' i a + 1 * (x a).val = o a + 1 * (d i a + (x a).val)
    rw [ho]; omega)
  cov y := by
    obtain ⟨i, hi⟩ := cov y
    refine ⟨i, fun a => ⟨(y a).val - d i a, ?_⟩, funext fun a => Fin.ext ?_⟩
    · have := hi a
      show _ < Tz a
      omega
    · have := hi a
      show d i a + ((y a).val - d i a) = (y a).val
      omega
  dis i j x y h := by
    by_contra hij
    obtain ⟨a, ha⟩ := dis i j hij
    have h1 : d i a + (x a).val = d j a + (y a).val := congrArg Fin.val (congrFun h a)
    have h2 : (x a).val < Tz a := (x a).isLt
    have h3 : (y a).val < Tz a := (y a).isLt
    omega

end

end Cert.KProof
-- ==== Proof.Protocol.lean ====
module

public import proofs.«01_k».proof.Proof.Segments

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-- The pipeline's rounds inside the ghost state, -/
def EP : Emb (UR sig nD τ) 𝕄 :=
  (Emb.inl : Emb (UR sig nD τ) UU).trans (uEmb (nD := nD) (sig := sig) (Ix := ℕ) (Val := Elt F) (Name := ℕ) (U := UU) (Lvl := ℕ)).toEmb

/-- and the protocol's. -/
def ER : Emb (URounds (GSem nD τ sig) Bool) 𝕄 :=
  ((Emb.inl : Emb (URounds (GSem nD τ sig) Bool) (URounds (GSem nD τ sig) Bool × Counters)).trans (Emb.inr : Emb _ UU)).trans
    (uEmb (nD := nD) (sig := sig) (Ix := ℕ) (Val := Elt F) (Name := ℕ) (U := UU) (Lvl := ℕ)).toEmb

instance EP_landsIn : (EP : Emb (UR sig nD τ) 𝕄).LandsIn (upEmb : UEmb _ 𝕄) := by unfold EP; infer_instance
instance ER_landsIn : (ER : Emb (URounds (GSem nD τ sig) Bool) 𝕄).LandsIn (upEmb : UEmb _ 𝕄) := by unfold ER; infer_instance

/-! ### The ring -/

set_option backward.proofsInPublic true in
/-- The device `k` places to the right. -/
def sh (k : ℕ) (c : Dev nD) : Dev nD := ⟨(c.val + k) % 4, Nat.mod_lt _ (by decide)⟩

/-- The device that direction `D` sends to: the right neighbour (`false`) or the left (`true`). -/
def nb (D : Bool) (c : Dev nD) : Dev nD := sh (bif D then 3 else 1) c

theorem nb_nb (D : Bool) (c : Dev nD) : nb D (nb (!D) c) = c := by revert D c; decide
theorem nb_nb' (D : Bool) (c : Dev nD) : nb (!D) (nb D c) = c := by revert D c; decide

/-! ### The cells -/

abbrev barS : Sem sig := (SemArray.scalar (sig.barrier 0 rfl) : Sems sig S_).sem
abbrev crS : Sem sig := cc0_scratch17.sem
abbrev sndS (D : Bool) : DmaSem sig := bif D then cc0_scratch13.sem else cc0_scratch11.sem
abbrev rcvS (D : Bool) : DmaSem sig := bif D then cc0_scratch14.sem else cc0_scratch12.sem
abbrev amSS : Fin 3 → DmaSem sig := ![s4b cc0_scratch15, s4c cc0_scratch15, s4d cc0_scratch15]
abbrev amRS : Fin 3 → DmaSem sig := ![s4b cc0_scratch16, s4c cc0_scratch16, s4d cc0_scratch16]
/-- The semaphore of the meeting `j`: the barrier first, then the credits. -/
abbrev mS : ℕ → Sem sig
  | 0 => barS
  | _ + 1 => crS

abbrev mcell (j : ℕ) (c : Dev nD) : GSem nD τ sig := ((c : Thread nD τ), .reg (mS j))
abbrev scell (D : Bool) (c : Dev nD) : GSem nD τ sig := ((c : Thread nD τ), .dma (sndS D))
abbrev rcell (D : Bool) (c : Dev nD) : GSem nD τ sig := ((c : Thread nD τ), .dma (rcvS D))
abbrev ascell (k : Fin 3) (c : Dev nD) : GSem nD τ sig := ((c : Thread nD τ), .dma (amSS k))
abbrev arcell (k : Fin 3) (c : Dev nD) : GSem nD τ sig := ((c : Thread nD τ), .dma (amRS k))

/-- What a semaphore is in the protocol. -/
inductive Kind
  | bar | cr | snd (D : Bool) | rcv (D : Bool) | amS (k : Fin 3) | amR (k : Fin 3) | non

def kind : SemLoc sig → Kind
  | .reg s => if s = barS then .bar else if s = crS then .cr else .non
  | .dma s => match s.val with
    | 7 => .snd false | 8 => .rcv false | 9 => .snd true | 10 => .rcv true
    | 12 => .amS 0 | 13 => .amS 1 | 14 => .amS 2 | 16 => .amR 0 | 17 => .amR 1 | 18 => .amR 2 | _ => .non

theorem kind_bar : kind (.reg barS) = .bar := by unfold kind; exact if_pos rfl
theorem kind_cr : kind (.reg crS) = .cr := rfl
theorem kind_snd (D : Bool) : kind (.dma (sndS D)) = .snd D := by cases D <;> rfl
theorem kind_rcv (D : Bool) : kind (.dma (rcvS D)) = .rcv D := by cases D <;> rfl
theorem kind_amS (k : Fin 3) : kind (.dma (amSS k)) = .amS k := by fin_cases k <;> rfl
theorem kind_amR (k : Fin 3) : kind (.dma (amRS k)) = .amR k := by fin_cases k <;> rfl

/-! ### What is moved -/

/-- The contents the protocol hands on: the partial sums by direction, step and device, the quantised chunks by direction,
    step and device, and each device's row of the table. -/
structure World (F : FTy → Type) [FloatOps F] where
  acc : Bool → ℕ → Dev nD → Vec F S1024x4096 .bf16
  q : Bool → ℕ → Dev nD → Vec F S1024x4096 .i8
  row : Dev nD → Vec F S1x128 .f32

abbrev accV (D : Bool) : Memref sig .tc .hbm S1024x4096 .bf16 := bif D then accB else accA
abbrev rcvV (D : Bool) : Memref sig .tc .hbm S1024x4096 .bf16 := bif D then rcvB else rcvA
abbrev qV (D : Bool) : Memref sig .tc .vmem S2x1024x4096 .i8 := bif D then qbM else qaM
/-- The slot of round `n`. -/
abbrev slot (n : ℕ) (D : Bool) : Memref sig .tc .vmem S1024x4096 .i8 := if n % 2 = 0 then q0 (qV D) else q1 (qV D)

theorem row_inb (j : Dev nD) : ∀ a, (![j.val, 0] : Fin 2 → ℕ) a + S1x128.size a ≤ S4x128.size a := by revert j; decide
/-- The row of device `j`. -/
abbrev rowV (j : Dev nD) : WM .vmem S1x128 .f32 := rowW ![j.val, 0] (row_inb j)

/-- The units of a round of the ring, and of a row. -/
abbrev N1 : ℕ := rcvA.view.dmaCredit
abbrev N2 : ℕ := (q1 qaM).view.dmaCredit
abbrev N3 : ℕ := (rowV ⟨0, by decide⟩).m.view.dmaCredit
def Nr (r : ℕ) : ℕ := if r < 3 then N1 else N2

theorem N1_pos : 0 < N1 := View.dmaCredit_pos _ (by decide)
theorem N2_pos : 0 < N2 := View.dmaCredit_pos _ (by decide)
theorem N3_pos : 0 < N3 := View.dmaCredit_pos _ (by decide)
theorem Nr_pos (r : ℕ) : 0 < Nr r := by
  unfold Nr; split
  · exact N1_pos
  · exact N2_pos

/-- Where round `j` lands on device `g`. -/
def land (D : Bool) (g : Dev nD) (j : ℕ) : sProp 𝕄 := if j < 3 then any g (rcvV D).view else any g (slot j D).view

/-- The rows that change hands at the first two meetings: what the neighbour in direction `D` gives `g`. -/
def extra : Bool → Dev nD → ℕ → sProp 𝕄
  | false, g, 0 => iprop(any (sh 1 g) (rowV g).m.view ∗ any (sh 1 g) (rowV (sh 3 g)).m.view)
  | true, g, 0 => any (sh 3 g) (rowV g).m.view
  | false, g, 1 => any (sh 2 g) (rowV g).m.view
  | _, _, _ => iprop(emp)

/-- What the neighbour in direction `D` hands `g` at meeting `j`: where the round lands. -/
def meetPay (D : Bool) (g : Dev nD) (j : ℕ) : sProp 𝕄 :=
  if j < 6 then iprop(land D (nb D g) j ∗ reached ER (rcell D (nb D g)) j ∗ extra D g j) else iprop(emp)

variable (w : World F)

/-- What has arrived at `g` in round `r`. -/
def arr (D : Bool) (g : Dev nD) (r : ℕ) : sProp 𝕄 :=
  if r < 3 then own g (rcvV D).view (w.acc D r (nb (!D) g)) else own g (slot r D).view (w.q D (r - 3) (nb (!D) g))
/-- The source of round `r`, back. -/
def sendPay (D : Bool) (g : Dev nD) (r : ℕ) : sProp 𝕄 :=
  if r < 3 then own g (accV D).view (w.acc D r g) else ownS fullShare.left g (slot (r + 1) D).view (w.q D (r - 3) g)

/-- The shares of a device's own row. -/
def shr : Fin 3 → PosShare TreeShare := ![fullShare.left, fullShare.right.left, fullShare.right.right]

/-- What a round of a cell hands its owner. -/
def payOf (g : Dev nD) (r : ℕ) (d : Bool) : Kind → sProp 𝕄
  | .bar => meetPay d g 0
  | .cr => meetPay d g (r + 1)
  | .snd D => sendPay w D g r
  | .rcv D => iprop(arr w D g r ∗ reached ER (mcell 1 (nb (!D) g)) r)
  | .amS k => ownS (shr k) g (rowV g).m.view (w.row g)
  | .amR k => own g (rowV (sh (3 - k.val) g)).m.view (w.row (sh (3 - k.val) g))
  | .non => iprop(emp)

omit [FloatOps F] in
instance ownS_storable (q : PosShare TreeShare) (c : Dev nD) {sp : Space} {s : Shape} {e : EltTy} (V : View sig .tc sp s e) (v : s.Idx → Elt F e) :
    BI.Storable (upEmb : UEmb _ 𝕄) (ownS q c V v) := by unfold ownS; infer_instance
omit [FloatOps F] in
instance any_storable (c : Dev nD) {sp : Space} {s : Shape} {e : EltTy} (V : View sig .tc sp s e) :
    BI.Storable (upEmb : UEmb _ 𝕄) (any c V) := by unfold any; infer_instance
omit [FloatOps F] in
instance extra_storable (D : Bool) (g : Dev nD) (j : ℕ) : BI.Storable (upEmb : UEmb _ 𝕄) (extra (F := F) D g j) := by
  unfold extra; (repeat' split) <;> infer_instance
instance payOf_storable (g : Dev nD) (r : ℕ) (d : Bool) (k : Kind) : BI.Storable (upEmb : UEmb _ 𝕄) (payOf w g r d k) := by
  unfold payOf meetPay sendPay arr land; (repeat' split) <;> infer_instance

def dutiesOf (r : ℕ) : Kind → Finset Bool
  | .bar => if r = 0 then Finset.univ else ∅
  | .cr => if r < 6 then Finset.univ else ∅
  | .snd _ | .rcv _ => if r < 6 then {false} else ∅
  | .amS _ | .amR _ => if r = 0 then {false} else ∅
  | .non => ∅

def amountOf (r : ℕ) : Kind → ℕ
  | .snd _ | .rcv _ => Nr r
  | .amS _ | .amR _ => N3
  | _ => 1

theorem amountOf_pos (r : ℕ) (k : Kind) : 0 < amountOf r k := by
  unfold amountOf
  split
  · exact Nr_pos r
  · exact Nr_pos r
  · exact N3_pos
  · exact N3_pos
  · exact Nat.one_pos

/-- The protocol. -/
def sched : Rounds.Schedule (GSem nD τ sig) Bool 𝕄 where
  duties g r := dutiesOf r (kind g.2)
  amount g r _ := amountOf r (kind g.2)
  payload g r d := payOf w g.1.1 r d (kind g.2)
  amount_pos _ _ _ _ := amountOf_pos _ _

instance sched_storable (g : GSem nD τ sig) (r : ℕ) (d : Bool) : BI.Storable (upEmb : UEmb _ 𝕄) ((sched w).payload g r d) :=
  payOf_storable w _ _ _ _

/-! ### The cells as the launch indexes them -/

abbrev sm12 : Fin 12 → SemLoc sig :=
  ![.reg barS, .reg crS, .dma (sndS false), .dma (rcvS false), .dma (sndS true), .dma (rcvS true),
    .dma (amSS 0), .dma (amSS 1), .dma (amSS 2), .dma (amRS 0), .dma (amRS 1), .dma (amRS 2)]
abbrev kcell (ck : Dev nD × Fin 12) : GSem nD τ sig := ((ck.1 : Thread nD τ), sm12 ck.2)

/-- A cell is in the protocol. -/
def has (g : GSem nD τ sig) : sProp 𝕄 := iprop((∃ κ : ℕ, cellInv ER (sched w) κ g) ∗ reached ER g 0)
instance has_persistent (g : GSem nD τ sig) : BI.Persistent (has w g) := by unfold has; infer_instance

/-- Every cell is. -/
def Net : sProp 𝕄 := bigSep Finset.univ fun ck : Dev nD × Fin 12 => has w (kcell ck)
instance Net_persistent : BI.Persistent (Net w) := by unfold Net; infer_instance

theorem net_at (c : Dev nD) (i : Fin 12) : Net w ⊢ has w (kcell (c, i)) := by
  unfold Net; exact BI.bigSep_elim (Finset.mem_univ (c, i))
theorem net_m (j : ℕ) (c : Dev nD) : Net w ⊢ has w (mcell j c) := by
  cases j
  · exact net_at w c 0
  · exact net_at w c 1
theorem net_s (D : Bool) (c : Dev nD) : Net w ⊢ has w (scell D c) := by
  cases D
  · exact net_at w c 2
  · exact net_at w c 4
theorem net_r (D : Bool) (c : Dev nD) : Net w ⊢ has w (rcell D c) := by
  cases D
  · exact net_at w c 3
  · exact net_at w c 5
theorem net_as (k : Fin 3) (c : Dev nD) : Net w ⊢ has w (ascell k c) := by
  fin_cases k
  · exact net_at w c 6
  · exact net_at w c 7
  · exact net_at w c 8
theorem net_ar (k : Fin 3) (c : Dev nD) : Net w ⊢ has w (arcell k c) := by
  fin_cases k
  · exact net_at w c 9
  · exact net_at w c 10
  · exact net_at w c 11

/-! ### What is owed -/

/-- Units owed to a semaphore `k` places to the right, at a level. -/
structure It where
  k : ℕ
  sm : SemLoc sig
  ix : ℕ
  n : ℕ

abbrev It.cell (it : It) (c : Dev nD) : GSem nD τ sig := ((sh it.k c : Thread nD τ), it.sm)

/-- What device `c` owes by a list of items. -/
def owe (c : Dev nD) : List It → CellTallies nD τ sig ℕ
  | [] => 0
  | it :: l => owe c l + tallyAt (it.cell c) it.ix it.n

def L (g : GSem nD τ sig) : Finset ℕ := if g.1.2 = .tc then Finset.range 40 else ∅
def lv (_ : GSem nD τ sig) (u : ℕ) : ℕ := u

/-- All of the items are above a level. -/
def ab (ix : ℕ) (l : List It) : Bool := decide (ix < 40) && l.all fun it => decide (ix < it.ix) && decide (it.ix < 40)

theorem owe_pos {c : Dev nD} {l : List It} {g : GSem nD τ sig} {u : ℕ} (h : 0 < owe c l g u) : ∃ it ∈ l, g = it.cell c ∧ u = it.ix := by
  induction l with
  | nil => exact absurd h (Nat.lt_irrefl 0)
  | cons it l ih =>
    unfold owe at h
    rw [Pi.add_apply, Finsupp.add_apply, tallyAt_apply] at h
    by_cases hg : g = it.cell c ∧ u = it.ix
    · exact ⟨it, List.mem_cons_self, hg⟩
    · rw [if_neg hg] at h
      obtain ⟨it', hm, h'⟩ := ih h
      exact ⟨it', List.mem_cons_of_mem _ hm, h'⟩

omit [FloatOps F] in
theorem mayWait {c : Dev nD} {l : List It} {ix : ℕ} (sm : SemLoc sig) (h : ab ix l = true) :
    (levAts L lv : sProp 𝕄) ⊢ MayWait (c : Thread nD τ) sm ix (owe c l) := by
  unfold ab at h
  simp only [Bool.and_eq_true, decide_eq_true_eq, List.all_eq_true] at h
  refine MayOwe.of_cut (L := L) (lev := lv) ix (fun p hp => ?_) (fun g u hg => ?_) (fun p hp => ?_) (fun g u hg => ?_)
  · rw [Finset.mem_singleton.mp hp]; unfold L; rw [if_pos rfl]; exact Finset.mem_range.mpr h.1
  · obtain ⟨it, hm, rfl, rfl⟩ := owe_pos hg
    unfold L; rw [if_pos rfl]; exact Finset.mem_range.mpr (h.2 it hm).2
  · rw [Finset.mem_singleton.mp hp]; exact le_refl _
  · obtain ⟨it, hm, rfl, rfl⟩ := owe_pos hg
    exact (h.2 it hm).1

omit [FloatOps F] in
/-- The waits for its own transfers. -/
theorem mayWaits {c : Dev nD} {l : List It} (h : ab 0 l = true) : (levAts L lv : sProp 𝕄) ⊢ Transfers.MayWaits (c : Thread nD τ) 0 (owe c l) :=
  Transfers.MayWaits.intro fun sm => mayWait sm h

/-- What every device knows: the cells and their levels. -/
def Ctx : sProp 𝕄 := iprop(Net w ∗ levAts L lv)
instance Ctx_persistent : BI.Persistent (Ctx w) := by unfold Ctx; infer_instance
theorem ctx_net : Ctx w ⊢ Net w := by unfold Ctx; iintro ⟨#H, -⟩; iexact H
theorem ctx_lev : Ctx w ⊢ levAts L lv := by unfold Ctx; iintro ⟨-, #H⟩; iexact H

/-! ### The rules -/

section
variable {w} {c : Dev nD} {k : PR F α} {rest : List It}

/-- A signal. -/
theorem wp_sig {Q : α → sProp 𝕄} {n : Dev nD} {s : Sem sig} {r : ℕ} {d : Bool} {it : It} (hn : n = sh it.k c) (hs : it.sm = .reg s) (h1 : it.n = 1)
    (hd : d ∈ (sched w).duties (it.cell c) r) (ha : (sched w).amount (it.cell c) r d = 1) :
    iprop(has w (it.cell c) ∗ owing c (owe c (it :: rest)) ∗ dutyTok ER (it.cell c) r d ∗ (sched w).payload (it.cell c) r d ∗ reached ER (it.cell c) r)
      ⊢ iprop((owing c (owe c rest) -∗ wpc c k Q) -∗ wpc c (sig' n s k) Q) := by
  obtain ⟨kk, sm, ix, m⟩ := it
  subst hn hs h1
  unfold has owing
  iintro ⟨⟨⟨%κ, #Hi⟩, -⟩, ⟨%W, HO⟩, Ht, Hp, #Hr⟩ Hk
  simp only [sig', semSignalWord, Prog.bind_op, Prog.bind_ret]
  iapply (Rounds.wp_signal Variants.none ER (sched w) (c : Thread nD τ) none (dst := (sh kk c : Thread nD τ)) (κ := κ) (r := r) (d := d) hd (ha.trans (by decide)) ix (owe c rest) rfl) $$ [HO Ht Hp]
  · isplitr; · iexact Hi
    isplitl [HO]; · iexact HO
    isplitl [Ht]; · iexact Ht
    isplitl [Hp]; · iexact Hp
    iexact Hr
  iintro HO
  iapply Hk
  iexists W
  iexact HO

/-- A wait for both neighbours. -/
theorem wp_wai {Q : α → sProp 𝕄} {s : Sem sig} {r ix : ℕ} (hl : ab ix rest = true) (hd : (sched w).duties ((c : Thread nD τ), .reg s) r = Finset.univ)
    (ha : ∀ d, (sched w).amount ((c : Thread nD τ), .reg s) r d = 1) :
    iprop(Ctx w ∗ has w ((c : Thread nD τ), .reg s) ∗ cred (tallyAt ((c : Thread nD τ), .reg s) ix 2) ∗ owing c (owe c rest) ∗ atPos ER ((c : Thread nD τ), .reg s) r ∅ 0)
      ⊢ iprop((iprop(owing c (owe c rest) ∗ atPos ER ((c : Thread nD τ), .reg s) (r + 1) ∅ 0 ∗ reached ER ((c : Thread nD τ), .reg s) (r + 1)
            ∗ (sched w).payload ((c : Thread nD τ), .reg s) r false ∗ (sched w).payload ((c : Thread nD τ), .reg s) r true) -∗ wpc c k Q)
          -∗ wpc c (wai' s k) Q) := by
  have he : (sched w).expect ((c : Thread nD τ), .reg s) r = 2 := by
    unfold Schedule.expect Schedule.amountOf
    rw [hd, Finset.sum_congr rfl (fun d _ => ha d)]; rfl
  unfold has owing
  iintro ⟨#HC, ⟨⟨%κ, #Hi⟩, -⟩, Hc, ⟨%W, HO⟩, Hat⟩ Hk
  simp only [wai', semWaitWord, Prog.bind_op, Prog.bind_ret]
  iapply (Rounds.wp_wait_rest_token Variants.none ER (sched w) (c : Thread nD τ) none (κ := κ)
      (wpE_semWait_eq Variants.none (c : Thread nD τ) none Set.univ) (Set.mem_univ _) ix (O := owe c rest) (W := W) (R := r) (m := 0) (T := ∅)
      (by rw [he]; decide)) $$ [Hc HO Hat]
  · isplitr; · iexact Hi
    isplitl [Hc]; · iexact Hc
    isplitl [HO]; · iexact HO
    isplitr
    · iapply (mayWait _ hl)
      iapply (ctx_lev w) $$ HC
    iexact Hat
  iintro ⟨HO, Hat, Hr, Hp⟩
  iapply Hk
  isplitl [HO]; · (iexists _; iexact HO)
  isplitl [Hat]; · iexact Hat
  isplitl [Hr]; · iexact Hr
  ihave Hp := (Entails.of_eq (by rw [Finset.sdiff_empty, hd, show (Finset.univ : Finset Bool) = insert false {true} from by decide, bigSep_insert (by decide), bigSep_singleton])) $$ Hp
  iexact Hp

/-- A copy to another device. -/
theorem wp_put {Q : α → sProp 𝕄} {sp sp' : Space} {s : Shape} {e : EltTy} {src : WM sp s e} {dst : WM sp' s e} {sS sR : DmaSem sig} {n : Dev nD} {hsc ht}
    {r N : ℕ} {it : It} {q : PosShare TreeShare} {v : s.Idx → Elt F e} {P : sProp 𝕄}
    (hn : n = sh it.k c) (hs : it.sm = .dma sR) (h1 : it.n = N) (hN : dst.m.view.amount (.dma sR) = N)
    (hd₁ : false ∈ (sched w).duties ((c : Thread nD τ), .dma sS) r) (hd₂ : false ∈ (sched w).duties (it.cell c) r)
    (ha₁ : (sched w).amount ((c : Thread nD τ), .dma sS) r false = N) (ha₂ : (sched w).amount (it.cell c) r false = N)
    (hp₁ : ownS q c src.m.view v ⊢ (sched w).payload ((c : Thread nD τ), .dma sS) r false)
    (hp₂ : iprop(own (sh it.k c) dst.m.view v ∗ P) ⊢ (sched w).payload (it.cell c) r false) :
    iprop(has w ((c : Thread nD τ), .dma sS) ∗ has w (it.cell c) ∗ ownS q c src.m.view v ∗ any (sh it.k c) dst.m.view ∗ P
        ∗ owing c (owe c (it :: rest)) ∗ dutyTok ER ((c : Thread nD τ), .dma sS) r false ∗ reached ER ((c : Thread nD τ), .dma sS) r
        ∗ dutyTok ER (it.cell c) r false ∗ reached ER (it.cell c) r)
      ⊢ iprop((iprop(cred (tallyAt ((c : Thread nD τ), .dma sS) 0 N) ∗ owing c (owe c rest)) -∗ wpc c k Q)
          -∗ wpc c (rcp src n dst sS sR k hsc ht) Q) := by
  have hq₁ : ∀ f : Buf (Elt F) (src.m.view.loc (c : Thread nD τ)), src.m.view.read (Elt F) f = v →
      ((src.m.view.loc (c : Thread nD τ) ↦[src.m.view.set]{q} f) ⊢ (sched w).payload ((c : Thread nD τ), .dma sS) r false) := fun f hf => by
    refine BIBase.Entails.trans ?_ hp₁
    unfold ownS
    iintro H
    iexists f
    isplitr; · (ipureintro; exact hf)
    iexact H
  have hq₂ : ∀ (f : Buf (Elt F) (src.m.view.loc (c : Thread nD τ))) (f' : Buf (Elt F) (dst.m.view.loc (sh it.k c : Thread nD τ))), src.m.view.read (Elt F) f = v →
      (iprop((dst.m.view.loc (sh it.k c : Thread nD τ) ↦[dst.m.view.set]{fullShare} dst.m.view.write (Elt F) f' (src.m.view.read (Elt F) f) Finset.univ) ∗ P)
        ⊢ (sched w).payload (it.cell c) r false) := fun f f' hf => by
    refine BIBase.Entails.trans ?_ hp₂
    unfold own ownS
    iintro ⟨H, HP⟩
    isplitl [H]
    · iexists _
      isplitr
      swap
      · iexact H
      · ipureintro
        rw [View.read_write_univ]; exact hf
    · iexact HP
  obtain ⟨kk, sm, ix, m⟩ := it
  subst hn hs h1
  unfold has owing any own ownS
  iintro ⟨⟨⟨%κ, #Hi⟩, -⟩, ⟨⟨%κ', #Hi'⟩, -⟩, ⟨%f, %hf, Hs⟩, ⟨%v', %f', -, Hd⟩, HP, ⟨%W, HO⟩, Ht, #Hr, Ht', #Hr'⟩ Hk
  iapply (Rounds.wp_send_pointsTo_with Variants.none ER (sched w) (c : Thread nD τ) none (κ₁ := κ) (κ₂ := κ') (r₁ := r) (r₂ := r) (d₁ := false) (d₂ := false)
      (q := q) (fs := f) (fd := f') (F := P) hd₁ hd₂ ix 0 _ hN ha₁ ha₂ (owe c rest) rfl (W := W) (hq₁ f hf) (hq₂ f f' hf)) $$ [Hs Hd HP HO Ht Ht']
  · isplitr; · iexact Hi
    isplitr; · iexact Hi'
    isplitl [Hs]; · iexact Hs
    isplitl [Hd HP]
    · isplitl [Hd]; · iexact Hd
      iexact HP
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W
  iexact HO

/-- The wait for one. -/
theorem wp_get {Q : α → sProp 𝕄} {sp sp' : Space} {s s' : Shape} {e e' : EltTy} {src : WM sp s e} {dst : WM sp' s' e'} {sm : DmaSem sig} {r ix N : ℕ}
    (hN : dst.m.view.dmaCredit = N) (hl : ab ix rest = true) (hd : (sched w).duties ((c : Thread nD τ), .dma sm) r = {false})
    (ha : (sched w).amount ((c : Thread nD τ), .dma sm) r false = N) :
    iprop(Ctx w ∗ has w ((c : Thread nD τ), .dma sm) ∗ cred (tallyAt ((c : Thread nD τ), .dma sm) ix N) ∗ owing c (owe c rest) ∗ atPos ER ((c : Thread nD τ), .dma sm) r ∅ 0)
      ⊢ iprop((iprop(owing c (owe c rest) ∗ atPos ER ((c : Thread nD τ), .dma sm) (r + 1) ∅ 0 ∗ reached ER ((c : Thread nD τ), .dma sm) (r + 1)
            ∗ (sched w).payload ((c : Thread nD τ), .dma sm) r false) -∗ wpc c k Q)
          -∗ wpc c (cw src dst sm k) Q) := by
  subst hN
  have he : (sched w).expect ((c : Thread nD τ), .dma sm) r = dst.m.view.dmaCredit := by
    unfold Schedule.expect Schedule.amountOf
    rw [hd, Finset.sum_singleton, ha]
  unfold has owing
  iintro ⟨#HC, ⟨⟨%κ, #Hi⟩, -⟩, Hc, ⟨%W, HO⟩, Hat⟩ Hk
  iapply (Rounds.wp_wait_rest_token Variants.none ER (sched w) (c : Thread nD τ) none (κ := κ)
      (wpE_waitDma2_eq Variants.none (c : Thread nD τ) none Set.univ) (Set.mem_univ _) ix (O := owe c rest) (W := W) (R := r) (m := 0) (T := ∅)
      (by rw [he, Nat.zero_add])) $$ [Hc HO Hat]
  · isplitr; · iexact Hi
    isplitl [Hc]; · iexact Hc
    isplitl [HO]; · iexact HO
    isplitr
    · iapply (mayWait _ hl)
      iapply (ctx_lev w) $$ HC
    iexact Hat
  iintro ⟨HO, Hat, Hr, Hp⟩
  iapply Hk
  isplitl [HO]; · (iexists _; iexact HO)
  isplitl [Hat]; · iexact Hat
  isplitl [Hr]; · iexact Hr
  ihave Hp := (Entails.of_eq (by rw [Finset.sdiff_empty, hd, bigSep_singleton])) $$ Hp
  iexact Hp

end

end Cert.KProof
-- ==== Proof.Ring.lean ====
module

public import proofs.«01_k».proof.Proof.Protocol

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-! ### The order of what is owed -/

/-- The level of meeting `j` and of round `r`. -/
def mix (j : ℕ) : ℕ := if j ≤ 3 then 2 * j + 1 else 2 * j + 2
def rix (r : ℕ) : ℕ := if r < 3 then 2 * r + 2 else 2 * r + 3

/-- The signal of meeting `j`, the copy of round `r`, the copy of the row. -/
abbrev mI (k j : ℕ) : It := ⟨k, .reg (mS j), mix j, 1⟩
abbrev rI (D : Bool) (r : ℕ) : It := ⟨bif D then 3 else 1, .dma (rcvS D), rix r, Nr r⟩
abbrev aI (k : Fin 3) : It := ⟨k.val + 1, .dma (amRS k), 8, N3⟩

/-- What is owed from round `r` on to the end of the meeting after it, and after that. -/
abbrev roundI (r : ℕ) (l : List It) : List It := rI false r :: rI true r :: mI 3 (r + 1) :: mI 1 (r + 1) :: l

/-- What is owed with `n` rounds of the reduction to go; -/
def todo : ℕ → List It
  | 0 => aI 0 :: aI 1 :: aI 2 :: roundI 3 (roundI 4 (roundI 5 []))
  | n + 1 => roundI (2 - n) (todo n)

/-- and at the start. -/
def todo0 : List It := mI 3 0 :: mI 1 0 :: todo 3

/-! ### What the cells take and hand over -/

section
variable (w : World F) (c : Dev nD)

theorem duties_m {j : ℕ} (hj : j ≤ 6) : (sched w).duties (mcell j c) (j - 1) = Finset.univ := by
  cases j with
  | zero => show dutiesOf 0 (kind (.reg barS)) = _; rw [kind_bar]; rfl
  | succ j => show dutiesOf j (kind (.reg crS)) = _; rw [kind_cr]; exact if_pos (by omega)
theorem amount_m (j r : ℕ) (d : Bool) : (sched w).amount (mcell j c) r d = 1 := by
  cases j with
  | zero => show amountOf r (kind (.reg barS)) = _; rw [kind_bar]; rfl
  | succ j => show amountOf r (kind (.reg crS)) = _; rw [kind_cr]; rfl
theorem payload_m (j : ℕ) (d : Bool) : (sched w).payload (mcell j c) (j - 1) d = meetPay d c j := by
  cases j with
  | zero => show payOf w c 0 d (kind (.reg barS)) = _; rw [kind_bar]; rfl
  | succ j => show payOf w c j d (kind (.reg crS)) = _; rw [kind_cr]; rfl

theorem duties_s (D : Bool) {r : ℕ} (hr : r < 6) : (sched w).duties (scell D c) r = {false} := by
  show dutiesOf r (kind (.dma (sndS D))) = _; rw [kind_snd]; exact if_pos hr
theorem amount_s (D : Bool) (r : ℕ) (d : Bool) : (sched w).amount (scell D c) r d = Nr r := by
  show amountOf r (kind (.dma (sndS D))) = _; rw [kind_snd]; rfl
theorem payload_s (D : Bool) (r : ℕ) (d : Bool) : (sched w).payload (scell D c) r d = sendPay w D c r := by
  show payOf w c r d (kind (.dma (sndS D))) = _; rw [kind_snd]; rfl
theorem duties_r (D : Bool) {r : ℕ} (hr : r < 6) : (sched w).duties (rcell D c) r = {false} := by
  show dutiesOf r (kind (.dma (rcvS D))) = _; rw [kind_rcv]; exact if_pos hr
theorem amount_r (D : Bool) (r : ℕ) (d : Bool) : (sched w).amount (rcell D c) r d = Nr r := by
  show amountOf r (kind (.dma (rcvS D))) = _; rw [kind_rcv]; rfl
theorem payload_r (D : Bool) (r : ℕ) (d : Bool) :
    (sched w).payload (rcell D c) r d = iprop(arr w D c r ∗ reached ER (mcell 1 (nb (!D) c)) r) := by
  show payOf w c r d (kind (.dma (rcvS D))) = _; rw [kind_rcv]; rfl
theorem duties_as (k : Fin 3) : (sched w).duties (ascell k c) 0 = {false} := by
  show dutiesOf _ (kind (.dma (amSS k))) = _; rw [kind_amS]; rfl
theorem amount_as (k : Fin 3) (r : ℕ) (d : Bool) : (sched w).amount (ascell k c) r d = N3 := by
  show amountOf r (kind (.dma (amSS k))) = _; rw [kind_amS]; rfl
theorem payload_as (k : Fin 3) (r : ℕ) (d : Bool) : (sched w).payload (ascell k c) r d = ownS (shr k) c (rowV c).m.view (w.row c) := by
  show payOf w c r d (kind (.dma (amSS k))) = _; rw [kind_amS]; rfl
theorem duties_ar (k : Fin 3) : (sched w).duties (arcell k c) 0 = {false} := by
  show dutiesOf _ (kind (.dma (amRS k))) = _; rw [kind_amR]; rfl
theorem amount_ar (k : Fin 3) (r : ℕ) (d : Bool) : (sched w).amount (arcell k c) r d = N3 := by
  show amountOf r (kind (.dma (amRS k))) = _; rw [kind_amR]; rfl
theorem payload_ar (k : Fin 3) (r : ℕ) (d : Bool) :
    (sched w).payload (arcell k c) r d = own c (rowV (sh (3 - k.val) c)).m.view (w.row (sh (3 - k.val) c)) := by
  show payOf w c r d (kind (.dma (amRS k))) = _; rw [kind_amR]; rfl

end

/-! ### A device's part in the protocol -/

section
variable (c : Dev nD)

/-- The tokens of direction `D` in round `r`; -/
def dtok (D : Bool) (r : ℕ) : sProp 𝕄 :=
  iprop(dutyTok ER (scell D c) r false ∗ dutyTok ER (rcell D (nb D c)) r false ∗ cred (tallyAt (rcell D c) (rix r) (Nr r)))
/-- of meeting `j`; -/
def mtok (j : ℕ) : sProp 𝕄 :=
  iprop(dutyTok ER (mcell j (sh 3 c)) (j - 1) false ∗ dutyTok ER (mcell j (sh 1 c)) (j - 1) true ∗ cred (tallyAt (mcell j c) (mix j) 2))
/-- of a round and the meeting after it; -/
def tok (r : ℕ) : sProp 𝕄 := iprop(dtok c false r ∗ dtok c true r ∗ mtok c (r + 1))
/-- of all the rounds to come. -/
def fut (r : ℕ) : sProp 𝕄 := bigSep (Finset.Ico r 6) (tok c)

omit [FloatOps F] in
theorem fut_next {r : ℕ} (hr : r < 6) : (fut c r : sProp 𝕄) ⊢ iprop(tok c r ∗ fut c (r + 1)) := by
  unfold fut
  rw [show Finset.Ico r 6 = insert r (Finset.Ico (r + 1) 6) from by ext x; simp only [Finset.mem_Ico, Finset.mem_insert]; omega,
    bigSep_insert (by simp)]
  exact BIBase.Entails.rfl

/-- Where direction `D` stands before round `r`, -/
def dst (D : Bool) (r : ℕ) : sProp 𝕄 :=
  iprop(atPos ER (scell D c) r ∅ 0 ∗ reached ER (scell D c) r ∗ atPos ER (rcell D c) r ∅ 0 ∗ reached ER (rcell D (nb D c)) r ∗ land D (nb D c) r)
/-- within it, -/
def dmid (D : Bool) (r : ℕ) : sProp 𝕄 :=
  iprop(atPos ER (scell D c) r ∅ 0 ∗ cred (tallyAt (scell D c) 0 (Nr r)) ∗ atPos ER (rcell D c) r ∅ 0 ∗ cred (tallyAt (rcell D c) (rix r) (Nr r)))
/-- and once its copies are done. -/
def dend (w : World F) (D : Bool) (r : ℕ) : sProp 𝕄 :=
  iprop(atPos ER (scell D c) (r + 1) ∅ 0 ∗ reached ER (scell D c) (r + 1) ∗ atPos ER (rcell D c) (r + 1) ∅ 0 ∗ reached ER (rcell D c) (r + 1)
    ∗ reached ER (mcell 1 (nb (!D) c)) r ∗ sendPay w D c r ∗ arr w D c r)
/-- The same without what was moved. -/
def dpos (D : Bool) (r : ℕ) : sProp 𝕄 :=
  iprop(atPos ER (scell D c) r ∅ 0 ∗ reached ER (scell D c) r ∗ atPos ER (rcell D c) r ∅ 0)

/-- Where the device stands before round `r`. -/
def RS (r : ℕ) : sProp 𝕄 := iprop(dst c false r ∗ dst c true r ∗ atPos ER (mcell 1 c) r ∅ 0 ∗ reached ER (mcell 1 c) r ∗ fut c r)

end

section
variable {w : World F} {c : Dev nD} {k : PR F α} {rest : List It}

/-- A meeting of the neighbours. -/
theorem wp_meet {Q : α → sProp 𝕄} {j : ℕ} (hj : j ≤ 6) {dl dr : Dev nD} {s : Sem sig} (hl : dl = sh 3 c) (hr : dr = sh 1 c) (hs : s = mS j) (ha : ab (mix j) rest = true) :
    iprop(Ctx w ∗ mtok c j ∗ reached ER (mcell j (sh 3 c)) (j - 1) ∗ reached ER (mcell j (sh 1 c)) (j - 1) ∗ atPos ER (mcell j c) (j - 1) ∅ 0
        ∗ meetPay false (nb true c) j ∗ meetPay true (nb false c) j ∗ owing c (owe c (mI 3 j :: mI 1 j :: rest)))
      ⊢ iprop((iprop(owing c (owe c rest) ∗ atPos ER (mcell j c) (j - 1 + 1) ∅ 0 ∗ reached ER (mcell j c) (j - 1 + 1) ∗ meetPay false c j ∗ meetPay true c j)
            -∗ wpc c k Q) -∗ wpc c (meet dl dr s k) Q) := by
  subst hs
  unfold mtok
  iintro ⟨#HC, ⟨T1, T2, Hc⟩, #R1, #R2, Hat, G1, G2, HO⟩ Hk
  iapply (wp_sig (w := w) (it := mI 3 j) (r := j - 1) (d := false) hl rfl rfl (by rw [duties_m w _ hj]; decide) (amount_m w _ j _ _)) $$ [T1 G1 HO]
  · isplitr; · (iapply (net_m w j (sh 3 c)); iapply (ctx_net w) $$ HC)
    isplitl [HO]; · iexact HO
    isplitl [T1]; · iexact T1
    isplitl [G1]
    · iapply (Entails.of_eq (show meetPay false (nb true c) j = (sched w).payload ((mI 3 j).cell c) (j - 1) false from (payload_m w (nb true c) j false).symm)) $$ G1
    iexact R1
  iintro HO
  iapply (wp_sig (w := w) (it := mI 1 j) (r := j - 1) (d := true) hr rfl rfl (by rw [duties_m w _ hj]; decide) (amount_m w _ j _ _)) $$ [T2 G2 HO]
  · isplitr; · (iapply (net_m w j (sh 1 c)); iapply (ctx_net w) $$ HC)
    isplitl [HO]; · iexact HO
    isplitl [T2]; · iexact T2
    isplitl [G2]
    · iapply (Entails.of_eq (show meetPay true (nb false c) j = (sched w).payload ((mI 1 j).cell c) (j - 1) true from (payload_m w (nb false c) j true).symm)) $$ G2
    iexact R2
  iintro HO
  iapply (wp_wai (w := w) (r := j - 1) (ix := mix j) ha (duties_m w c hj) (fun d => amount_m w c j _ d)) $$ [Hc HO Hat]
  · isplitr; · iexact HC
    isplitr; · (iapply (net_m w j c); iapply (ctx_net w) $$ HC)
    isplitl [Hc]; · iexact Hc
    isplitl [HO]; · iexact HO
    iexact Hat
  iintro ⟨HO, Hat, Hr, P1, P2⟩
  iapply Hk
  isplitl [HO]; · iexact HO
  isplitl [Hat]; · iexact Hat
  isplitl [Hr]; · iexact Hr
  isplitl [P1]
  · iapply (Entails.of_eq (payload_m w c j false)) $$ P1
  iapply (Entails.of_eq (payload_m w c j true)) $$ P2

/-- The copy of round `r` in direction `D`. -/
theorem wp_ship {Q : α → sProp 𝕄} {sp sp' : Space} {s : Shape} {e : EltTy} {src : WM sp s e} {dst' : WM sp' s e} {sS sR : DmaSem sig} {n : Dev nD} {hsc ht}
    {r : ℕ} (D : Bool) {q : PosShare TreeShare} {v : s.Idx → Elt F e} (hr : r < 6)
    (hn : n = nb D c) (hS : sS = sndS D) (hR : sR = rcvS D) (hN : dst'.m.view.amount (.dma sR) = Nr r)
    (h1 : sendPay w D c r = ownS q c src.m.view v) (h2 : land D (nb D c) r = any (F := F) (nb D c) dst'.m.view)
    (h3 : arr w D (nb D c) r = own (nb D c) dst'.m.view v) :
    iprop(Ctx w ∗ dst c D r ∗ reached ER (mcell 1 c) r ∗ dtok c D r ∗ sendPay w D c r ∗ owing c (owe c (rI D r :: rest)))
      ⊢ iprop((iprop(dmid c D r ∗ owing c (owe c rest)) -∗ wpc c k Q) -∗ wpc c (rcp src n dst' sS sR k hsc ht) Q) := by
  subst hS hR
  unfold dst dtok dmid
  rw [h1, h2]
  iintro ⟨#HC, ⟨A1, #R1, A2, #R2, Hl⟩, #R3, ⟨T1, T2, C2⟩, HS, HO⟩ Hk
  iapply (wp_put (w := w) (it := rI D r) (r := r) (N := Nr r) (q := q) (v := v) (P := reached ER (mcell 1 c) r) hn rfl rfl hN
      (by rw [duties_s w c D hr]; decide) (show false ∈ (sched w).duties (rcell D (nb D c)) r by rw [duties_r w (nb D c) D hr]; decide) (amount_s w c D r _) (amount_r w (nb D c) D r _)
      (by rw [payload_s, h1]) (show iprop(own (nb D c) dst'.m.view v ∗ reached ER (mcell 1 c) r) ⊢ (sched w).payload (rcell D (nb D c)) r false by rw [payload_r w (nb D c) D r, h3, nb_nb'])) $$ [HS Hl HO T1 T2]
  · isplitr; · (iapply (net_s w D c); iapply (ctx_net w) $$ HC)
    isplitr; · (iapply (net_r w D (nb D c)); iapply (ctx_net w) $$ HC)
    isplitl [HS]; · iexact HS
    isplitl [Hl]; · iexact Hl
    isplitr; · iexact R3
    isplitl [HO]; · iexact HO
    isplitl [T1]; · iexact T1
    isplitr; · iexact R1
    isplitl [T2]; · iexact T2
    iexact R2
  iintro ⟨C1, HO⟩
  iapply Hk
  isplitr [HO]
  · isplitl [A1]; · iexact A1
    isplitl [C1]; · iexact C1
    isplitl [A2]; · iexact A2
    iexact C2
  iexact HO

/-- The waits for it. -/
theorem wp_done {Q : α → sProp 𝕄} {sp sp' sp₂ sp₂' : Space} {s s' s₂ s₂' : Shape} {e e' e₂ e₂' : EltTy} {src : WM sp s e} {dst' : WM sp' s' e'} {src₂ : WM sp₂ s₂ e₂} {dst₂ : WM sp₂' s₂' e₂'}
    {sS sR : DmaSem sig} {r : ℕ} (D : Bool) (hr : r < 6) (hS : sS = sndS D) (hR : sR = rcvS D) (hN : dst'.m.view.dmaCredit = Nr r) (hN₂ : dst₂.m.view.dmaCredit = Nr r)
    (ha : ab 0 rest = true) (ha' : ab (rix r) rest = true) :
    iprop(Ctx w ∗ dmid c D r ∗ owing c (owe c rest))
      ⊢ iprop((iprop(dend c w D r ∗ owing c (owe c rest)) -∗ wpc c k Q) -∗ wpc c (cw src dst' sS (cw src₂ dst₂ sR k)) Q) := by
  subst hS hR
  unfold dmid dend
  iintro ⟨#HC, ⟨A1, C1, A2, C2⟩, HO⟩ Hk
  iapply (wp_get (w := w) (r := r) (ix := 0) (N := Nr r) hN ha (duties_s w c D hr) (amount_s w c D r _)) $$ [A1 C1 HO]
  · isplitr; · iexact HC
    isplitr; · (iapply (net_s w D c); iapply (ctx_net w) $$ HC)
    isplitl [C1]; · iexact C1
    isplitl [HO]; · iexact HO
    iexact A1
  iintro ⟨HO, A1, R1, P1⟩
  iapply (wp_get (w := w) (r := r) (ix := rix r) (N := Nr r) hN₂ ha' (duties_r w c D hr) (amount_r w c D r _)) $$ [A2 C2 HO]
  · isplitr; · iexact HC
    isplitr; · (iapply (net_r w D c); iapply (ctx_net w) $$ HC)
    isplitl [C2]; · iexact C2
    isplitl [HO]; · iexact HO
    iexact A2
  iintro ⟨HO, A2, R2, P2⟩
  ihave P1 := (Entails.of_eq (payload_s w c D r false)) $$ P1
  ihave P2 := (Entails.of_eq (payload_r w c D r false)) $$ P2
  icases P2 with ⟨P2, R3⟩
  iapply Hk
  isplitr [HO]
  · isplitl [A1]; · iexact A1
    isplitl [R1]; · iexact R1
    isplitl [A2]; · iexact A2
    isplitl [R2]; · iexact R2
    isplitl [R3]; · iexact R3
    isplitl [P1]; · iexact P1
    iexact P2
  iexact HO

omit [FloatOps F] in
/-- What a device gives at a meeting. -/
theorem give (D : Bool) {j : ℕ} (hj : j < 6) :
    (iprop(land D c j ∗ reached ER (rcell D c) j ∗ extra D (nb (!D) c) j) : sProp 𝕄) ⊢ meetPay D (nb (!D) c) j := by
  unfold meetPay
  rw [if_pos hj, nb_nb]

omit [FloatOps F] in
theorem gain (D : Bool) {j : ℕ} (hj : j < 6) :
    (meetPay D c j : sProp 𝕄) ⊢ iprop(land D (nb D c) j ∗ reached ER (rcell D (nb D c)) j ∗ extra D c j) := by
  unfold meetPay
  rw [if_pos hj]

/-- Round `r` over, the neighbours meet for the next. -/
theorem wp_turn {Q : α → sProp 𝕄} {r : ℕ} (hr : r + 1 < 6) {dl dr : Dev nD} {s : Sem sig} (hl : dl = sh 3 c) (hr' : dr = sh 1 c) (hs : s = crS) (ha : ab (mix (r + 1)) rest = true) :
    iprop(Ctx w ∗ mtok c (r + 1) ∗ fut c (r + 1) ∗ atPos ER (mcell 1 c) r ∅ 0
        ∗ (dpos c false (r + 1) ∗ reached ER (rcell false c) (r + 1) ∗ reached ER (mcell 1 (nb true c)) r ∗ land false c (r + 1) ∗ extra false (nb true c) (r + 1))
        ∗ (dpos c true (r + 1) ∗ reached ER (rcell true c) (r + 1) ∗ reached ER (mcell 1 (nb false c)) r ∗ land true c (r + 1) ∗ extra true (nb false c) (r + 1))
        ∗ owing c (owe c (mI 3 (r + 1) :: mI 1 (r + 1) :: rest)))
      ⊢ iprop((iprop(RS c (r + 1) ∗ extra false c (r + 1) ∗ extra true c (r + 1) ∗ owing c (owe c rest)) -∗ wpc c k Q) -∗ wpc c (meet dl dr s k) Q) := by
  iintro ⟨#HC, Hm, Hf, Hat, ⟨D1, #R1, #M1, L1, E1⟩, ⟨D2, #R2, #M2, L2, E2⟩, HO⟩ Hk
  iapply (wp_meet (w := w) (j := r + 1) (by omega) hl hr' hs ha) $$ [Hm Hat L1 E1 L2 E2 HO]
  · isplitr; · iexact HC
    isplitl [Hm]; · iexact Hm
    isplitr; · iexact M1
    isplitr; · iexact M2
    isplitl [Hat]; · iexact Hat
    isplitl [L1 E1]
    · iapply (give (c := c) false hr)
      isplitl [L1]; · iexact L1
      isplitr; · iexact R1
      iexact E1
    isplitl [L2 E2]
    · iapply (give (c := c) true hr)
      isplitl [L2]; · iexact L2
      isplitr; · iexact R2
      iexact E2
    iexact HO
  iintro ⟨HO, Hat, HR, P1, P2⟩
  ihave P1 := (gain false hr) $$ P1
  ihave P2 := (gain true hr) $$ P2
  icases P1 with ⟨L1, Q1, E1⟩
  icases P2 with ⟨L2, Q2, E2⟩
  iapply Hk
  isplitr [E1 E2 HO]
  · unfold RS dst dpos
    icases D1 with ⟨A1, B1, C1⟩
    icases D2 with ⟨A2, B2, C2⟩
    isplitl [A1 B1 C1 L1 Q1]
    · isplitl [A1]; · iexact A1
      isplitl [B1]; · iexact B1
      isplitl [C1]; · iexact C1
      isplitl [Q1]; · iexact Q1
      iexact L1
    isplitl [A2 B2 C2 L2 Q2]
    · isplitl [A2]; · iexact A2
      isplitl [B2]; · iexact B2
      isplitl [C2]; · iexact C2
      isplitl [Q2]; · iexact Q2
      iexact L2
    isplitl [Hat]; · iexact Hat
    isplitl [HR]; · iexact HR
    iexact Hf
  isplitl [E1]; · iexact E1
  isplitl [E2]; · iexact E2
  iexact HO

end

end Cert.KProof
-- ==== Proof.Parts.lean ====
module

public import proofs.«01_k».proof.Proof.Tiles
public import proofs.«01_k».proof.Proof.Ring

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {α : Type}

local notation "𝕄" => MT nD τ sig ℕ (Elt F) ℕ UU ℕ

/-! ### A region in two pieces -/

section
variable {sp : Space} {s : Shape} {e : EltTy} (c : Dev nD) {q : PosShare TreeShare} (V : View sig .tc sp s e) {R : Rect s} {t : Fin 2 → Rect s} (T : Tiling R t)

/-- Two pieces put together. -/
def Tiling.glue2 {s : Shape} {R : Rect s} {t : Fin 2 → Rect s} (T : Tiling R t) {β : Type} (a : (t 0).shape.Idx → β) (b : (t 1).shape.Idx → β) : R.shape.Idx → β :=
  T.glue (Fin.cons a (Fin.cons b finZeroElim))

omit [FloatOps F] in
theorem own_split2 (a : (t 0).shape.Idx → Elt F e) (b : (t 1).shape.Idx → Elt F e) :
    (ownS q c (V.slice R) (T.glue2 a b) : sProp 𝕄) ⊢ iprop(ownS q c (V.slice (t 0)) a ∗ ownS q c (V.slice (t 1)) b) := by
  refine (own_split c V T _).trans ?_
  rw [BI.bigSep_fin_two]
  have h0 : (fun x => T.glue2 a b (T.e 0 x)) = a := funext fun x => T.glue_at _ 0 x
  have h1 : (fun x => T.glue2 a b (T.e 1 x)) = b := funext fun x => T.glue_at _ 1 x
  rw [h0, h1]
  exact BIBase.Entails.rfl

theorem own_join2 (a : (t 0).shape.Idx → Elt F e) (b : (t 1).shape.Idx → Elt F e) :
    (iprop(ownS q c (V.slice (t 0)) a ∗ ownS q c (V.slice (t 1)) b) : sProp 𝕄) ⊢ ownS q c (V.slice R) (T.glue2 a b) := by
  refine BIBase.Entails.trans ?_ (own_join c V T 0 _)
  rw [BI.bigSep_fin_two]
  exact BIBase.Entails.rfl

include T in
omit [FloatOps F] in
theorem any_split2 : (any c (V.slice R) : sProp 𝕄) ⊢ iprop(any c (V.slice (t 0)) ∗ any c (V.slice (t 1))) := by
  refine (any_split c V T).trans ?_
  rw [BI.bigSep_fin_two]
  exact BIBase.Entails.rfl

include T in
theorem any_join2 : (iprop(any c (V.slice (t 0)) ∗ any c (V.slice (t 1))) : sProp 𝕄) ⊢ any c (V.slice R) := by
  refine BIBase.Entails.trans ?_ (any_join c V T 0)
  rw [BI.bigSep_fin_two]
  exact BIBase.Entails.rfl

omit [FloatOps F] in
theorem any_full {off : Fin s.rank → ℕ} {h : ∀ a, off a + s.size a ≤ s.size a} : (any c V : sProp 𝕄) ⊢ any c (V.slice (Rect.unit (s := s) off s.size h)) := by
  unfold any; iintro ⟨%v, H⟩; iexists v; iapply (own_full c v) $$ H

omit [FloatOps F] in
theorem any_unfull {off : Fin s.rank → ℕ} {h : ∀ a, off a + s.size a ≤ s.size a} : (any c (V.slice (Rect.unit (s := s) off s.size h)) : sProp 𝕄) ⊢ any c V := by
  unfold any; iintro ⟨%v, H⟩; iexists v; iapply (own_unfull c (off := off) (h := h) v) $$ H

omit [FloatOps F] in
theorem any_reshape {s' : Shape} {h : s'.numel = s.numel} : (any c V : sProp 𝕄) ⊢ any c (V.reshape s' h) := by
  unfold any; iintro ⟨%v, H⟩; iexists _; iapply (own_reshape c v) $$ H

omit [FloatOps F] in
theorem any_unreshape {s' : Shape} {h : s'.numel = s.numel} : (any c (V.reshape s' h) : sProp 𝕄) ⊢ any c V := by
  unfold any; iintro ⟨%v, H⟩; iexists _; iapply (own_unreshape c h.symm v) $$ H

end

/-! ### Halves along an axis -/

section
variable {s : Shape} {o S Tz : Fin s.rank → ℕ} {hS : ∀ a, o a + S a ≤ s.size a} {o' : Fin 2 → Fin s.rank → ℕ} {hT : ∀ i a, o' i a + Tz a ≤ s.size a}

/-- The two halves of a rectangle along the axis `ax`. -/
def halvesAt (ax : Fin s.rank) (hS2 : ∀ a, S a = Tz a + if a = ax then Tz a else 0) (ho : ∀ i a, o' i a = o a + if a = ax ∧ i = 1 then Tz a else 0) :
    Tiling (Rect.unit (s := s) o S hS) (fun i => Rect.unit (s := s) (o' i) Tz (hT i)) :=
  tilingAt (fun i a => if a = ax ∧ i = 1 then Tz a else 0) ho
    (fun i a => by
      show (if a = ax ∧ i = 1 then Tz a else 0) + Tz a ≤ S a
      rw [hS2 a]; split <;> split <;> simp_all <;> omega)
    (fun y => by
      have hy : (y ax).val < S ax := (y ax).isLt
      by_cases h : (y ax).val < Tz ax
      · refine ⟨0, fun a => ?_⟩
        have ha : (y a).val < Tz a + if a = ax then Tz a else 0 := lt_of_lt_of_eq (y a).isLt (hS2 a)
        by_cases hax : a = ax
        · subst hax; simpa using h
        · simpa [hax] using ha
      · refine ⟨1, fun a => ?_⟩
        have ha : (y a).val < Tz a + if a = ax then Tz a else 0 := lt_of_lt_of_eq (y a).isLt (hS2 a)
        by_cases hax : a = ax
        · subst hax; simp at ha ⊢; omega
        · simpa [hax] using ha)
    (fun i j hij => ⟨ax, by
      have : (i = 0 ∧ j = 1) ∨ (i = 1 ∧ j = 0) := by revert i j; decide
      rcases this with ⟨rfl, rfl⟩ | ⟨rfl, rfl⟩ <;> simp⟩)
end

/-! ### The column tiles of a half -/

theorem inb24 : ∀ a, (![0, 0] : Fin 2 → ℕ) a + S1024x4096.size a ≤ S1024x4096.size a := by decide

/-- A half in its column tiles. -/
def colT : Tiling (Rect.unit (s := S1024x4096) ![0, 0] S1024x4096.size inb24)
    (fun i : Fin 2 => Rect.unit (s := S1024x4096) ((![![0, 0], ![0, 2048]] : Fin 2 → Fin 2 → ℕ) i) S1024x2048.size (by revert i; decide)) :=
  halvesAt (s := S1024x4096) (S := S1024x4096.size) (Tz := S1024x2048.size) (1 : Fin 2) (by decide) (by decide)

/-- Two column tiles side by side. -/
def glue {e : EltTy} (a b : Vec F S1024x2048 e) : Vec F S1024x4096 e := colT.glue2 (β := Elt F e) a b

section
variable (c : Dev nD) {e : EltTy} {m : Memref sig .tc .hbm S1024x4096 e} (a b : Vec F S1024x2048 e)

omit [FloatOps F] in
theorem cols_split : (own c m.view (glue a b) : sProp 𝕄) ⊢ iprop(own c (h0 m).view a ∗ own c (h1 m).view b) :=
  (own_full c (V := m.view) (off := ![0, 0]) (h := inb24) _).trans (own_split2 c m.view colT a b)
theorem cols_join : (iprop(own c (h0 m).view a ∗ own c (h1 m).view b) : sProp 𝕄) ⊢ own c m.view (glue a b) :=
  (own_join2 c m.view colT a b).trans (own_unfull c (V := m.view) (off := ![0, 0]) (h := inb24) _)
omit [FloatOps F] in
theorem cols_any : (any c m.view : sProp 𝕄) ⊢ iprop(any c (h0 m).view ∗ any c (h1 m).view) :=
  (any_full c m.view (off := ![0, 0]) (h := inb24)).trans (any_split2 c m.view colT)
theorem cols_back : (iprop(any c (h0 m).view ∗ any c (h1 m).view) : sProp 𝕄) ⊢ any c m.view :=
  (any_join2 c m.view colT).trans (any_unfull c m.view (off := ![0, 0]) (h := inb24))
end

/-! ### The slots of a pair, and their tiles -/

theorem inbP : ∀ a, (![0, 0, 0] : Fin 3 → ℕ) a + S2x1024x2048.size a ≤ S2x1024x2048.size a := by decide
theorem inbQ : ∀ a, (![0, 0, 0] : Fin 3 → ℕ) a + S2x1024x4096.size a ≤ S2x1024x4096.size a := by decide

/-- A pair of tiles in its slots; -/
def pairT : Tiling (Rect.unit (s := S2x1024x2048) ![0, 0, 0] S2x1024x2048.size inbP)
    (fun i : Fin 2 => Rect.unit (s := S2x1024x2048) ((![![0, 0, 0], ![1, 0, 0]] : Fin 2 → Fin 3 → ℕ) i) S1x1024x2048.size (by revert i; decide)) :=
  halvesAt (s := S2x1024x2048) (S := S2x1024x2048.size) (Tz := S1x1024x2048.size) (0 : Fin 3) (by decide) (by decide)
/-- a pair of quantised halves in its slots; -/
def pairQ : Tiling (Rect.unit (s := S2x1024x4096) ![0, 0, 0] S2x1024x4096.size inbQ)
    (fun i : Fin 2 => Rect.unit (s := S2x1024x4096) ((![![0, 0, 0], ![1, 0, 0]] : Fin 2 → Fin 3 → ℕ) i) S1x1024x4096.size (by revert i; decide)) :=
  halvesAt (s := S2x1024x4096) (S := S2x1024x4096.size) (Tz := S1x1024x4096.size) (0 : Fin 3) (by decide) (by decide)
/-- a slot in its tiles. -/
def slotT0 : Tiling (Rect.unit (s := S2x1024x4096) ![0, 0, 0] S1x1024x4096.size inb_S2x1024x4096_S1x1024x4096_0_0_0)
    (fun i : Fin 2 => Rect.unit (s := S2x1024x4096) ((![![0, 0, 0], ![0, 0, 2048]] : Fin 2 → Fin 3 → ℕ) i) S1x1024x2048.size (by revert i; decide)) :=
  halvesAt (s := S2x1024x4096) (S := S1x1024x4096.size) (Tz := S1x1024x2048.size) (2 : Fin 3) (by decide) (by decide)
def slotT1 : Tiling (Rect.unit (s := S2x1024x4096) ![1, 0, 0] S1x1024x4096.size inb_S2x1024x4096_S1x1024x4096_1_0_0)
    (fun i : Fin 2 => Rect.unit (s := S2x1024x4096) ((![![1, 0, 0], ![1, 0, 2048]] : Fin 2 → Fin 3 → ℕ) i) S1x1024x2048.size (by revert i; decide)) :=
  halvesAt (s := S2x1024x4096) (S := S1x1024x4096.size) (Tz := S1x1024x2048.size) (2 : Fin 3) (by decide) (by decide)

section
variable (c : Dev nD)

section
variable {e : EltTy} {m : Memref sig .tc .vmem S2x1024x2048 e}
omit [FloatOps F] in
theorem pair_any : (any c m.view : sProp 𝕄) ⊢ iprop(any c (sl0 m).view ∗ any c (sl1 m).view) := by
  refine (any_full c m.view (off := ![0, 0, 0]) (h := inbP)).trans ((any_split2 c m.view pairT).trans ?_)
  exact BIClass.sep_mono (any_reshape c _) (any_reshape c _)
theorem pair_back : (iprop(any c (sl0 m).view ∗ any c (sl1 m).view) : sProp 𝕄) ⊢ any c m.view := by
  refine BIBase.Entails.trans ?_ ((any_join2 c m.view pairT).trans (any_unfull c m.view (off := ![0, 0, 0]) (h := inbP)))
  exact BIClass.sep_mono (any_unreshape c _) (any_unreshape c _)
end

variable {m : Memref sig .tc .vmem S2x1024x4096 .i8}
omit [FloatOps F] in
theorem slots_any : (any c m.view : sProp 𝕄) ⊢ iprop(any c (q0 m).view ∗ any c (q1 m).view) := by
  refine (any_full c m.view (off := ![0, 0, 0]) (h := inbQ)).trans ((any_split2 c m.view pairQ).trans ?_)
  exact BIClass.sep_mono (any_reshape c _) (any_reshape c _)
theorem slots_back : (iprop(any c (q0 m).view ∗ any c (q1 m).view) : sProp 𝕄) ⊢ any c m.view := by
  refine BIBase.Entails.trans ?_ ((any_join2 c m.view pairQ).trans (any_unfull c m.view (off := ![0, 0, 0]) (h := inbQ)))
  exact BIClass.sep_mono (any_unreshape c _) (any_unreshape c _)

/-- Two quantised tiles side by side. -/
def qglue (a b : Vec F S1024x2048 .i8) : Vec F S1024x4096 .i8 :=
  fun j => slotT0.glue2 (β := Elt F .i8) (up a) (up b) (Shape.reshapeEquiv squeezes_S1x1024x4096_S1024x4096.numel_eq j)

variable {sh : PosShare TreeShare} (a b : Vec F S1024x2048 .i8)

theorem tiles0_split : (ownS sh c (q0 m).view (qglue a b) : sProp 𝕄)
    ⊢ iprop(ownS sh c (tq m ![0, 0, 0] inb_S2x1024x4096_S1x1024x2048_0_0_0) a ∗ ownS sh c (tq m ![0, 0, 2048] inb_S2x1024x4096_S1x1024x2048_0_0_2048) b) := by
  have h : (fun j => qglue a b (Shape.reshapeEquiv squeezes_S1x1024x4096_S1024x4096.numel_eq.symm j)) = slotT0.glue2 (β := Elt F .i8) (up a) (up b) := by
    funext j; unfold qglue; rw [Shape.reshapeEquiv_reshapeEquiv, Shape.reshapeEquiv_self]
  refine (own_unreshape c squeezes_S1x1024x4096_S1024x4096.numel_eq.symm _).trans ?_
  rw [h]
  refine (own_split2 c m.view slotT0 _ _).trans (BIClass.sep_mono ?_ ?_)
  · exact (own_dn c (h := squeezes_S1x1024x2048_S1024x2048.numel_eq) (up a)).trans (Entails.of_eq (by rw [dn_up]; rfl))
  · exact (own_dn c (h := squeezes_S1x1024x2048_S1024x2048.numel_eq) (up b)).trans (Entails.of_eq (by rw [dn_up]; rfl))

theorem tiles1_split : (ownS sh c (q1 m).view (qglue a b) : sProp 𝕄)
    ⊢ iprop(ownS sh c (tq m ![1, 0, 0] inb_S2x1024x4096_S1x1024x2048_1_0_0) a ∗ ownS sh c (tq m ![1, 0, 2048] inb_S2x1024x4096_S1x1024x2048_1_0_2048) b) := by
  have h : (fun j => qglue a b (Shape.reshapeEquiv squeezes_S1x1024x4096_S1024x4096.numel_eq.symm j)) = slotT1.glue2 (β := Elt F .i8) (up a) (up b) := by
    funext j; unfold qglue; rw [Shape.reshapeEquiv_reshapeEquiv, Shape.reshapeEquiv_self]; rfl
  refine (own_unreshape c squeezes_S1x1024x4096_S1024x4096.numel_eq.symm _).trans ?_
  rw [h]
  refine (own_split2 c m.view slotT1 _ _).trans (BIClass.sep_mono ?_ ?_)
  · exact (own_dn c (h := squeezes_S1x1024x2048_S1024x2048.numel_eq) (up a)).trans (Entails.of_eq (by rw [dn_up]; rfl))
  · exact (own_dn c (h := squeezes_S1x1024x2048_S1024x2048.numel_eq) (up b)).trans (Entails.of_eq (by rw [dn_up]; rfl))

theorem tiles0_join : (iprop(ownS sh c (tq m ![0, 0, 0] inb_S2x1024x4096_S1x1024x2048_0_0_0) a ∗ ownS sh c (tq m ![0, 0, 2048] inb_S2x1024x4096_S1x1024x2048_0_0_2048) b) : sProp 𝕄)
    ⊢ ownS sh c (q0 m).view (qglue a b) :=
  (BIClass.sep_mono (own_up c a) (own_up c b)).trans ((own_join2 c m.view slotT0 _ _).trans (own_reshape c _))
theorem tiles1_join : (iprop(ownS sh c (tq m ![1, 0, 0] inb_S2x1024x4096_S1x1024x2048_1_0_0) a ∗ ownS sh c (tq m ![1, 0, 2048] inb_S2x1024x4096_S1x1024x2048_1_0_2048) b) : sProp 𝕄)
    ⊢ ownS sh c (q1 m).view (qglue a b) :=
  (BIClass.sep_mono (own_up c a) (own_up c b)).trans ((own_join2 c m.view slotT1 _ _).trans (own_reshape c _))
omit [FloatOps F] in
theorem tiles0_any : (any c (q0 m).view : sProp 𝕄)
    ⊢ iprop(any c (tq m ![0, 0, 0] inb_S2x1024x4096_S1x1024x2048_0_0_0) ∗ any c (tq m ![0, 0, 2048] inb_S2x1024x4096_S1x1024x2048_0_0_2048)) :=
  (any_unreshape c _).trans ((any_split2 c m.view slotT0).trans (BIClass.sep_mono (any_reshape c _) (any_reshape c _)))

end

/-! ### The rows of the table -/

theorem inbR : ∀ a, (![0, 0] : Fin 2 → ℕ) a + S4x128.size a ≤ S4x128.size a := by decide

/-- The table in its rows. -/
def rowT : Tiling (Rect.unit (s := S4x128) ![0, 0] S4x128.size inbR) (fun j : Dev nD => Rect.unit (s := S4x128) ![j.val, 0] S1x128.size (row_inb j)) :=
  tilingAt (s := S4x128) (S := S4x128.size) (Tz := S1x128.size) (fun j => ![j.val, 0]) (by decide) (by decide)
    (fun y => ⟨y 0, Fin.forall_fin_two.mpr ⟨⟨le_refl _, Nat.lt_succ_self _⟩, ⟨Nat.zero_le _, (lt_of_lt_of_eq (y 1).isLt (Nat.zero_add _).symm : (y 1).val < 0 + 128)⟩⟩⟩)
    (by decide)

/-! ### The tiles of the result -/

theorem inbO : ∀ a, (![0, 0] : Fin 2 → ℕ) a + S4096x8192.size a ≤ S4096x8192.size a := by decide
theorem outIn (i : Fin 4 × Fin 4) : ∀ a, (![1024 * i.1.val, 2048 * i.2.val] : Fin 2 → ℕ) a + S1024x2048.size a ≤ S4096x8192.size a := by revert i; decide

/-- The result in its tiles. -/
def outT : Tiling (Rect.unit (s := S4096x8192) ![0, 0] S4096x8192.size inbO)
    (fun i : Fin 4 × Fin 4 => Rect.unit (s := S4096x8192) ![1024 * i.1.val, 2048 * i.2.val] S1024x2048.size (outIn i)) :=
  tilingAt (s := S4096x8192) (S := S4096x8192.size) (Tz := S1024x2048.size) (fun i => ![1024 * i.1.val, 2048 * i.2.val]) (by decide) (by decide)
    (fun y => by
      have h0 : (y 0).val < 4096 := (y 0).isLt
      have h1 : (y 1).val < 8192 := (y 1).isLt
      refine ⟨(⟨(y 0).val / 1024, by omega⟩, ⟨(y 1).val / 2048, by omega⟩), Fin.forall_fin_two.mpr ⟨?_, ?_⟩⟩
      · exact (show 1024 * ((y 0).val / 1024) ≤ (y 0).val ∧ (y 0).val < 1024 * ((y 0).val / 1024) + 1024 by omega)
      · exact (show 2048 * ((y 1).val / 2048) ≤ (y 1).val ∧ (y 1).val < 2048 * ((y 1).val / 2048) + 2048 by omega))
    (by decide)

end Cert.KProof
-- ==== Proof.Contents.lean ====
module

public import proofs.«01_k».proof.Proof.Parts

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {α : Type}

local notation "𝕄" => MT nD τ sig ℕ (Elt F) ℕ UU ℕ

/-! ### The devices and offsets the program computes -/

theorem dev1_eq (d : Dev nD) : (⟨k0_dev1 d, k0_dev1_lt d⟩ : Dev nD) = sh 3 d := by revert d; decide +kernel
theorem dev2_eq (d : Dev nD) : (⟨k0_dev2 d, k0_dev2_lt d⟩ : Dev nD) = sh 1 d := by revert d; decide +kernel
theorem dev3_eq (d : Dev nD) : (⟨k0_dev3 d, k0_dev3_lt d⟩ : Dev nD) = sh 1 d := by revert d; decide +kernel
theorem dev4_eq (d : Dev nD) : (⟨k0_dev4 d, k0_dev4_lt d⟩ : Dev nD) = sh 3 d := by revert d; decide +kernel
theorem dev5_eq (d : Dev nD) : (⟨k0_dev5 d, k0_dev5_lt d⟩ : Dev nD) = sh 3 d := by revert d; decide +kernel
theorem dev6_eq (d : Dev nD) : (⟨k0_dev6 d, k0_dev6_lt d⟩ : Dev nD) = sh 1 d := by revert d; decide +kernel
theorem dev7_eq (d : Dev nD) : (⟨k0_dev7 d, k0_dev7_lt d⟩ : Dev nD) = sh 1 d := by revert d; decide +kernel
theorem dev8_eq (d : Dev nD) : (⟨k0_dev8 d, k0_dev8_lt d⟩ : Dev nD) = sh 2 d := by revert d; decide +kernel
theorem dev9_eq (d : Dev nD) : (⟨k0_dev9 d, k0_dev9_lt d⟩ : Dev nD) = sh 3 d := by revert d; decide +kernel
theorem dev10_eq (d : Dev nD) : (⟨k0_dev10 d, k0_dev10_lt d⟩ : Dev nD) = sh 1 d := by revert d; decide +kernel
theorem dev11_eq (d : Dev nD) : (⟨k0_dev11 d, k0_dev11_lt d⟩ : Dev nD) = sh 3 d := by revert d; decide +kernel
theorem dev12_eq (d : Dev nD) : (⟨k0_dev12 d, k0_dev12_lt d⟩ : Dev nD) = sh 3 d := by revert d; decide +kernel
theorem dev13_eq (d : Dev nD) : (⟨k0_dev13 d, k0_dev13_lt d⟩ : Dev nD) = sh 1 d := by revert d; decide +kernel
theorem dev14_eq (d : Dev nD) : (⟨k0_dev14 d, k0_dev14_lt d⟩ : Dev nD) = sh 1 d := by revert d; decide +kernel
theorem dev15_eq (d : Dev nD) : (⟨k0_dev15 d, k0_dev15_lt d⟩ : Dev nD) = sh 3 d := by revert d; decide +kernel
theorem dev16_eq (d : Dev nD) : (⟨k0_dev16 d, k0_dev16_lt d⟩ : Dev nD) = sh 3 d := by revert d; decide +kernel
theorem dev17_eq (d : Dev nD) : (⟨k0_dev17 d, k0_dev17_lt d⟩ : Dev nD) = sh 1 d := by revert d; decide +kernel
theorem dev18_eq (d : Dev nD) : (⟨k0_dev18 d, k0_dev18_lt d⟩ : Dev nD) = sh 1 d := by revert d; decide +kernel
theorem dev19_eq (d : Dev nD) : (⟨k0_dev19 d, k0_dev19_lt d⟩ : Dev nD) = sh 3 d := by revert d; decide +kernel
theorem dev20_eq (d : Dev nD) : (⟨k0_dev20 d, k0_dev20_lt d⟩ : Dev nD) = sh 3 d := by revert d; decide +kernel
theorem dev21_eq (d : Dev nD) : (⟨k0_dev21 d, k0_dev21_lt d⟩ : Dev nD) = sh 1 d := by revert d; decide +kernel

/-- The chunk a device adds its part of in step `t` of direction `D`. -/
def chunk (D : Bool) (t : ℕ) (c : Dev nD) : Dev nD := sh (bif D then t + 1 else 3 - t) c

theorem off2_eq (d : Dev nD) (t : Fin k0_t1_loop.trips) : k0_off2 d t = ![1024 * (chunk false t.val d).val, 0] := by revert d t; decide +kernel
theorem off3_eq (d : Dev nD) (t : Fin k0_t1_loop.trips) : k0_off3 d t = ![1024 * (chunk true t.val d).val, 0] := by revert d t; decide +kernel
theorem off6_eq (d : Dev nD) (r : Fin 3) : k0_off6 d (![1#32, 2#32, 3#32] r) = ![(sh (3 - r.val) d).val, 0] := by revert d r; decide +kernel
theorem off7_eq (d : Dev nD) : k0_off7 d = ![1024 * (sh 1 d).val, 2048 * (0 : Fin 4).val] := by revert d; decide +kernel
theorem off8_eq (d : Dev nD) : k0_off8 d = ![1024 * (sh 1 d).val, 2048 * (1 : Fin 4).val] := by revert d; decide +kernel
theorem off9_eq (d : Dev nD) : k0_off9 d = ![1024 * (sh 3 d).val, 2048 * (2 : Fin 4).val] := by revert d; decide +kernel
theorem off10_eq (d : Dev nD) : k0_off10 d = ![1024 * (sh 3 d).val, 2048 * (3 : Fin 4).val] := by revert d; decide +kernel
theorem off11_eq (d : Dev nD) (r : Fin 3) : k0_off11 d (![1#32, 2#32, 4#32] r) (![1#32, 1#32, 2#32] r) = ![1024 * (sh (4 - r.val) d).val, 2048 * (0 : Fin 4).val] := by revert d r; decide +kernel
theorem off12_eq (d : Dev nD) (r : Fin 3) : k0_off12 d (![1#32, 2#32, 4#32] r) (![1#32, 1#32, 2#32] r) = ![1024 * (sh (4 - r.val) d).val, 2048 * (1 : Fin 4).val] := by revert d r; decide +kernel
theorem off13_eq (d : Dev nD) (r : Fin 3) : k0_off13 d (![1#32, 2#32, 4#32] r) (![1#32, 1#32, 2#32] r) = ![1024 * (sh r.val d).val, 2048 * (2 : Fin 4).val] := by revert d r; decide +kernel
theorem off14_eq (d : Dev nD) (r : Fin 3) : k0_off14 d (![1#32, 2#32, 4#32] r) (![1#32, 1#32, 2#32] r) = ![1024 * (sh r.val d).val, 2048 * (3 : Fin 4).val] := by revert d r; decide +kernel

/-! ### What the run computes -/

theorem xin (j : Dev nD) : ∀ a, (![1024 * j.val, 0] : Fin 2 → ℕ) a + S1024x1024.size a ≤ S4096x1024.size a := by revert j; decide
theorem win (n : Fin 4) : ∀ a, (![0, 2048 * n.val] : Fin 2 → ℕ) a + S1024x2048.size a ≤ S1024x8192.size a := by revert n; decide

/-- The place of a tile in the result. -/
abbrev oT (i : Fin 4 × Fin 4) : WM .hbm S1024x2048 .f32 := oW ![1024 * i.1.val, 2048 * i.2.val] (outIn i)

/-- Column tile `n` of direction `D`. -/
def col (D : Bool) (n : Fin 2) : Fin 4 := bif D then ![2, 3] n else ![0, 1] n

section
variable (X : ∀ c : Dev nD, Buf (Elt F) ((c : Thread nD τ).loc main_arg0)) (W : ∀ c : Dev nD, Buf (Elt F) ((c : Thread nD τ).loc main_arg1))

/-- A chunk of rows of device `c`'s part of `x`, and a column tile of its part of `w`. -/
def xr (c j : Dev nD) : Vec F S1024x1024 .f32 := (xW ![1024 * j.val, 0] (xin j)).m.view.read (Elt F) (X c)
def wt (c : Dev nD) (n : Fin 4) : Vec F S1024x2048 .f32 := (wW ![0, 2048 * n.val] (win n)).m.view.read (Elt F) (W c)

/-- The partial sum device `c` holds before step `s`, and the one it makes in it, by direction and column tile. -/
def acc : ℕ → Bool → Dev nD → Fin 2 → Vec F S1024x2048 .bf16
  | 0, D, c, n => half (gm (xr X c c) (wt W c (col D n)))
  | s + 1, D, c, n => half (plus (acc s D (nb (!D) c) n) (gm (xr X c (chunk D s c)) (wt W c (col D n))))
def part (s : ℕ) (D : Bool) (c : Dev nD) (n : Fin 2) : Vec F S1024x2048 .f32 :=
  plus (acc X W s D (nb (!D) c) n) (gm (xr X c (chunk D s c)) (wt W c (col D n)))

theorem acc_succ (s : ℕ) (D : Bool) (c : Dev nD) (n : Fin 2) : acc X W (s + 1) D c n = half (part X W s D c n) := rfl

/-- The greatest magnitude of the four tiles of step `s`; -/
def am (s : ℕ) (c : Dev nD) : F .f32 :=
  k0_pay19 (k0_pay16 (k0_pay11 (k0_pay8 (up (part X W s false c 0))) (up (part X W s true c 0))) (k0_pay15 (up (part X W s false c 1)))) (up (part X W s true c 1))
/-- as the loop carries it. -/
def lvl (c : Dev nD) : ℕ → F .f32
  | 0 => Scalar.ofBits .f32 0#32
  | k + 1 => if h : k < k0_t1_loop.trips then k0_pay29 (lvl c k) (Scf.iv 0#32 1#32 (⟨k, h⟩ : Fin k0_t1_loop.trips)) (am X W k c) else lvl c k

def rowOf (c : Dev nD) : Vec F S1x128 .f32 := k0_pay30 (lvl X W c 3)
/-- The table, whole. -/
def tab : Vec F S4x128 .f32 := rowT.glue (β := Elt F .f32) (rowOf X W)
def inv : F .f32 := k0_pay32 (tab X W)
def sc : F .f32 := k0_pay33 (tab X W)

/-- The quantised tiles of the chunk a device ends with. -/
def Q (D : Bool) (c : Dev nD) (n : Fin 2) : Vec F S1024x2048 .i8 := quan (inv X W) (part X W 2 D c n)
/-- What it holds of direction `D` in step `k` of the gather. -/
def qs (D : Bool) : ℕ → Dev nD → Vec F S1024x4096 .i8
  | 0, c => qglue (Q X W D c 0) (Q X W D c 1)
  | k + 1, c => qs D k (nb (!D) c)

theorem qs_eq (D : Bool) (k : ℕ) (c : Dev nD) : qs X W D k c = qglue (Q X W D ((nb (!D))^[k] c) 0) (Q X W D ((nb (!D))^[k] c) 1) := by
  induction k generalizing c with
  | zero => rfl
  | succ k ih => show qs X W D k (nb (!D) c) = _; rw [ih]; rfl

/-- What the protocol hands on. -/
def world : World F where
  acc D s c := glue (acc X W s D c 0) (acc X W s D c 1)
  q D k c := qs X W D k c
  row := rowOf X W

/-- A tile of the result. -/
def outV (i : Fin 4 × Fin 4) : Vec F S1024x2048 .f32 :=
  back (sc X W) (![Q X W false (sh 3 i.1) 0, Q X W false (sh 3 i.1) 1, Q X W true (sh 1 i.1) 0, Q X W true (sh 1 i.1) 1] i.2)

end

omit [FloatOps F] in
/-- A part of `x` by its offset. -/
theorem xr_at {X : ∀ c : Dev nD, Buf (Elt F) ((c : Thread nD τ).loc main_arg0)} {c j : Dev nD} {off : Fin 2 → ℕ} {h} (ho : off = ![1024 * j.val, 0]) :
    (xW off h).m.view.read (Elt F) (X c) = xr X c j := by subst ho; rfl
omit [FloatOps F] in
theorem wt_at {W : ∀ c : Dev nD, Buf (Elt F) ((c : Thread nD τ).loc main_arg1)} {c : Dev nD} {n : Fin 4} {off : Fin 2 → ℕ} {h} (ho : off = ![0, 2048 * n.val]) :
    (wW off h).m.view.read (Elt F) (W c) = wt W c n := by subst ho; rfl

end Cert.KProof
-- ==== Proof.Step.lean ====
module

public import proofs.«01_k».proof.Proof.Contents

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] {α : Type}

local notation "𝕄" => MT nD τ sig ℕ (Elt F) ℕ UU ℕ

section
variable (X : ∀ c : Dev nD, Buf (Elt F) ((c : Thread nD τ).loc main_arg0)) (W : ∀ c : Dev nD, Buf (Elt F) ((c : Thread nD τ).loc main_arg1)) (c : Dev nD)

/-- The arguments, held whole: `w` in two shares. -/
def args : sProp 𝕄 :=
  iprop(((c : Thread nD τ).loc main_arg0 ↦{fullShare} X c) ∗ ((c : Thread nD τ).loc main_arg1 ↦{fullShare.left} W c) ∗ ((c : Thread nD τ).loc main_arg1 ↦{fullShare.right} W c))

set_option maxHeartbeats 1000000 in
/-- Two tiles of the product of the arguments, in single precision. -/
theorem wp_gemmFAt {Q : α → sProp 𝕄} {k : PR F α} {O : CellTallies nD τ sig ℕ} {d0 d1 : WM .hbm S1024x2048 .f32} {j : Dev nD} {n0 n1 : Fin 4} {ox o0 o1 : Fin 2 → ℕ} {hx h0' h1'}
    (ex : ox = ![1024 * j.val, 0]) (e0 : o0 = ![0, 2048 * n0.val]) (e1 : o1 = ![0, 2048 * n1.val]) :
    iprop(Scr c ∗ args X W c ∗ any c d0.m.view ∗ any c d1.m.view ∗ owing c O ∗ Transfers.MayWaits (c : Thread nD τ) 0 O)
      ⊢ iprop((iprop(Scr c ∗ args X W c ∗ own c d0.m.view (gm (xr X c j) (wt W c n0)) ∗ own c d1.m.view (gm (xr X c j) (wt W c n1)) ∗ owing c O) -∗ wpc c k Q)
          -∗ wpc c (gemmF (xW ox hx) (wW o0 h0') (wW o1 h1') d0 d1 k) Q) := by
  subst ex e0 e1
  unfold args
  iintro ⟨HS, ⟨Hx, Hw0, Hw1⟩, P0, P1, HO, HW⟩ Hk
  iapply (wp_gemmF (c := c) (k := k) (O := O) (sx := xW _ hx) (w0 := wW _ h0') (w1 := wW _ h1') (qx := fullShare) (q0 := fullShare.left) (q1 := fullShare.right) (fx := X c) (f0 := W c) (f1 := W c)
      (Sx := Finset.univ) (S0 := Finset.univ) (S1 := Finset.univ) (Finset.subset_univ _) (Finset.subset_univ _) (Finset.subset_univ _)) $$ [HS Hx Hw0 Hw1 P0 P1 HO HW]
  · isplitl [HS]; · iexact HS
    isplitl [Hx]; · iexact Hx
    isplitl [Hw0]; · iexact Hw0
    isplitl [Hw1]; · iexact Hw1
    isplitl [P0]; · iexact P0
    isplitl [P1]; · iexact P1
    isplitl [HO]; · iexact HO
    iexact HW
  iintro ⟨HS, Hx, Hw0, Hw1, P0, P1, HO⟩
  iapply Hk
  isplitl [HS]; · iexact HS
  isplitl [Hx Hw0 Hw1]
  · isplitl [Hx]; · iexact Hx
    isplitl [Hw0]; · iexact Hw0
    iexact Hw1
  isplitl [P0]; · iexact P0
  isplitl [P1]; · iexact P1
  iexact HO

set_option maxHeartbeats 1000000 in
/-- Two tiles of the product of the arguments, in half precision. -/
theorem wp_gemmBAt {Q : α → sProp 𝕄} {k : PR F α} {O : CellTallies nD τ sig ℕ} {d0 d1 : WM .hbm S1024x2048 .bf16} {j : Dev nD} {n0 n1 : Fin 4} {ox o0 o1 : Fin 2 → ℕ} {hx h0' h1'}
    (ex : ox = ![1024 * j.val, 0]) (e0 : o0 = ![0, 2048 * n0.val]) (e1 : o1 = ![0, 2048 * n1.val]) :
    iprop(Scr c ∗ args X W c ∗ any c d0.m.view ∗ any c d1.m.view ∗ owing c O ∗ Transfers.MayWaits (c : Thread nD τ) 0 O)
      ⊢ iprop((iprop(Scr c ∗ args X W c ∗ own c d0.m.view (half (gm (xr X c j) (wt W c n0))) ∗ own c d1.m.view (half (gm (xr X c j) (wt W c n1))) ∗ owing c O) -∗ wpc c k Q)
          -∗ wpc c (gemmB (xW ox hx) (wW o0 h0') (wW o1 h1') d0 d1 k) Q) := by
  subst ex e0 e1
  unfold args
  iintro ⟨HS, ⟨Hx, Hw0, Hw1⟩, P0, P1, HO, HW⟩ Hk
  iapply (wp_gemmB (c := c) (k := k) (O := O) (sx := xW _ hx) (w0 := wW _ h0') (w1 := wW _ h1') (qx := fullShare) (q0 := fullShare.left) (q1 := fullShare.right) (fx := X c) (f0 := W c) (f1 := W c)
      (Sx := Finset.univ) (S0 := Finset.univ) (S1 := Finset.univ) (Finset.subset_univ _) (Finset.subset_univ _) (Finset.subset_univ _)) $$ [HS Hx Hw0 Hw1 P0 P1 HO HW]
  · isplitl [HS]; · iexact HS
    isplitl [Hx]; · iexact Hx
    isplitl [Hw0]; · iexact Hw0
    isplitl [Hw1]; · iexact Hw1
    isplitl [P0]; · iexact P0
    isplitl [P1]; · iexact P1
    isplitl [HO]; · iexact HO
    iexact HW
  iintro ⟨HS, Hx, Hw0, Hw1, P0, P1, HO⟩
  iapply Hk
  isplitl [HS]; · iexact HS
  isplitl [Hx Hw0 Hw1]
  · isplitl [Hx]; · iexact Hx
    isplitl [Hw0]; · iexact Hw0
    iexact Hw1
  isplitl [P0]; · iexact P0
  isplitl [P1]; · iexact P1
  iexact HO

abbrev pacV (D : Bool) : Memref sig .tc .hbm S1024x4096 .f32 := bif D then pacB else pacA

/-- The partial product, once step `k - 1` is over. -/
def pac (D : Bool) : ℕ → sProp 𝕄
  | 0 => any c (pacV D).view
  | k + 1 => own c (pacV D).view (glue (part X W k D c 0) (part X W k D c 1))

theorem pac_any (D : Bool) (k : ℕ) : pac X W c D k ⊢ any c (pacV D).view := by
  cases k with
  | zero => exact BIBase.Entails.rfl
  | succ k => exact own_any c _ _

theorem pac_A (k : ℕ) : own c pacA.view (glue (plus (acc X W k false (nb true c) 0) (gm (xr X c (chunk false k c)) (wt W c (col false 0)))) (plus (acc X W k false (nb true c) 1) (gm (xr X c (chunk false k c)) (wt W c (col false 1))))) ⊢ pac X W c false (k + 1) := BIBase.Entails.rfl
theorem pac_B (k : ℕ) : own c pacB.view (glue (plus (acc X W k true (nb false c) 0) (gm (xr X c (chunk true k c)) (wt W c (col true 0)))) (plus (acc X W k true (nb false c) 1) (gm (xr X c (chunk true k c)) (wt W c (col true 1))))) ⊢ pac X W c true (k + 1) := BIBase.Entails.rfl

/-- What is kept back while the others land: the slot of the gather, then what received the sums. -/
def keep (D : Bool) (k : ℕ) : sProp 𝕄 := if k < 3 then any c (q1 (qV D)).view else any c (rcvV D).view

omit [FloatOps F] in
theorem keep_next (D : Bool) {k : ℕ} (hk : k < 3) : (iprop(any c (rcvV D).view ∗ keep c D k) : sProp 𝕄) ⊢ iprop(land D c (k + 1) ∗ keep c D (k + 1)) := by
  unfold keep land
  rw [if_pos hk]
  by_cases h : k + 1 < 3
  · rw [if_pos h, if_pos h]
  · rw [if_neg h, if_neg h]
    have : k = 2 := by omega
    subst this
    iintro ⟨H1, H2⟩
    isplitl [H2]; · iexact H2
    iexact H1

theorem sh_2_3 : ∀ c : Dev nD, sh 2 (sh 3 c) = sh 1 c := by decide

/-- The last of the table's rows a device holds before step `k`. -/
def last (k : ℕ) : sProp 𝕄 := if k = 0 then any (sh 1 c) (rowV (sh 3 c)).m.view else any (sh 2 c) (rowV c).m.view

omit [FloatOps F] in
/-- It passes that row on after the first step and takes the one it needs. -/
theorem last_next (k : ℕ) :
    (last c k : sProp 𝕄) ⊢ iprop(extra false (nb true c) (k + 1) ∗ extra true (nb false c) (k + 1) ∗ (extra false c (k + 1) -∗ last c (k + 1))) := by
  have ht : (extra true (nb false c) (k + 1) : sProp 𝕄) = iprop(emp) := by cases k <;> rfl
  rw [ht]
  unfold last
  rw [if_neg (Nat.succ_ne_zero k)]
  cases k with
  | zero =>
    have h1 : (extra false (nb true c) (0 + 1) : sProp 𝕄) = any (sh 1 c) (rowV (sh 3 c)).m.view := by
      show any (sh 2 (sh 3 c)) (rowV (sh 3 c)).m.view = _
      rw [sh_2_3]
    rw [h1, if_pos rfl]
    iintro H
    isplitl [H]; · iexact H
    isplitr; · iempintro
    have h2 : (extra false c (0 + 1) : sProp 𝕄) ⊢ any (sh 2 c) (rowV c).m.view := BIBase.Entails.rfl
    iintro H; iapply h2 $$ H
  | succ k =>
    have h1 : (extra false (nb true c) (k + 1 + 1) : sProp 𝕄) = iprop(emp) := rfl
    rw [if_neg (Nat.succ_ne_zero k), h1]
    iintro H
    isplitr; · iempintro
    isplitr; · iempintro
    iintro -
    iexact H

/-- What a device holds before step `k` of the reduction. -/
def Inv (k : ℕ) (v : F .f32) : sProp 𝕄 :=
  iprop(⌜v = lvl X W c k⌝ ∗ Ctx (world X W) ∗ Scr c ∗ args X W c
    ∗ (own c (accV false).view ((world X W).acc false k c) ∗ pac X W c false k ∗ keep c false k)
    ∗ (own c (accV true).view ((world X W).acc true k c) ∗ pac X W c true k ∗ keep c true k)
    ∗ RS c k ∗ last c k ∗ owing c (owe c (todo (3 - k))))

end

theorem todo_next {k : ℕ} (hk : k < 3) : todo (3 - k) = roundI k (todo (3 - (k + 1))) := by
  match k, hk with
  | 0, _ => rfl
  | 1, _ => rfl
  | 2, _ => rfl
theorem ab_0 {k : ℕ} (hk : k < 3) : ab 0 (mI 3 (k + 1) :: mI 1 (k + 1) :: todo (3 - (k + 1))) = true := by
  match k, hk with
  | 0, _ => rfl
  | 1, _ => rfl
  | 2, _ => rfl
theorem ab_r {k : ℕ} (hk : k < 3) : ab (rix k) (mI 3 (k + 1) :: mI 1 (k + 1) :: todo (3 - (k + 1))) = true := by
  match k, hk with
  | 0, _ => rfl
  | 1, _ => rfl
  | 2, _ => rfl
theorem ab_m {k : ℕ} (hk : k < 3) : ab (mix (k + 1)) (todo (3 - (k + 1))) = true := by
  match k, hk with
  | 0, _ => rfl
  | 1, _ => rfl
  | 2, _ => rfl

section
variable {X : ∀ c : Dev nD, Buf (Elt F) ((c : Thread nD τ).loc main_arg0)} {W : ∀ c : Dev nD, Buf (Elt F) ((c : Thread nD τ).loc main_arg1)} {c : Dev nD}

theorem am_A : (rcvA : Memref sig .tc .hbm S1024x4096 .bf16).view.amount (.dma (rcvS false)) = N1 := rfl
theorem am_B : (rcvB : Memref sig .tc .hbm S1024x4096 .bf16).view.amount (.dma (rcvS true)) = N1 := rfl
theorem Nr_lt {k : ℕ} (hk : k < 3) : Nr k = N1 := if_pos hk

omit [FloatOps F] in
theorem src_any {D : Bool} {v : Vec F S1024x4096 .bf16} : (own c (accV D).view v : sProp 𝕄) ⊢ iprop(any c (h0 (accV D)).view ∗ any c (h1 (accV D)).view) := by
  refine BIBase.Entails.trans ?_ (cols_any c)
  unfold any
  iintro H; iexists _; iexact H

set_option maxHeartbeats 4000000 in
/-- A step of the reduction. -/
theorem wp_step {Q : α → sProp 𝕄} (t : Fin k0_t1_loop.trips) (v : F .f32) {kk : F .f32 → PR F α} :
    Inv X W c t.val v ⊢ iprop((Inv X W c (t.val + 1) (k0_pay29 v (Scf.iv 0#32 1#32 t) (am X W t.val c)) -∗ wpc c (kk (am X W t.val c)) Q)
      -∗ wpc c (step c t kk) Q) := by
  have hk : t.val < 3 := t.isLt
  have hk6 : t.val < 6 := by omega
  have hl : lvl X W c (t.val + 1) = k0_pay29 (lvl X W c t.val) (Scf.iv 0#32 1#32 t) (am X W t.val c) := dif_pos t.isLt
  unfold Inv step
  rw [todo_next hk, hl]
  have hs1 : sendPay (world X W) false c t.val = ownS fullShare c (aW accA whl).m.view ((world X W).acc false t.val c) := if_pos hk
  have hs2 : sendPay (world X W) true c t.val = ownS fullShare c (aW accB whl).m.view ((world X W).acc true t.val c) := if_pos hk
  have hv1 : own c (accV false).view ((world X W).acc false t.val c) ⊢ sendPay (world X W) false c t.val := Entails.of_eq hs1.symm
  have hl1 : (land false (nb false c) t.val : sProp 𝕄) = any (nb false c) (aW rcvA whl).m.view := if_pos hk
  have hv2 : own c (accV true).view ((world X W).acc true t.val c) ⊢ sendPay (world X W) true c t.val := Entails.of_eq hs2.symm
  have hl2 : (land true (nb true c) t.val : sProp 𝕄) = any (nb true c) (aW rcvB whl).m.view := if_pos hk
  have ha1 : arr (world X W) false (nb false c) t.val = own (nb false c) (aW rcvA whl).m.view ((world X W).acc false t.val c) := by
    unfold arr; rw [if_pos hk, nb_nb']; rfl
  have ha2 : arr (world X W) true (nb true c) t.val = own (nb true c) (aW rcvB whl).m.view ((world X W).acc true t.val c) := by
    unfold arr; rw [if_pos hk, nb_nb']; rfl
  have hd1 : arr (world X W) false c t.val ⊢ iprop(own c (h0 rcvA).view (acc X W t.val false (nb true c) 0) ∗ own c (h1 rcvA).view (acc X W t.val false (nb true c) 1)) := by
    unfold arr; rw [if_pos hk]; exact cols_split c _ _
  have hd2 : arr (world X W) true c t.val ⊢ iprop(own c (h0 rcvB).view (acc X W t.val true (nb false c) 0) ∗ own c (h1 rcvB).view (acc X W t.val true (nb false c) 1)) := by
    unfold arr; rw [if_pos hk]; exact cols_split c _ _
  have hb1 : sendPay (world X W) false c t.val ⊢ iprop(any c (h0 accA).view ∗ any c (h1 accA).view) := by rw [hs1]; exact src_any (D := false)
  have hb2 : sendPay (world X W) true c t.val ⊢ iprop(any c (h0 accB).view ∗ any c (h1 accB).view) := by rw [hs2]; exact src_any (D := true)
  have ab0 := ab_0 hk
  have abr := ab_r hk
  have abm := ab_m hk
  iintro ⟨%hv, #HC, HS, HA, ⟨A1, P1, K1⟩, ⟨A2, P2, K2⟩, HR, HL, HO⟩ Hk
  subst hv
  unfold RS
  icases HR with ⟨D1, D2, Hat, #HM, Hf⟩
  ihave Hf := (fut_next c hk6) $$ Hf
  icases Hf with ⟨Ht, Hf⟩
  unfold tok
  icases Ht with ⟨T1, T2, Tm⟩
  iapply (wp_ship (w := world X W) (r := t.val) false hk6 (dev3_eq c) rfl rfl ((am_A).trans (Nr_lt hk).symm) hs1 hl1 ha1) $$ [D1 T1 A1 HO]
  · isplitr; · iexact HC
    isplitl [D1]; · iexact D1
    isplitr; · iexact HM
    isplitl [T1]; · iexact T1
    isplitl [A1]; · iapply hv1 $$ A1
    iexact HO
  iintro ⟨D1, HO⟩
  iapply (wp_ship (w := world X W) (r := t.val) true hk6 (dev4_eq c) rfl rfl ((am_B).trans (Nr_lt hk).symm) hs2 hl2 ha2) $$ [D2 T2 A2 HO]
  · isplitr; · iexact HC
    isplitl [D2]; · iexact D2
    isplitr; · iexact HM
    isplitl [T2]; · iexact T2
    isplitl [A2]; · iapply hv2 $$ A2
    iexact HO
  iintro ⟨D2, HO⟩
  ihave #HW := (mayWaits (c := c) ab0) $$ [HC]
  · iapply (ctx_lev (world X W)) $$ HC
  ihave P1 := (pac_any X W c false t.val) $$ P1
  ihave P1 := (cols_any c) $$ P1
  icases P1 with ⟨P10, P11⟩
  ihave P2 := (pac_any X W c true t.val) $$ P2
  ihave P2 := (cols_any c) $$ P2
  icases P2 with ⟨P20, P21⟩
  iapply (wp_gemmFAt X W c (off2_eq c t) (n0 := col false 0) (n1 := col false 1) (o0 := ![0, 0]) (o1 := ![0, 2048]) rfl rfl) $$ [HS HA P10 P11 HO]
  · isplitl [HS]; · iexact HS
    isplitl [HA]; · iexact HA
    isplitl [P10]; · iexact P10
    isplitl [P11]; · iexact P11
    isplitl [HO]; · iexact HO
    iexact HW
  iintro ⟨HS, HA, P10, P11, HO⟩
  iapply (wp_gemmFAt X W c (off3_eq c t) (n0 := col true 0) (n1 := col true 1) (o0 := ![0, 4096]) (o1 := ![0, 6144]) rfl rfl) $$ [HS HA P20 P21 HO]
  · isplitl [HS]; · iexact HS
    isplitl [HA]; · iexact HA
    isplitl [P20]; · iexact P20
    isplitl [P21]; · iexact P21
    isplitl [HO]; · iexact HO
    iexact HW
  iintro ⟨HS, HA, P20, P21, HO⟩
  iapply (wp_done (w := world X W) (r := t.val) false hk6 rfl rfl ((am_A).trans (Nr_lt hk).symm) ((am_A).trans (Nr_lt hk).symm) ab0 abr) $$ [D1 HO]
  · isplitr; · iexact HC
    isplitl [D1]; · iexact D1
    iexact HO
  iintro ⟨D1, HO⟩
  iapply (wp_done (w := world X W) (r := t.val) true hk6 rfl rfl ((am_B).trans (Nr_lt hk).symm) ((am_B).trans (Nr_lt hk).symm) ab0 abr) $$ [D2 HO]
  · isplitr; · iexact HC
    isplitl [D2]; · iexact D2
    iexact HO
  iintro ⟨D2, HO⟩
  unfold dend
  icases D1 with ⟨U1, V1, Y1, Z1, M1, B1, R1⟩
  icases D2 with ⟨U2, V2, Y2, Z2, M2, B2, R2⟩
  ihave B1 := hb1 $$ B1
  icases B1 with ⟨B10, B11⟩
  ihave B2 := hb2 $$ B2
  icases B2 with ⟨B20, B21⟩
  ihave R1 := hd1 $$ R1
  icases R1 with ⟨R10, R11⟩
  ihave R2 := hd2 $$ R2
  icases R2 with ⟨R20, R21⟩
  iapply wp_addT $$ [HS R10 R20 P10 P20 B10 B20 HO]
  · isplitl [HS]; · iexact HS
    isplitl [R10]; · iexact R10
    isplitl [R20]; · iexact R20
    isplitl [P10]; · iexact P10
    isplitl [P20]; · iexact P20
    isplitl [B10]; · iexact B10
    isplitl [B20]; · iexact B20
    isplitl [HO]; · iexact HO
    iexact HW
  iintro ⟨HS, R10, R20, P10, P20, B10, B20, HO⟩
  iapply wp_addT $$ [HS R11 R21 P11 P21 B11 B21 HO]
  · isplitl [HS]; · iexact HS
    isplitl [R11]; · iexact R11
    isplitl [R21]; · iexact R21
    isplitl [P11]; · iexact P11
    isplitl [P21]; · iexact P21
    isplitl [B11]; · iexact B11
    isplitl [B21]; · iexact B21
    isplitl [HO]; · iexact HO
    iexact HW
  iintro ⟨HS, R11, R21, P11, P21, B11, B21, HO⟩
  ihave R1 := (cols_join c (m := rcvA) _ _) $$ [R10 R11]
  · isplitl [R10]; · iexact R10
    iexact R11
  ihave R2 := (cols_join c (m := rcvB) _ _) $$ [R20 R21]
  · isplitl [R20]; · iexact R20
    iexact R21
  ihave P1 := (cols_join c (m := pacA) _ _) $$ [P10 P11]
  · isplitl [P10]; · iexact P10
    iexact P11
  ihave P2 := (cols_join c (m := pacB) _ _) $$ [P20 P21]
  · isplitl [P20]; · iexact P20
    iexact P21
  ihave B1 := (cols_join c (m := accA) _ _) $$ [B10 B11]
  · isplitl [B10]; · iexact B10
    iexact B11
  ihave B2 := (cols_join c (m := accB) _ _) $$ [B20 B21]
  · isplitl [B20]; · iexact B20
    iexact B21
  ihave R1 := (own_any c _ _) $$ R1
  ihave R2 := (own_any c _ _) $$ R2
  ihave R1 := (keep_next c false hk) $$ [R1 K1]
  · isplitl [R1]; · iexact R1
    iexact K1
  icases R1 with ⟨L1, K1⟩
  ihave R2 := (keep_next c true hk) $$ [R2 K2]
  · isplitl [R2]; · iexact R2
    iexact K2
  icases R2 with ⟨L2, K2⟩
  ihave HL := (last_next c t.val) $$ HL
  icases HL with ⟨E1, E2, HL⟩
  iapply (wp_turn (w := world X W) (r := t.val) (by omega) (dev5_eq c) (dev6_eq c) rfl abm) $$ [Tm Hf Hat U1 V1 Y1 Z1 M1 L1 E1 U2 V2 Y2 Z2 M2 L2 E2 HO]
  · isplitr; · iexact HC
    isplitl [Tm]; · iexact Tm
    isplitl [Hf]; · iexact Hf
    isplitl [Hat]; · iexact Hat
    isplitl [U1 V1 Y1 Z1 M1 L1 E1]
    · unfold dpos
      isplitl [U1 V1 Y1]
      · isplitl [U1]; · iexact U1
        isplitl [V1]; · iexact V1
        iexact Y1
      isplitl [Z1]; · iexact Z1
      isplitl [M1]; · iexact M1
      isplitl [L1]; · iexact L1
      iexact E1
    isplitl [U2 V2 Y2 Z2 M2 L2 E2]
    · unfold dpos
      isplitl [U2 V2 Y2]
      · isplitl [U2]; · iexact U2
        isplitl [V2]; · iexact V2
        iexact Y2
      isplitl [Z2]; · iexact Z2
      isplitl [M2]; · iexact M2
      isplitl [L2]; · iexact L2
      iexact E2
    iexact HO
  iintro ⟨HR, E1, -, HO⟩
  ihave HL := HL $$ E1
  iapply Hk
  isplitr; · (ipureintro; rfl)
  isplitr; · iexact HC
  isplitl [HS]; · iexact HS
  isplitl [HA]; · iexact HA
  isplitl [B1 P1 K1]
  · isplitl [B1]; · iexact B1
    isplitl [P1]; · iapply (pac_A X W c t.val) $$ P1
    iexact K1
  isplitl [B2 P2 K2]
  · isplitl [B2]; · iexact B2
    isplitl [P2]; · iapply (pac_B X W c t.val) $$ P2
    iexact K2
  isplitl [HR]; · (unfold RS; iexact HR)
  isplitl [HL]; · iexact HL
  iexact HO

end

end Cert.KProof
-- ==== Proof.Table.lean ====
module

public import proofs.«01_k».proof.Proof.Step

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-! ### The steps of the reduction -/

section
variable {X : ∀ c : Dev nD, Buf (Elt F) ((c : Thread nD τ).loc main_arg0)} {W : ∀ c : Dev nD, Buf (Elt F) ((c : Thread nD τ).loc main_arg1)} {c : Dev nD}

/-- The steps of the reduction, all of them. -/
theorem wp_steps {Q : α → sProp 𝕄} {kk : F .f32 → PR F α} :
    Inv X W c 0 (Scalar.ofBits .f32 0#32) ⊢ iprop((∀ v, Inv X W c 3 v -∗ wpc c (kk v) Q) -∗ wpc c (steps c >>= kk) Q) := by
  refine Scf.wp_for_bind frame (wpE (defs₀ (F := F)) Variants.none (c : Thread nD τ) none) Set.univ k0_t1_loop.lb k0_t1_loop.ub k0_t1_loop.st k0_t1_ok
    (Scalar.ofBits .f32 0#32) (fun t am => step c t (fun a => Prog.ret (k0_pay29 am (Scf.iv 0#32 1#32 t) a))) (Inv X W c) (fun t v => ?_)
  iintro H
  iapply (wp_step t v) $$ H
  iintro H
  simp only [wp_ret]
  iexact H

end

/-! ### The devices in a ring -/

omit [FloatOps F] in
theorem ring4 (Φ : Dev nD → sProp 𝕄) (c : Dev nD) : bigSep Finset.univ Φ = iprop(Φ c ∗ Φ (sh 3 c) ∗ Φ (sh 2 c) ∗ Φ (sh 1 c)) := by
  rw [show (Finset.univ : Finset (Dev nD)) = insert c (insert (sh 3 c) (insert (sh 2 c) {sh 1 c})) from by revert c; decide,
    bigSep_insert (by revert c; decide), bigSep_insert (by revert c; decide), bigSep_insert (by revert c; decide), bigSep_singleton]
  rfl

theorem sh_around (k : Fin 3) (c : Dev nD) : sh (3 - k.val) (sh (k.val + 1) c) = c := by revert k c; decide

/-! ### The rows of the table -/

section
variable (c : Dev nD)

/-- Where a device stands before it sends its row `k + 1` places on; -/
def abef (k : Fin 3) : sProp 𝕄 :=
  iprop((dutyTok ER (ascell k c) 0 false ∗ dutyTok ER (arcell k (sh (k.val + 1) c)) 0 false ∗ cred (tallyAt (arcell k c) 8 N3))
    ∗ atPos ER (ascell k c) 0 ∅ 0 ∗ atPos ER (arcell k c) 0 ∅ 0)
/-- with the row under way; -/
def amid (k : Fin 3) : sProp 𝕄 :=
  iprop(cred (tallyAt (ascell k c) 0 N3) ∗ cred (tallyAt (arcell k c) 8 N3) ∗ atPos ER (ascell k c) 0 ∅ 0 ∗ atPos ER (arcell k c) 0 ∅ 0)
/-- and afterwards. -/
def aft (k : Fin 3) : sProp 𝕄 := iprop(atPos ER (ascell k c) 1 ∅ 0 ∗ atPos ER (arcell k c) 1 ∅ 0)

variable {c} {w : World F} {k : PR F α} {rest : List It}

/-- The copy of a device's row to the device `i + 1` places on. -/
theorem wp_row {Q : α → sProp 𝕄} (i : Fin 3) {off : Fin 2 → ℕ} {h : ∀ a, off a + S1x128.size a ≤ S4x128.size a} {n : Dev nD} {sS sR : DmaSem sig} {hsc ht} (ho : off = ![c.val, 0])
    (hn : n = sh (i.val + 1) c) (hS : sS = amSS i) (hR : sR = amRS i) :
    iprop(Ctx w ∗ abef c i ∗ ownS (shr i) c (rowV c).m.view (w.row c) ∗ any (sh (i.val + 1) c) (rowV c).m.view ∗ owing c (owe c (aI i :: rest)))
      ⊢ iprop((iprop(amid c i ∗ owing c (owe c rest)) -∗ wpc c k Q) -∗ wpc c (rcp (rowW off h) n (rowW off h) sS sR k hsc ht) Q) := by
  subst ho hS hR
  unfold abef amid
  have hp : iprop(own (sh (i.val + 1) c) (rowV c).m.view (w.row c) ∗ (emp : sProp 𝕄)) ⊢ (sched w).payload (arcell i (sh (i.val + 1) c)) 0 false := by
    rw [payload_ar, sh_around]
    iintro ⟨H, -⟩; iexact H
  iintro ⟨#HC, ⟨⟨T1, T2, C2⟩, A1, A2⟩, HS, Hl, HO⟩ Hk
  ihave #N1 := (net_as w i c) $$ [HC]; · iapply (ctx_net w) $$ HC
  ihave #N2 := (net_ar w i (sh (i.val + 1) c)) $$ [HC]; · iapply (ctx_net w) $$ HC
  iapply (wp_put (w := w) (it := aI i) (r := 0) (N := N3) (q := shr i) (v := w.row c) (P := iprop(emp)) hn rfl rfl (show (rowV c).m.view.amount (.dma (amRS i)) = N3 from rfl)
      (by rw [duties_as w c i]; decide) (show false ∈ (sched w).duties (arcell i (sh (i.val + 1) c)) 0 by rw [duties_ar]; decide) (amount_as w c i 0 _) (amount_ar w _ i 0 _)
      (by rw [payload_as]) hp) $$ [HS Hl HO T1 T2]
  · isplitr; · iexact N1
    isplitr; · iexact N2
    isplitl [HS]; · iexact HS
    isplitl [Hl]; · iexact Hl
    isplitr; · iempintro
    isplitl [HO]; · iexact HO
    isplitl [T1]; · iexact T1
    isplitr
    · unfold has; icases N1 with ⟨-, #R⟩; iexact R
    isplitl [T2]; · iexact T2
    unfold has; icases N2 with ⟨-, #R⟩; iexact R
  iintro ⟨C1, HO⟩
  iapply Hk
  isplitr [HO]
  · isplitl [C1]; · iexact C1
    isplitl [C2]; · iexact C2
    isplitl [A1]; · iexact A1
    iexact A2
  iexact HO

/-- The waits for it and for the row that comes in. -/
theorem wp_rowDone {Q : α → sProp 𝕄} (i : Fin 3) {sp₁ sp₂ : Space} {s₁ s₂ : Shape} {e₁ e₂ : EltTy} {u₁ : WM sp₁ s₁ e₁} {u₂ : WM sp₂ s₂ e₂} {off off' : Fin 2 → ℕ} {h : ∀ a, off a + S1x128.size a ≤ S4x128.size a}
    {h' : ∀ a, off' a + S1x128.size a ≤ S4x128.size a} {sS sR : DmaSem sig} (hS : sS = amSS i) (hR : sR = amRS i) (ha : ab 0 rest = true) (ha' : ab 8 rest = true) :
    iprop(Ctx w ∗ amid c i ∗ owing c (owe c rest))
      ⊢ iprop((iprop((aft c i ∗ ownS (shr i) c (rowV c).m.view (w.row c) ∗ own c (rowV (sh (3 - i.val) c)).m.view (w.row (sh (3 - i.val) c))) ∗ owing c (owe c rest)) -∗ wpc c k Q)
          -∗ wpc c (cw u₁ (rowW off h) sR (cw u₂ (rowW off' h') sS k)) Q) := by
  subst hS hR
  unfold amid aft
  iintro ⟨#HC, ⟨C1, C2, A1, A2⟩, HO⟩ Hk
  iapply (wp_get (w := w) (r := 0) (ix := 8) (N := N3) (show (rowW off h).m.view.dmaCredit = N3 from rfl) ha' (duties_ar w c i) (amount_ar w c i 0 _)) $$ [A2 C2 HO]
  · isplitr; · iexact HC
    isplitr; · (iapply (net_ar w i c); iapply (ctx_net w) $$ HC)
    isplitl [C2]; · iexact C2
    isplitl [HO]; · iexact HO
    iexact A2
  iintro ⟨HO, A2, -, P2⟩
  iapply (wp_get (w := w) (r := 0) (ix := 0) (N := N3) (show (rowW off' h').m.view.dmaCredit = N3 from rfl) ha (duties_as w c i) (amount_as w c i 0 _)) $$ [A1 C1 HO]
  · isplitr; · iexact HC
    isplitr; · (iapply (net_as w i c); iapply (ctx_net w) $$ HC)
    isplitl [C1]; · iexact C1
    isplitl [HO]; · iexact HO
    iexact A1
  iintro ⟨HO, A1, -, P1⟩
  ihave P1 := (Entails.of_eq (payload_as w c i 0 false)) $$ P1
  ihave P2 := (Entails.of_eq (payload_ar w c i 0 false)) $$ P2
  iapply Hk
  isplitr [HO]
  · isplitl [A1 A2]
    · isplitl [A1]; · iexact A1
      iexact A2
    isplitl [P1]; · iexact P1
    iexact P2
  iexact HO

end

section
variable {X : ∀ c : Dev nD, Buf (Elt F) ((c : Thread nD τ).loc main_arg0)} {W : ∀ c : Dev nD, Buf (Elt F) ((c : Thread nD τ).loc main_arg1)} {c : Dev nD}

/-- The rows put together. -/
theorem rows_join (u : Dev nD → Vec F S1x128 .f32) :
    iprop(own c (rowV c).m.view (u c) ∗ own c (rowV (sh 3 c)).m.view (u (sh 3 c)) ∗ own c (rowV (sh 2 c)).m.view (u (sh 2 c)) ∗ own c (rowV (sh 1 c)).m.view (u (sh 1 c)))
      ⊢ own c (amM.access (Rect.unit (s := S4x128) ![0, 0] S4x128.size inb_S4x128_S4x128_0_0)) (rowT.glue (β := Elt F .f32) u) := by
  refine BIBase.Entails.trans ?_ (own_join c amM.view rowT c u)
  rw [ring4 (fun j => ownS fullShare c (amM.view.slice (Rect.unit (s := S4x128) ![j.val, 0] S1x128.size (row_inb j))) (u j)) c]

omit [FloatOps F] in
theorem row_acc {c j : Dev nD} {off : Fin 2 → ℕ} {h : ∀ a, off a + S1x128.size a ≤ S4x128.size a} (ho : off = ![j.val, 0]) :
    (any c (rowV j).m.view : sProp 𝕄) ⊢ any c (amM.access (Rect.unit (s := S4x128) off S1x128.size h)) := by
  subst ho; exact BIBase.Entails.rfl
omit [FloatOps F] in
theorem acc_row {c j : Dev nD} {off : Fin 2 → ℕ} {h : ∀ a, off a + S1x128.size a ≤ S4x128.size a} (ho : off = ![j.val, 0]) {v : Vec F S1x128 .f32} :
    (own c (amM.access (Rect.unit (s := S4x128) off S1x128.size h)) v : sProp 𝕄) ⊢ own c (rowV j).m.view v := by
  subst ho; exact BIBase.Entails.rfl

/-- What is owed once the rows are sent. -/
abbrev todoG : List It := roundI 3 (roundI 4 (roundI 5 []))

set_option maxHeartbeats 4000000 in
/-- The greatest magnitudes of all the devices, in a table. -/
theorem wp_amax {Q : α → sProp 𝕄} {k : Vec F S4x128 .f32 → PR F α} :
    iprop(Ctx (world X W) ∗ (abef c 0 ∗ abef c 1 ∗ abef c 2)
        ∗ (any c (rowV c).m.view ∗ any (sh 1 c) (rowV c).m.view ∗ any (sh 2 c) (rowV c).m.view ∗ any (sh 3 c) (rowV c).m.view)
        ∗ owing c (owe c (todo 0)))
      ⊢ iprop((iprop((aft c 0 ∗ aft c 1 ∗ aft c 2) ∗ any c amM.view ∗ owing c (owe c todoG)) -∗ wpc c (k (tab X W)) Q)
          -∗ wpc c (amaxX c (lvl X W c 3) k) Q) := by
  unfold amaxX
  have ha : ab 0 todoG = true := rfl
  have ha' : ab 8 todoG = true := rfl
  iintro ⟨#HC, ⟨A0, A1, A2⟩, ⟨R0, R1, R2, R3⟩, HO⟩ Hk
  ihave R0 := (row_acc (k0_off4_eq c) (h := k0_off4_inb c)) $$ R0
  iapply (wp_loadA c) $$ R0
  iintro %_ R0
  iapply (wp_storeO c) $$ R0
  iintro R0
  ihave R0 := (acc_row (k0_off4_eq c) (h := k0_off4_inb c)) $$ R0
  ihave R0 := (own_halve c _ _) $$ R0
  icases R0 with ⟨R0, R0'⟩
  ihave R0' := (own_halve c _ _) $$ R0'
  icases R0' with ⟨R0', R0''⟩
  iapply (wp_row (w := world X W) 0 (k0_off5_eq c) (dev7_eq c) rfl rfl) $$ [A0 R0 R1 HO]
  · isplitr; · iexact HC
    isplitl [A0]; · iexact A0
    isplitl [R0]; · iexact R0
    isplitl [R1]; · iexact R1
    iexact HO
  iintro ⟨A0, HO⟩
  iapply (wp_row (w := world X W) 1 (k0_off5_eq c) (dev8_eq c) rfl rfl) $$ [A1 R0' R2 HO]
  · isplitr; · iexact HC
    isplitl [A1]; · iexact A1
    isplitl [R0']; · iexact R0'
    isplitl [R2]; · iexact R2
    iexact HO
  iintro ⟨A1, HO⟩
  iapply (wp_row (w := world X W) 2 (k0_off5_eq c) (dev9_eq c) rfl rfl) $$ [A2 R0'' R3 HO]
  · isplitr; · iexact HC
    isplitl [A2]; · iexact A2
    isplitl [R0'']; · iexact R0''
    isplitl [R3]; · iexact R3
    iexact HO
  iintro ⟨A2, HO⟩
  iapply (wp_rowDone (w := world X W) 0 rfl rfl ha ha') $$ [A0 HO]
  · isplitr; · iexact HC
    isplitl [A0]; · iexact A0
    iexact HO
  iintro ⟨⟨A0, R0, R3⟩, HO⟩
  iapply (wp_rowDone (w := world X W) 1 rfl rfl ha ha') $$ [A1 HO]
  · isplitr; · iexact HC
    isplitl [A1]; · iexact A1
    iexact HO
  iintro ⟨⟨A1, R0', R2⟩, HO⟩
  iapply (wp_rowDone (w := world X W) 2 rfl rfl ha ha') $$ [A2 HO]
  · isplitr; · iexact HC
    isplitl [A2]; · iexact A2
    iexact HO
  iintro ⟨⟨A2, R0'', R1⟩, HO⟩
  ihave R0' := (own_unhalve c _ (rowOf X W c) (rowOf X W c)) $$ [R0' R0'']
  · isplitl [R0']; · iexact R0'
    iexact R0''
  ihave R0 := (own_unhalve c _ (rowOf X W c) (rowOf X W c)) $$ [R0 R0']
  · isplitl [R0]; · iexact R0
    iexact R0'
  ihave R := (rows_join (rowOf X W)) $$ [R0 R1 R2 R3]
  · isplitl [R0]; · iexact R0
    isplitl [R3]; · iexact R3
    isplitl [R2]; · iexact R2
    iexact R1
  iapply (wp_loadO c) $$ R
  iintro R
  iapply Hk
  isplitl [A0 A1 A2]
  · isplitl [A0]; · iexact A0
    isplitl [A1]; · iexact A1
    iexact A2
  isplitl [R]
  · iapply (any_unfull c amM.view (off := ![0, 0]) (h := inb_S4x128_S4x128_0_0))
    iapply (own_any c _ _) $$ R
  iexact HO

end

end Cert.KProof
-- ==== Proof.Tail.lean ====
module

public import proofs.«01_k».proof.Proof.Table

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-- A tile of the result by its offset. -/
theorem oW_eq {off : Fin 2 → ℕ} {h : ∀ a, off a + S1024x2048.size a ≤ S4096x8192.size a} {i : Fin 4 × Fin 4} (ho : off = ![1024 * i.1.val, 2048 * i.2.val]) : oW off h = oT i := by
  subst ho; rfl

section
variable (X : ∀ c : Dev nD, Buf (Elt F) ((c : Thread nD τ).loc main_arg0)) (W : ∀ c : Dev nD, Buf (Elt F) ((c : Thread nD τ).loc main_arg1)) (c : Dev nD)

/-- The two tiles of the result in the chunk `j` and the columns of direction `D`, whatever they hold; -/
def apair (D : Bool) (j : Dev nD) : sProp 𝕄 := iprop(any c (oT (j, col D 0)).m.view ∗ any c (oT (j, col D 1)).m.view)
/-- as they are in the end. -/
def opair (D : Bool) (j : Dev nD) : sProp 𝕄 :=
  iprop(own c (oT (j, col D 0)).m.view (outV X W (j, col D 0)) ∗ own c (oT (j, col D 1)).m.view (outV X W (j, col D 1)))

/-- The device whose chunk in direction `D` ends in the rows `j`. -/
def srcOf (D : Bool) (j : Dev nD) : Dev nD := sh (bif D then 1 else 3) j

theorem outV_col (D : Bool) (j : Dev nD) (n : Fin 2) : outV X W (j, col D n) = back (sc X W) (Q X W D (srcOf D j) n) := by
  cases D <;> fin_cases n <;> rfl

/-- A share of a slot, which holds what the device has in step `k`. -/
def held (q : PosShare TreeShare) (D : Bool) (k : ℕ) : sProp 𝕄 := ownS q c (slot k D).view (qs X W D k c)

end

section
variable {X : ∀ c : Dev nD, Buf (Elt F) ((c : Thread nD τ).loc main_arg0)} {W : ∀ c : Dev nD, Buf (Elt F) ((c : Thread nD τ).loc main_arg1)} {c : Dev nD}
  {k : PR F α} {O : CellTallies nD τ sig ℕ} {x1 x2 x3 x4 : Fin 2 → ℕ} {i1 : ∀ a, x1 a + S1024x2048.size a ≤ S4096x8192.size a} {i2 : ∀ a, x2 a + S1024x2048.size a ≤ S4096x8192.size a}
  {i3 : ∀ a, x3 a + S1024x2048.size a ≤ S4096x8192.size a} {i4 : ∀ a, x4 a + S1024x2048.size a ≤ S4096x8192.size a} {jA jB : Dev nD}

set_option maxHeartbeats 1000000 in
/-- Four quantised tiles scaled back. -/
theorem wp_deq4 {Q : α → sProp 𝕄} {sh : PosShare TreeShare} {sc : F .f32} {ma mb : Memref sig .tc .vmem S2x1024x4096 .i8} {f0 f1 : Fin 3 → ℕ}
    {h0 : ∀ a, f0 a + S1x1024x2048.size a ≤ S2x1024x4096.size a} {h1 : ∀ a, f1 a + S1x1024x2048.size a ≤ S2x1024x4096.size a} {o1 o2 o3 o4 : WM .hbm S1024x2048 .f32}
    {a0 a1 b0 b1 : Vec F S1024x2048 .i8} :
    iprop(Scr c ∗ (ownS sh c (tq ma f0 h0) a0 ∗ ownS sh c (tq ma f1 h1) a1) ∗ (ownS sh c (tq mb f0 h0) b0 ∗ ownS sh c (tq mb f1 h1) b1)
        ∗ (any c o1.m.view ∗ any c o2.m.view) ∗ (any c o3.m.view ∗ any c o4.m.view) ∗ owing c O ∗ Transfers.MayWaits (c : Thread nD τ) 0 O)
      ⊢ iprop((iprop(Scr c ∗ (ownS sh c (tq ma f0 h0) a0 ∗ ownS sh c (tq ma f1 h1) a1) ∗ (ownS sh c (tq mb f0 h0) b0 ∗ ownS sh c (tq mb f1 h1) b1)
            ∗ (own c o1.m.view (back sc a0) ∗ own c o2.m.view (back sc a1)) ∗ (own c o3.m.view (back sc b0) ∗ own c o4.m.view (back sc b1)) ∗ owing c O) -∗ wpc c k Q)
          -∗ wpc c (deqT ma f0 h0 sc o1 <| deqT ma f1 h1 sc o2 <| deqT mb f0 h0 sc o3 <| deqT mb f1 h1 sc o4 k) Q) := by
  iintro ⟨HS, ⟨A0, A1⟩, ⟨B0, B1⟩, ⟨O1, O2⟩, ⟨O3, O4⟩, HO, #HM⟩ Hk
  iapply wp_deqT $$ [HS A0 O1 HO]
  · isplitl [HS]; · iexact HS
    isplitl [A0]; · iexact A0
    isplitl [O1]; · iexact O1
    isplitl [HO]; · iexact HO
    iexact HM
  iintro ⟨HS, A0, O1, HO⟩
  iapply wp_deqT $$ [HS A1 O2 HO]
  · isplitl [HS]; · iexact HS
    isplitl [A1]; · iexact A1
    isplitl [O2]; · iexact O2
    isplitl [HO]; · iexact HO
    iexact HM
  iintro ⟨HS, A1, O2, HO⟩
  iapply wp_deqT $$ [HS B0 O3 HO]
  · isplitl [HS]; · iexact HS
    isplitl [B0]; · iexact B0
    isplitl [O3]; · iexact O3
    isplitl [HO]; · iexact HO
    iexact HM
  iintro ⟨HS, B0, O3, HO⟩
  iapply wp_deqT $$ [HS B1 O4 HO]
  · isplitl [HS]; · iexact HS
    isplitl [B1]; · iexact B1
    isplitl [O4]; · iexact O4
    isplitl [HO]; · iexact HO
    iexact HM
  iintro ⟨HS, B1, O4, HO⟩
  iapply Hk
  isplitl [HS]; · iexact HS
  isplitl [A0 A1]
  · isplitl [A0]; · iexact A0
    iexact A1
  isplitl [B0 B1]
  · isplitl [B0]; · iexact B0
    iexact B1
  isplitl [O1 O2]
  · isplitl [O1]; · iexact O1
    iexact O2
  isplitl [O3 O4]
  · isplitl [O3]; · iexact O3
    iexact O4
  iexact HO

omit [FloatOps F] in
theorem apair_at (D : Bool) {j : Dev nD} {x y : Fin 2 → ℕ} {hx : ∀ a, x a + S1024x2048.size a ≤ S4096x8192.size a} {hy : ∀ a, y a + S1024x2048.size a ≤ S4096x8192.size a}
    (ex : x = ![1024 * j.val, 2048 * (col D 0).val]) (ey : y = ![1024 * j.val, 2048 * (col D 1).val]) :
    (apair c D j : sProp 𝕄) ⊢ iprop(any c (oW x hx).m.view ∗ any c (oW y hy).m.view) := by
  unfold apair; rw [oW_eq (i := (j, col D 0)) ex, oW_eq (i := (j, col D 1)) ey]

theorem opair_at (D : Bool) {j j' : Dev nD} {x y : Fin 2 → ℕ} {hx : ∀ a, x a + S1024x2048.size a ≤ S4096x8192.size a} {hy : ∀ a, y a + S1024x2048.size a ≤ S4096x8192.size a}
    (ex : x = ![1024 * j.val, 2048 * (col D 0).val]) (ey : y = ![1024 * j.val, 2048 * (col D 1).val]) (hj : srcOf D j = j') :
    iprop(own c (oW x hx).m.view (back (sc X W) (Q X W D j' 0)) ∗ own c (oW y hy).m.view (back (sc X W) (Q X W D j' 1))) ⊢ opair X W c D j := by
  unfold opair; rw [oW_eq (i := (j, col D 0)) ex, oW_eq (i := (j, col D 1)) ey, outV_col, outV_col, hj]

variable (e1 : x1 = ![1024 * jA.val, 2048 * (col false 0).val]) (e2 : x2 = ![1024 * jA.val, 2048 * (col false 1).val])
  (e3 : x3 = ![1024 * jB.val, 2048 * (col true 0).val]) (e4 : x4 = ![1024 * jB.val, 2048 * (col true 1).val])
include e1 e2 e3 e4

/-- The tiles a device holds in slot 0 scaled back into the result. -/
theorem wp_deq0At {Q' : α → sProp 𝕄} {sh : PosShare TreeShare} {s : ℕ} (hs : s % 2 = 0) (hA : srcOf false jA = (nb true)^[s] c) (hB : srcOf true jB = (nb false)^[s] c) :
    iprop(Scr c ∗ held X W c sh false s ∗ held X W c sh true s ∗ apair c false jA ∗ apair c true jB ∗ owing c O ∗ Transfers.MayWaits (c : Thread nD τ) 0 O)
      ⊢ iprop((iprop(Scr c ∗ held X W c sh false s ∗ held X W c sh true s ∗ opair X W c false jA ∗ opair X W c true jB ∗ owing c O) -∗ wpc c k Q')
          -∗ wpc c (deq40 (sc X W) (oW x1 i1) (oW x2 i2) (oW x3 i3) (oW x4 i4) k) Q') := by
  have hsA : held X W c sh false s = ownS sh c (q0 qaM).view (qglue (Q X W false ((nb true)^[s] c) 0) (Q X W false ((nb true)^[s] c) 1)) := by
    unfold held slot; rw [if_pos hs, qs_eq]; rfl
  have hsB : held X W c sh true s = ownS sh c (q0 qbM).view (qglue (Q X W true ((nb false)^[s] c) 0) (Q X W true ((nb false)^[s] c) 1)) := by
    unfold held slot; rw [if_pos hs, qs_eq]; rfl
  rw [hsA, hsB]
  unfold deq40
  iintro ⟨HS, A, B, OA, OB, HO, HM⟩ Hk
  ihave A := (tiles0_split c _ _) $$ A
  ihave B := (tiles0_split c _ _) $$ B
  ihave OA := (apair_at false (hx := i1) (hy := i2) e1 e2) $$ OA
  ihave OB := (apair_at true (hx := i3) (hy := i4) e3 e4) $$ OB
  iapply wp_deq4 $$ [HS A B OA OB HO HM]
  · isplitl [HS]; · iexact HS
    isplitl [A]; · iexact A
    isplitl [B]; · iexact B
    isplitl [OA]; · iexact OA
    isplitl [OB]; · iexact OB
    isplitl [HO]; · iexact HO
    iexact HM
  iintro ⟨HS, A, B, OA, OB, HO⟩
  ihave A := (tiles0_join c _ _) $$ A
  ihave B := (tiles0_join c _ _) $$ B
  ihave OA := (opair_at (X := X) (W := W) false (hx := i1) (hy := i2) e1 e2 hA) $$ OA
  ihave OB := (opair_at (X := X) (W := W) true (hx := i3) (hy := i4) e3 e4 hB) $$ OB
  iapply Hk
  isplitl [HS]; · iexact HS
  isplitl [A]; · iexact A
  isplitl [B]; · iexact B
  isplitl [OA]; · iexact OA
  isplitl [OB]; · iexact OB
  iexact HO

/-- The tiles a device holds in slot 1 scaled back into the result. -/
theorem wp_deq1At {Q' : α → sProp 𝕄} {sh : PosShare TreeShare} {s : ℕ} (hs : s % 2 = 1) (hA : srcOf false jA = (nb true)^[s] c) (hB : srcOf true jB = (nb false)^[s] c) :
    iprop(Scr c ∗ held X W c sh false s ∗ held X W c sh true s ∗ apair c false jA ∗ apair c true jB ∗ owing c O ∗ Transfers.MayWaits (c : Thread nD τ) 0 O)
      ⊢ iprop((iprop(Scr c ∗ held X W c sh false s ∗ held X W c sh true s ∗ opair X W c false jA ∗ opair X W c true jB ∗ owing c O) -∗ wpc c k Q')
          -∗ wpc c (deq41 (sc X W) (oW x1 i1) (oW x2 i2) (oW x3 i3) (oW x4 i4) k) Q') := by
  have hsA : held X W c sh false s = ownS sh c (q1 qaM).view (qglue (Q X W false ((nb true)^[s] c) 0) (Q X W false ((nb true)^[s] c) 1)) := by
    unfold held slot; rw [if_neg (by omega), qs_eq]; rfl
  have hsB : held X W c sh true s = ownS sh c (q1 qbM).view (qglue (Q X W true ((nb false)^[s] c) 0) (Q X W true ((nb false)^[s] c) 1)) := by
    unfold held slot; rw [if_neg (by omega), qs_eq]; rfl
  rw [hsA, hsB]
  unfold deq41
  iintro ⟨HS, A, B, OA, OB, HO, HM⟩ Hk
  ihave A := (tiles1_split c _ _) $$ A
  ihave B := (tiles1_split c _ _) $$ B
  ihave OA := (apair_at false (hx := i1) (hy := i2) e1 e2) $$ OA
  ihave OB := (apair_at true (hx := i3) (hy := i4) e3 e4) $$ OB
  iapply wp_deq4 $$ [HS A B OA OB HO HM]
  · isplitl [HS]; · iexact HS
    isplitl [A]; · iexact A
    isplitl [B]; · iexact B
    isplitl [OA]; · iexact OA
    isplitl [OB]; · iexact OB
    isplitl [HO]; · iexact HO
    iexact HM
  iintro ⟨HS, A, B, OA, OB, HO⟩
  ihave A := (tiles1_join c _ _) $$ A
  ihave B := (tiles1_join c _ _) $$ B
  ihave OA := (opair_at (X := X) (W := W) false (hx := i1) (hy := i2) e1 e2 hA) $$ OA
  ihave OB := (opair_at (X := X) (W := W) true (hx := i3) (hy := i4) e3 e4 hB) $$ OB
  iapply Hk
  isplitl [HS]; · iexact HS
  isplitl [A]; · iexact A
  isplitl [B]; · iexact B
  isplitl [OA]; · iexact OA
  isplitl [OB]; · iexact OB
  iexact HO

end

section
variable {X : ∀ c : Dev nD, Buf (Elt F) ((c : Thread nD τ).loc main_arg0)} {W : ∀ c : Dev nD, Buf (Elt F) ((c : Thread nD τ).loc main_arg1)} {c : Dev nD}
  {k : PR F α} {O : CellTallies nD τ sig ℕ}

theorem src_own0 (c : Dev nD) : srcOf false (sh 1 c) = c := by revert c; decide
theorem src_own1 (c : Dev nD) : srcOf true (sh 3 c) = c := by revert c; decide

set_option maxHeartbeats 2000000 in
/-- The device's own chunk quantised and scaled back. -/
theorem wp_quan4 {Q' : α → sProp 𝕄} :
    iprop(Scr c ∗ (own c pacA.view (glue (part X W 2 false c 0) (part X W 2 false c 1)) ∗ own c pacB.view (glue (part X W 2 true c 0) (part X W 2 true c 1)))
        ∗ (any c (q0 qaM).view ∗ any c (q0 qbM).view) ∗ (apair c false (sh 1 c) ∗ apair c true (sh 3 c)) ∗ owing c O ∗ Transfers.MayWaits (c : Thread nD τ) 0 O)
      ⊢ iprop((iprop(Scr c ∗ (held X W c fullShare false 0 ∗ held X W c fullShare true 0) ∗ (opair X W c false (sh 1 c) ∗ opair X W c true (sh 3 c)) ∗ owing c O) -∗ wpc c k Q')
          -∗ wpc c (quan4 c (inv X W) (sc X W) k) Q') := by
  unfold quan4
  iintro ⟨HS, ⟨A, B⟩, ⟨SA, SB⟩, ⟨OA, OB⟩, HO, #HM⟩ Hk
  ihave A := (cols_split c _ _) $$ A
  ihave B := (cols_split c _ _) $$ B
  ihave SA := (tiles0_any c) $$ SA
  ihave SB := (tiles0_any c) $$ SB
  ihave OA := (apair_at false (hx := k0_off7_inb c) (hy := k0_off8_inb c) (off7_eq c) (off8_eq c)) $$ OA
  ihave OB := (apair_at true (hx := k0_off9_inb c) (hy := k0_off10_inb c) (off9_eq c) (off10_eq c)) $$ OB
  icases A with ⟨A0, A1⟩
  icases B with ⟨B0, B1⟩
  icases SA with ⟨SA0, SA1⟩
  icases SB with ⟨SB0, SB1⟩
  icases OA with ⟨OA0, OA1⟩
  icases OB with ⟨OB0, OB1⟩
  iapply wp_quanT $$ [HS A0 SA0 OA0 HO]
  · isplitl [HS]; · iexact HS
    isplitl [A0]; · iexact A0
    isplitl [SA0]; · iexact SA0
    isplitl [OA0]; · iexact OA0
    isplitl [HO]; · iexact HO
    iexact HM
  iintro ⟨HS, -, SA0, OA0, HO⟩
  iapply wp_quanT $$ [HS A1 SA1 OA1 HO]
  · isplitl [HS]; · iexact HS
    isplitl [A1]; · iexact A1
    isplitl [SA1]; · iexact SA1
    isplitl [OA1]; · iexact OA1
    isplitl [HO]; · iexact HO
    iexact HM
  iintro ⟨HS, -, SA1, OA1, HO⟩
  iapply wp_quanT $$ [HS B0 SB0 OB0 HO]
  · isplitl [HS]; · iexact HS
    isplitl [B0]; · iexact B0
    isplitl [SB0]; · iexact SB0
    isplitl [OB0]; · iexact OB0
    isplitl [HO]; · iexact HO
    iexact HM
  iintro ⟨HS, -, SB0, OB0, HO⟩
  iapply wp_quanT $$ [HS B1 SB1 OB1 HO]
  · isplitl [HS]; · iexact HS
    isplitl [B1]; · iexact B1
    isplitl [SB1]; · iexact SB1
    isplitl [OB1]; · iexact OB1
    isplitl [HO]; · iexact HO
    iexact HM
  iintro ⟨HS, -, SB1, OB1, HO⟩
  ihave SA := (tiles0_join c _ _) $$ [SA0 SA1]
  · isplitl [SA0]; · iexact SA0
    iexact SA1
  ihave SB := (tiles0_join c _ _) $$ [SB0 SB1]
  · isplitl [SB0]; · iexact SB0
    iexact SB1
  ihave OA := (opair_at (X := X) (W := W) false (hx := k0_off7_inb c) (hy := k0_off8_inb c) (off7_eq c) (off8_eq c) (src_own0 c)) $$ [OA0 OA1]
  · isplitl [OA0]; · iexact OA0
    iexact OA1
  ihave OB := (opair_at (X := X) (W := W) true (hx := k0_off9_inb c) (hy := k0_off10_inb c) (off9_eq c) (off10_eq c) (src_own1 c)) $$ [OB0 OB1]
  · isplitl [OB0]; · iexact OB0
    iexact OB1
  iapply Hk
  isplitl [HS]; · iexact HS
  isplitl [SA SB]
  · isplitl [SA]; · (unfold held; iexact SA)
    unfold held; iexact SB
  isplitl [OA OB]
  · isplitl [OA]; · iexact OA
    iexact OB
  iexact HO

end

end Cert.KProof
-- ==== Proof.Hop.lean ====
module

public import proofs.«01_k».proof.Proof.Tail

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-! ### The rounds of the gather -/

section
variable (X : ∀ c : Dev nD, Buf (Elt F) ((c : Thread nD τ).loc main_arg0)) (W : ∀ c : Dev nD, Buf (Elt F) ((c : Thread nD τ).loc main_arg1)) (c : Dev nD)

/-- Within step `k` of the gather; -/
def gmid (k : ℕ) : sProp 𝕄 :=
  iprop((dmid c false (3 + k) ∗ dmid c true (3 + k)) ∗ atPos ER (mcell 1 c) (3 + k) ∅ 0 ∗ mtok c (3 + k + 1) ∗ fut c (3 + k + 1))
/-- once its copies are done. -/
def gend (k : ℕ) : sProp 𝕄 :=
  iprop((dpos c false (3 + k + 1) ∗ reached ER (rcell false c) (3 + k + 1) ∗ reached ER (mcell 1 (nb true c)) (3 + k))
    ∗ (dpos c true (3 + k + 1) ∗ reached ER (rcell true c) (3 + k + 1) ∗ reached ER (mcell 1 (nb false c)) (3 + k))
    ∗ atPos ER (mcell 1 c) (3 + k) ∅ 0 ∗ mtok c (3 + k + 1) ∗ fut c (3 + k + 1))

variable {k : ℕ} (hk : k < 3)
include hk

theorem slot_odd (D : Bool) : slot (3 + k) D = slot (k + 1) D := by
  match k, hk with
  | 0, _ => rfl
  | 1, _ => rfl
  | 2, _ => rfl
theorem slot_even (D : Bool) : slot (3 + k + 1) D = slot k D := by
  match k, hk with
  | 0, _ => rfl
  | 1, _ => rfl
  | 2, _ => rfl

omit hk in
theorem send_eq (D : Bool) : sendPay (world X W) D c (3 + k) = ownS fullShare.left c (slot (3 + k + 1) D).view (qs X W D k c) := by
  unfold sendPay
  rw [if_neg (by omega)]
  show ownS fullShare.left c (slot (3 + k + 1) D).view (qs X W D (3 + k - 3) c) = _
  rw [Nat.add_sub_cancel_left]
omit hk in
theorem arr_eq (D : Bool) (g : Dev nD) : arr (world X W) D g (3 + k) = own g (slot (3 + k) D).view (qs X W D (k + 1) g) := by
  unfold arr
  rw [if_neg (by omega)]
  show own g (slot (3 + k) D).view (qs X W D (3 + k - 3) (nb (!D) g)) = _
  rw [Nat.add_sub_cancel_left]
  rfl
omit hk in omit [FloatOps F] in
theorem land_eq (D : Bool) (g : Dev nD) : (land D g (3 + k) : sProp 𝕄) = any g (slot (3 + k) D).view := if_neg (by omega)

end

section
variable {X : ∀ c : Dev nD, Buf (Elt F) ((c : Thread nD τ).loc main_arg0)} {W : ∀ c : Dev nD, Buf (Elt F) ((c : Thread nD τ).loc main_arg1)} {c : Dev nD}
  {kk : PR F α} {rest : List It} {k : ℕ} (hk : k < 3)
include hk

set_option maxHeartbeats 2000000 in
/-- The copies of step `k` of the gather: half of each slot goes with them. -/
theorem wp_hop {Q' : α → sProp 𝕄} {sA dA sB dB : WM .vmem S1024x4096 .i8} {n n' : Dev nD} {hsc ht hsc' ht'}
    (esA : sA.m.view = (slot k false).view) (edA : dA.m.view = (slot (k + 1) false).view) (esB : sB.m.view = (slot k true).view) (edB : dB.m.view = (slot (k + 1) true).view)
    (hn : n = sh 1 c) (hn' : n' = sh 3 c)
    (hNA : dA.m.view.amount (.dma cc0_scratch12.sem) = N2) (hNB : dB.m.view.amount (.dma cc0_scratch14.sem) = N2) :
    iprop(Ctx (world X W) ∗ RS c (3 + k) ∗ held X W c fullShare false k ∗ held X W c fullShare true k ∗ owing c (owe c (roundI (3 + k) rest)))
      ⊢ iprop((iprop(gmid c k ∗ held X W c fullShare.right false k ∗ held X W c fullShare.right true k ∗ owing c (owe c (mI 3 (3 + k + 1) :: mI 1 (3 + k + 1) :: rest))) -∗ wpc c kk Q')
          -∗ wpc c (rcp sA n dA cc0_scratch11.sem cc0_scratch12.sem (rcp sB n' dB cc0_scratch13.sem cc0_scratch14.sem kk hsc' ht') hsc ht) Q') := by
  have h6 : 3 + k < 6 := by omega
  have hNr : Nr (3 + k) = N2 := if_neg (by omega)
  have hsA : sendPay (world X W) false c (3 + k) = ownS fullShare.left c sA.m.view (qs X W false k c) := by rw [send_eq, slot_even hk, esA]
  have hsB : sendPay (world X W) true c (3 + k) = ownS fullShare.left c sB.m.view (qs X W true k c) := by rw [send_eq, slot_even hk, esB]
  have hlA : (land false (nb false c) (3 + k) : sProp 𝕄) = any (nb false c) dA.m.view := by rw [land_eq, slot_odd hk, edA]
  have hlB : (land true (nb true c) (3 + k) : sProp 𝕄) = any (nb true c) dB.m.view := by rw [land_eq, slot_odd hk, edB]
  have haA : arr (world X W) false (nb false c) (3 + k) = own (nb false c) dA.m.view (qs X W false k c) := by
    rw [arr_eq, slot_odd hk, edA]; show own _ _ (qs X W false k (nb (!false) (nb false c))) = _; rw [nb_nb']
  have haB : arr (world X W) true (nb true c) (3 + k) = own (nb true c) dB.m.view (qs X W true k c) := by
    rw [arr_eq, slot_odd hk, edB]; show own _ _ (qs X W true k (nb (!true) (nb true c))) = _; rw [nb_nb']
  have hpA : ownS fullShare.left c (slot k false).view (qs X W false k c) ⊢ sendPay (world X W) false c (3 + k) := by rw [hsA, esA]
  have hpB : ownS fullShare.left c (slot k true).view (qs X W true k c) ⊢ sendPay (world X W) true c (3 + k) := by rw [hsB, esB]
  unfold RS held gmid
  iintro ⟨#HC, ⟨D1, D2, Hat, #HM, Hf⟩, A, B, HO⟩ Hk
  ihave Hf := (fut_next c h6) $$ Hf
  icases Hf with ⟨Ht, Hf⟩
  unfold tok
  icases Ht with ⟨T1, T2, Tm⟩
  ihave A := (own_halve c _ _) $$ A
  icases A with ⟨Al, Ar⟩
  ihave B := (own_halve c _ _) $$ B
  icases B with ⟨Bl, Br⟩
  iapply (wp_ship (w := world X W) (r := 3 + k) false h6 hn rfl rfl (hNA.trans hNr.symm) hsA hlA haA) $$ [D1 T1 Al HO]
  · isplitr; · iexact HC
    isplitl [D1]; · iexact D1
    isplitr; · iexact HM
    isplitl [T1]; · iexact T1
    isplitl [Al]; · iapply hpA $$ Al
    iexact HO
  iintro ⟨D1, HO⟩
  iapply (wp_ship (w := world X W) (r := 3 + k) true h6 hn' rfl rfl (hNB.trans hNr.symm) hsB hlB haB) $$ [D2 T2 Bl HO]
  · isplitr; · iexact HC
    isplitl [D2]; · iexact D2
    isplitr; · iexact HM
    isplitl [T2]; · iexact T2
    isplitl [Bl]; · iapply hpB $$ Bl
    iexact HO
  iintro ⟨D2, HO⟩
  iapply Hk
  isplitl [D1 D2 Hat Tm Hf]
  · isplitl [D1 D2]
    · isplitl [D1]; · iexact D1
      iexact D2
    isplitl [Hat]; · iexact Hat
    isplitl [Tm]; · iexact Tm
    iexact Hf
  isplitl [Ar]; · iexact Ar
  isplitl [Br]; · iexact Br
  iexact HO

set_option maxHeartbeats 2000000 in
/-- The waits for them: the slots whole again, and what has come in. -/
theorem wp_drain {Q' : α → sProp 𝕄} {fa ta fb tb : WM .vmem S1024x4096 .i8}
    (hfa : fa.m.view.dmaCredit = N2) (hta : ta.m.view.dmaCredit = N2) (hfb : fb.m.view.dmaCredit = N2) (htb : tb.m.view.dmaCredit = N2)
    (ha : ab 0 rest = true) (ha' : ab (rix (3 + k)) rest = true) :
    iprop(Ctx (world X W) ∗ gmid c k ∗ held X W c fullShare.right false k ∗ held X W c fullShare.right true k ∗ owing c (owe c rest))
      ⊢ iprop((iprop(gend c k ∗ (any c (slot k false).view ∗ any c (slot k true).view) ∗ held X W c fullShare false (k + 1) ∗ held X W c fullShare true (k + 1)
            ∗ owing c (owe c rest)) -∗ wpc c kk Q')
          -∗ wpc c (drain fa ta fb tb kk) Q') := by
  have h6 : 3 + k < 6 := by omega
  have hNr : N2 = Nr (3 + k) := (if_neg (by omega)).symm
  have hs : ∀ D, iprop(sendPay (world X W) D c (3 + k) ∗ held X W c fullShare.right D k) ⊢ any c (slot k D).view := fun D => by
    rw [send_eq, slot_even hk]; unfold held
    exact (own_unhalve c _ _ _).trans (own_any c _ _)
  have hr : ∀ D, arr (world X W) D c (3 + k) ⊢ held X W c fullShare D (k + 1) := fun D => by
    rw [arr_eq, slot_odd hk]; exact BIBase.Entails.rfl
  unfold gmid gend
  iintro ⟨#HC, ⟨⟨D1, D2⟩, Hat, Tm, Hf⟩, A, B, HO⟩ Hk
  iapply (wp_done (w := world X W) (r := 3 + k) false h6 rfl rfl (hfa.trans hNr) (hta.trans hNr) ha ha') $$ [D1 HO]
  · isplitr; · iexact HC
    isplitl [D1]; · iexact D1
    iexact HO
  iintro ⟨D1, HO⟩
  iapply (wp_done (w := world X W) (r := 3 + k) true h6 rfl rfl (hfb.trans hNr) (htb.trans hNr) ha ha') $$ [D2 HO]
  · isplitr; · iexact HC
    isplitl [D2]; · iexact D2
    iexact HO
  iintro ⟨D2, HO⟩
  unfold dend dpos
  icases D1 with ⟨U1, V1, Y1, Z1, M1, B1, R1⟩
  icases D2 with ⟨U2, V2, Y2, Z2, M2, B2, R2⟩
  ihave A := (hs false) $$ [A B1]
  · isplitl [B1]; · iexact B1
    iexact A
  ihave B := (hs true) $$ [B B2]
  · isplitl [B2]; · iexact B2
    iexact B
  ihave R1 := (hr false) $$ R1
  ihave R2 := (hr true) $$ R2
  iapply Hk
  isplitl [U1 V1 Y1 Z1 M1 U2 V2 Y2 Z2 M2 Hat Tm Hf]
  · isplitl [U1 V1 Y1 Z1 M1]
    · isplitl [U1 V1 Y1]
      · isplitl [U1]; · iexact U1
        isplitl [V1]; · iexact V1
        iexact Y1
      isplitl [Z1]; · iexact Z1
      iexact M1
    isplitl [U2 V2 Y2 Z2 M2]
    · isplitl [U2 V2 Y2]
      · isplitl [U2]; · iexact U2
        isplitl [V2]; · iexact V2
        iexact Y2
      isplitl [Z2]; · iexact Z2
      iexact M2
    isplitl [Hat]; · iexact Hat
    isplitl [Tm]; · iexact Tm
    iexact Hf
  isplitl [A B]
  · isplitl [A]; · iexact A
    iexact B
  isplitl [R1]; · iexact R1
  isplitl [R2]; · iexact R2
  iexact HO

set_option maxHeartbeats 2000000 in
/-- The neighbours meet for the next step. -/
theorem wp_gturn {Q' : α → sProp 𝕄} (hk2 : k + 1 < 3) {dl dr : Dev nD} (hl : dl = sh 3 c) (hr : dr = sh 1 c) (ha : ab (mix (3 + k + 1)) rest = true) :
    iprop(Ctx (world X W) ∗ gend c k ∗ (any c (slot k false).view ∗ any c (slot k true).view) ∗ owing c (owe c (mI 3 (3 + k + 1) :: mI 1 (3 + k + 1) :: rest)))
      ⊢ iprop((iprop(RS c (3 + (k + 1)) ∗ owing c (owe c rest)) -∗ wpc c kk Q') -∗ wpc c (meet dl dr cc0_scratch17.sem kk) Q') := by
  have hla : ∀ D, (any c (slot k D).view : sProp 𝕄) ⊢ land D c (3 + k + 1) := fun D => by
    show _ ⊢ land D c (3 + (k + 1))
    rw [land_eq]; exact Entails.of_eq (by rw [show slot (3 + (k + 1)) D = slot k D from slot_even hk D])
  have he : ∀ D (g : Dev nD), (iprop(emp) : sProp 𝕄) ⊢ extra D g (3 + k + 1) := fun D g => by
    cases D
    · rw [show 3 + k + 1 = k + 2 + 2 by omega]; exact BIBase.Entails.rfl
    · rw [show 3 + k + 1 = k + 2 + 2 by omega]; exact BIBase.Entails.rfl
  unfold gend
  iintro ⟨#HC, ⟨⟨D1, Z1, M1⟩, ⟨D2, Z2, M2⟩, Hat, Tm, Hf⟩, ⟨A, B⟩, HO⟩ Hk
  iapply (wp_turn (w := world X W) (r := 3 + k) (by omega) hl hr rfl ha) $$ [D1 Z1 M1 D2 Z2 M2 Hat Tm Hf A B HO]
  · isplitr; · iexact HC
    isplitl [Tm]; · iexact Tm
    isplitl [Hf]; · iexact Hf
    isplitl [Hat]; · iexact Hat
    isplitl [D1 Z1 M1 A]
    · isplitl [D1]; · iexact D1
      isplitl [Z1]; · iexact Z1
      isplitl [M1]; · iexact M1
      isplitl [A]; · iapply (hla false) $$ A
      iapply (he false (nb true c)); iempintro
    isplitl [D2 Z2 M2 B]
    · isplitl [D2]; · iexact D2
      isplitl [Z2]; · iexact Z2
      isplitl [M2]; · iexact M2
      isplitl [B]; · iapply (hla true) $$ B
      iapply (he true (nb false c)); iempintro
    iexact HO
  iintro ⟨HR, -, -, HO⟩
  iapply Hk
  isplitl [HR]; · iexact HR
  iexact HO

end

section
variable {X : ∀ c : Dev nD, Buf (Elt F) ((c : Thread nD τ).loc main_arg0)} {W : ∀ c : Dev nD, Buf (Elt F) ((c : Thread nD τ).loc main_arg1)} {c : Dev nD} {kk : PR F α}

/-- Where the ring's cells stand in the end. -/
def gout (c : Dev nD) : sProp 𝕄 := iprop(dpos c false 6 ∗ dpos c true 6 ∗ atPos ER (mcell 1 c) 6 ∅ 0)

set_option maxHeartbeats 2000000 in
/-- The last meeting. -/
theorem wp_gdone {Q' : α → sProp 𝕄} {dl dr : Dev nD} (hl : dl = sh 3 c) (hr : dr = sh 1 c) :
    iprop(Ctx (world X W) ∗ gend c 2 ∗ owing c (owe c [mI 3 6, mI 1 6]))
      ⊢ iprop((iprop(gout c ∗ owing c (owe c [])) -∗ wpc c kk Q') -∗ wpc c (meet dl dr cc0_scratch17.sem kk) Q') := by
  have he : ∀ D (g : Dev nD), (iprop(emp) : sProp 𝕄) ⊢ meetPay D g 6 := fun D g => by
    unfold meetPay; rw [if_neg (by decide)]
  unfold gend gout
  iintro ⟨#HC, ⟨⟨D1, -, #M1⟩, ⟨D2, -, #M2⟩, Hat, Tm, -⟩, HO⟩ Hk
  iapply (wp_meet (w := world X W) (j := 6) (by decide) hl hr rfl (rest := []) rfl) $$ [Hat Tm HO]
  · isplitr; · iexact HC
    isplitl [Tm]; · iexact Tm
    isplitr; · iexact M1
    isplitr; · iexact M2
    isplitl [Hat]; · iexact Hat
    isplitr; · (iapply (he false (nb true c)); iempintro)
    isplitr; · (iapply (he true (nb false c)); iempintro)
    iexact HO
  iintro ⟨HO, Hat, -, -, -⟩
  iapply Hk
  isplitr [HO]
  · isplitl [D1]; · iexact D1
    isplitl [D2]; · iexact D2
    iexact Hat
  iexact HO

end

end Cert.KProof
-- ==== Proof.Gather.lean ====
module

public import proofs.«01_k».proof.Proof.Hop

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-! ### The body -/

section
variable (X : ∀ c : Dev nD, Buf (Elt F) ((c : Thread nD τ).loc main_arg0)) (W : ∀ c : Dev nD, Buf (Elt F) ((c : Thread nD τ).loc main_arg1)) (c : Dev nD)

/-- The tiles of the result but for the device's own chunk, in the order in which they are written: whatever they hold, -/
def restA : sProp 𝕄 :=
  iprop((apair c false (sh 4 c) ∗ apair c true (sh 0 c)) ∗ (apair c false (sh 3 c) ∗ apair c true (sh 1 c)) ∗ (apair c false (sh 2 c) ∗ apair c true (sh 2 c)))
/-- and in the end. -/
def restO : sProp 𝕄 :=
  iprop((opair X W c false (sh 4 c) ∗ opair X W c true (sh 0 c)) ∗ (opair X W c false (sh 3 c) ∗ opair X W c true (sh 1 c)) ∗ (opair X W c false (sh 2 c) ∗ opair X W c true (sh 2 c)))

/-- The slots, whatever they hold. -/
def slots : sProp 𝕄 := iprop((any c (q0 qaM).view ∗ any c (q1 qaM).view) ∗ (any c (q0 qbM).view ∗ any c (q1 qbM).view))

end

theorem around_A (r : Fin 3) (c : Dev nD) : srcOf false (sh (4 - r.val) c) = (nb true)^[r.val + 1] c := by revert r c; decide
theorem around_B (r : Fin 3) (c : Dev nD) : srcOf true (sh r.val c) = (nb false)^[r.val + 1] c := by revert r c; decide

section
variable {X : ∀ c : Dev nD, Buf (Elt F) ((c : Thread nD τ).loc main_arg0)} {W : ∀ c : Dev nD, Buf (Elt F) ((c : Thread nD τ).loc main_arg1)} {c : Dev nD} {kk : PR F α}

set_option maxHeartbeats 4000000 in
/-- The gather: the quantised chunks once around the ring. -/
theorem wp_gather {Q' : α → sProp 𝕄} :
    iprop(Ctx (world X W) ∗ Scr c ∗ RS c 3 ∗ (held X W c fullShare false 0 ∗ held X W c fullShare true 0) ∗ restA c ∗ owing c (owe c todoG))
      ⊢ iprop((iprop(Scr c ∗ gout c ∗ slots c ∗ restO X W c ∗ owing c (owe c [])) -∗ wpc c kk Q') -∗ wpc c (gather c (sc X W) kk) Q') := by
  have hany : ∀ D, held X W c fullShare D 3 ⊢ any c (q1 (qV D)).view := fun D => own_any c _ _
  have ab0 : ab 0 (mI 3 4 :: mI 1 4 :: roundI 4 (roundI 5 [])) = true := rfl
  have ab1 : ab 0 (mI 3 5 :: mI 1 5 :: roundI 5 []) = true := rfl
  have ab2 : ab 0 [mI 3 6, mI 1 6] = true := rfl
  have ab3 : ab 0 [] = true := rfl
  unfold restA restO slots gather
  iintro ⟨#HC, HS, HR, ⟨A, B⟩, ⟨⟨OA1, OB1⟩, ⟨OA2, OB2⟩, OA3, OB3⟩, HO⟩ Hk
  ihave #HL := (ctx_lev (world X W)) $$ HC
  iapply (wp_hop (X := X) (W := W) (k := 0) (rest := roundI 4 (roundI 5 [])) (by decide) rfl rfl rfl rfl (dev10_eq c) (dev11_eq c) rfl rfl) $$ [HR A B HO]
  · isplitr; · iexact HC
    isplitl [HR]; · iexact HR
    isplitl [A]; · iexact A
    isplitl [B]; · iexact B
    iexact HO
  iintro ⟨HG, A, B, HO⟩
  iapply (wp_drain (X := X) (W := W) (k := 0) (rest := mI 3 4 :: mI 1 4 :: roundI 4 (roundI 5 [])) (by decide) rfl rfl rfl rfl ab0 rfl) $$ [HG A B HO]
  · isplitr; · iexact HC
    isplitl [HG]; · iexact HG
    isplitl [A]; · iexact A
    isplitl [B]; · iexact B
    iexact HO
  iintro ⟨HG, HE, A, B, HO⟩
  iapply (wp_gturn (X := X) (W := W) (k := 0) (rest := roundI 4 (roundI 5 [])) (by decide) (by decide) (dev12_eq c) (dev13_eq c) rfl) $$ [HG HE HO]
  · isplitr; · iexact HC
    isplitl [HG]; · iexact HG
    isplitl [HE]; · iexact HE
    iexact HO
  iintro ⟨HR, HO⟩
  iapply (wp_hop (X := X) (W := W) (k := 1) (rest := roundI 5 []) (by decide) rfl rfl rfl rfl (dev14_eq c) (dev15_eq c) rfl rfl) $$ [HR A B HO]
  · isplitr; · iexact HC
    isplitl [HR]; · iexact HR
    isplitl [A]; · iexact A
    isplitl [B]; · iexact B
    iexact HO
  iintro ⟨HG, A, B, HO⟩
  ihave #HM := (mayWaits (c := c) ab1) $$ HL
  iapply (wp_deq1At (X := X) (W := W) (x1 := k0_off11 c 1#32 1#32) (x2 := k0_off12 c 1#32 1#32) (x3 := k0_off13 c 1#32 1#32) (x4 := k0_off14 c 1#32 1#32)
      (jA := sh 4 c) (jB := sh 0 c) (s := 1) (sh := fullShare.right) (off11_eq c 0) (off12_eq c 0) (off13_eq c 0) (off14_eq c 0) rfl (around_A 0 c) (around_B 0 c)) $$ [HS A B OA1 OB1 HO]
  · isplitl [HS]; · iexact HS
    isplitl [A]; · iexact A
    isplitl [B]; · iexact B
    isplitl [OA1]; · iexact OA1
    isplitl [OB1]; · iexact OB1
    isplitl [HO]; · iexact HO
    iexact HM
  iintro ⟨HS, A, B, OA1, OB1, HO⟩
  iapply (wp_drain (X := X) (W := W) (k := 1) (rest := mI 3 5 :: mI 1 5 :: roundI 5 []) (by decide) rfl rfl rfl rfl ab1 rfl) $$ [HG A B HO]
  · isplitr; · iexact HC
    isplitl [HG]; · iexact HG
    isplitl [A]; · iexact A
    isplitl [B]; · iexact B
    iexact HO
  iintro ⟨HG, HE, A, B, HO⟩
  iapply (wp_gturn (X := X) (W := W) (k := 1) (rest := roundI 5 []) (by decide) (by decide) (dev16_eq c) (dev17_eq c) rfl) $$ [HG HE HO]
  · isplitr; · iexact HC
    isplitl [HG]; · iexact HG
    isplitl [HE]; · iexact HE
    iexact HO
  iintro ⟨HR, HO⟩
  iapply (wp_hop (X := X) (W := W) (k := 2) (rest := []) (by decide) rfl rfl rfl rfl (dev18_eq c) (dev19_eq c) rfl rfl) $$ [HR A B HO]
  · isplitr; · iexact HC
    isplitl [HR]; · iexact HR
    isplitl [A]; · iexact A
    isplitl [B]; · iexact B
    iexact HO
  iintro ⟨HG, A, B, HO⟩
  ihave #HM := (mayWaits (c := c) ab2) $$ HL
  iapply (wp_deq0At (X := X) (W := W) (x1 := k0_off11 c 2#32 1#32) (x2 := k0_off12 c 2#32 1#32) (x3 := k0_off13 c 2#32 1#32) (x4 := k0_off14 c 2#32 1#32)
      (jA := sh 3 c) (jB := sh 1 c) (s := 2) (sh := fullShare.right) (off11_eq c 1) (off12_eq c 1) (off13_eq c 1) (off14_eq c 1) rfl (around_A 1 c) (around_B 1 c)) $$ [HS A B OA2 OB2 HO]
  · isplitl [HS]; · iexact HS
    isplitl [A]; · iexact A
    isplitl [B]; · iexact B
    isplitl [OA2]; · iexact OA2
    isplitl [OB2]; · iexact OB2
    isplitl [HO]; · iexact HO
    iexact HM
  iintro ⟨HS, A, B, OA2, OB2, HO⟩
  iapply (wp_drain (X := X) (W := W) (k := 2) (rest := mI 3 6 :: mI 1 6 :: []) (by decide) rfl rfl rfl rfl ab2 rfl) $$ [HG A B HO]
  · isplitr; · iexact HC
    isplitl [HG]; · iexact HG
    isplitl [A]; · iexact A
    isplitl [B]; · iexact B
    iexact HO
  iintro ⟨HG, HE, A, B, HO⟩
  iapply (wp_gdone (X := X) (W := W) (dev20_eq c) (dev21_eq c)) $$ [HG HO]
  · isplitr; · iexact HC
    isplitl [HG]; · iexact HG
    iexact HO
  iintro ⟨HG, HO⟩
  ihave #HM := (mayWaits (c := c) ab3) $$ HL
  iapply (wp_deq1At (X := X) (W := W) (x1 := k0_off11 c 4#32 2#32) (x2 := k0_off12 c 4#32 2#32) (x3 := k0_off13 c 4#32 2#32) (x4 := k0_off14 c 4#32 2#32)
      (jA := sh 2 c) (jB := sh 2 c) (s := 3) (sh := fullShare) (off11_eq c 2) (off12_eq c 2) (off13_eq c 2) (off14_eq c 2) rfl (around_A 2 c) (around_B 2 c)) $$ [HS A B OA3 OB3 HO]
  · isplitl [HS]; · iexact HS
    isplitl [A]; · iexact A
    isplitl [B]; · iexact B
    isplitl [OA3]; · iexact OA3
    isplitl [OB3]; · iexact OB3
    isplitl [HO]; · iexact HO
    iexact HM
  iintro ⟨HS, A, B, OA3, OB3, HO⟩
  ihave A := (hany false) $$ A
  ihave B := (hany true) $$ B
  icases HE with ⟨EA, EB⟩
  iapply Hk
  isplitl [HS]; · iexact HS
  isplitl [HG]; · iexact HG
  isplitl [EA A EB B]
  · isplitl [EA A]
    · isplitl [EA]; · iexact EA
      iexact A
    isplitl [EB]; · iexact EB
    iexact B
  isplitl [OA1 OB1 OA2 OB2 OA3 OB3]
  · isplitl [OA1 OB1]
    · isplitl [OA1]; · iexact OA1
      iexact OB1
    isplitl [OA2 OB2]
    · isplitl [OA2]; · iexact OA2
      iexact OB2
    isplitl [OA3]; · iexact OA3
    iexact OB3
  iexact HO

end

end Cert.KProof
-- ==== Proof.Body.lean ====
module

public import proofs.«01_k».proof.Proof.Gather

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-! ### A device's run, from start to end -/

theorem nb_A (c : Dev nD) : nb false (nb true c) = c := by revert c; decide
theorem sh_1_3 (c : Dev nD) : sh 1 (sh 3 c) = c := by revert c; decide
theorem sh_3_1 (c : Dev nD) : sh 3 (sh 1 c) = c := by revert c; decide
theorem sh_3_3 (c : Dev nD) : sh 3 (sh 3 c) = sh 2 c := by revert c; decide

section
variable (X : ∀ c : Dev nD, Buf (Elt F) ((c : Thread nD τ).loc main_arg0)) (W : ∀ c : Dev nD, Buf (Elt F) ((c : Thread nD τ).loc main_arg1)) (c : Dev nD)

/-- What the protocol gives a device at the start; -/
def pstart : sProp 𝕄 :=
  iprop((mtok c 0 ∗ fut c 0) ∗ (abef c 0 ∗ abef c 1 ∗ abef c 2) ∗ (atPos ER (mcell 0 c) 0 ∅ 0 ∗ atPos ER (mcell 1 c) 0 ∅ 0)
    ∗ (atPos ER (scell false c) 0 ∅ 0 ∗ atPos ER (rcell false c) 0 ∅ 0) ∗ (atPos ER (scell true c) 0 ∅ 0 ∗ atPos ER (rcell true c) 0 ∅ 0))
/-- its buffers; -/
def bufs : sProp 𝕄 :=
  iprop((any c accA.view ∗ any c accB.view) ∗ (any c pacA.view ∗ any c pacB.view) ∗ (any c rcvA.view ∗ any c rcvB.view) ∗ slots c ∗ any c amM.view)
/-- and the tiles of the result. -/
def outA : sProp 𝕄 := iprop((apair c false (sh 1 c) ∗ apair c true (sh 3 c)) ∗ restA c)
def outO : sProp 𝕄 := iprop((opair X W c false (sh 1 c) ∗ opair X W c true (sh 3 c)) ∗ restO X W c)

/-- Where the protocol's cells stand in the end. -/
def pend : sProp 𝕄 := iprop(gout c ∗ (aft c 0 ∗ aft c 1 ∗ aft c 2) ∗ atPos ER (mcell 0 c) 1 ∅ 0)

omit [FloatOps F] in
/-- The table in its rows. -/
theorem rows_split : (any c amM.view : sProp 𝕄)
    ⊢ iprop(any c (rowV c).m.view ∗ any c (rowV (sh 3 c)).m.view ∗ any c (rowV (sh 2 c)).m.view ∗ any c (rowV (sh 1 c)).m.view) := by
  refine (any_full c amM.view (off := ![0, 0]) (h := inbR)).trans ((any_split c amM.view rowT).trans ?_)
  rw [ring4 (fun j => any c (amM.view.slice (Rect.unit (s := S4x128) ![j.val, 0] S1x128.size (row_inb j)))) c]

omit [FloatOps F] in
/-- The rows it gives to the left, -/
theorem extra_left : (iprop(any c (rowV (sh 3 c)).m.view ∗ any c (rowV (sh 2 c)).m.view) : sProp 𝕄) ⊢ extra false (nb true c) 0 := by
  have h : (extra false (nb true c) 0 : sProp 𝕄) = iprop(any (sh 1 (sh 3 c)) (rowV (sh 3 c)).m.view ∗ any (sh 1 (sh 3 c)) (rowV (sh 3 (sh 3 c))).m.view) := rfl
  rw [h, sh_1_3, sh_3_3]
omit [FloatOps F] in
/-- and to the right. -/
theorem extra_right : (any c (rowV (sh 1 c)).m.view : sProp 𝕄) ⊢ extra true (nb false c) 0 := by
  have h : (extra true (nb false c) 0 : sProp 𝕄) = any (sh 3 (sh 1 c)) (rowV (sh 1 c)).m.view := rfl
  rw [h, sh_3_1]

end

section
variable {X : ∀ c : Dev nD, Buf (Elt F) ((c : Thread nD τ).loc main_arg0)} {W : ∀ c : Dev nD, Buf (Elt F) ((c : Thread nD τ).loc main_arg1)} {c : Dev nD}

set_option maxHeartbeats 4000000 in
/-- The first meeting. -/
theorem wp_open {α : Type} {k : PR F α} {Q : α → sProp 𝕄} {dl dr : Dev nD} {s : Sem sig} (hl : dl = sh 3 c) (hr : dr = sh 1 c) (hs : s = mS 0) :
    iprop(Ctx (world X W) ∗ (mtok c 0 ∗ fut c 0) ∗ (atPos ER (mcell 0 c) 0 ∅ 0 ∗ atPos ER (mcell 1 c) 0 ∅ 0)
        ∗ (atPos ER (scell false c) 0 ∅ 0 ∗ atPos ER (rcell false c) 0 ∅ 0) ∗ (atPos ER (scell true c) 0 ∅ 0 ∗ atPos ER (rcell true c) 0 ∅ 0)
        ∗ (any c rcvA.view ∗ any c rcvB.view) ∗ any c amM.view ∗ owing c (owe c todo0))
      ⊢ iprop((iprop(RS c 0 ∗ last c 0 ∗ (any c (rowV c).m.view ∗ any (sh 1 c) (rowV c).m.view ∗ any (sh 3 c) (rowV c).m.view)
            ∗ atPos ER (mcell 0 c) 1 ∅ 0 ∗ owing c (owe c (todo 3))) -∗ wpc c k Q)
          -∗ wpc c (meet dl dr s k) Q) := by
  have hlA : (any c rcvA.view : sProp 𝕄) ⊢ land false c 0 := BIBase.Entails.rfl
  have hlB : (any c rcvB.view : sProp 𝕄) ⊢ land true c 0 := BIBase.Entails.rfl
  have hxF : (extra false c 0 : sProp 𝕄) ⊢ iprop(any (sh 1 c) (rowV c).m.view ∗ last c 0) := BIBase.Entails.rfl
  have hxT : (extra true c 0 : sProp 𝕄) ⊢ any (sh 3 c) (rowV c).m.view := BIBase.Entails.rfl
  iintro ⟨#HC, ⟨Tm, Hf⟩, ⟨P0, P1⟩, ⟨SA, RA⟩, ⟨SB, RB⟩, ⟨LA, LB⟩, HT, HO⟩ Hk
  ihave #HN := (ctx_net (world X W)) $$ HC
  ihave HT := (rows_split c) $$ HT
  icases HT with ⟨T0, T3, T2, T1⟩
  iapply (wp_meet (w := world X W) (j := 0) (rest := todo 3) (by decide) hl hr hs rfl) $$ [Tm P0 LA LB T3 T2 T1 HO]
  · isplitr; · iexact HC
    isplitl [Tm]; · iexact Tm
    isplitr
    · ihave #H := (net_m (world X W) 0 (sh 3 c)) $$ HN
      unfold has; icases H with ⟨-, #H⟩; iexact H
    isplitr
    · ihave #H := (net_m (world X W) 0 (sh 1 c)) $$ HN
      unfold has; icases H with ⟨-, #H⟩; iexact H
    isplitl [P0]; · iexact P0
    isplitl [LA T3 T2]
    · iapply (give (c := c) false (by decide : 0 < 6))
      isplitl [LA]; · iapply hlA $$ LA
      isplitr
      · ihave #H := (net_r (world X W) false c) $$ HN
        unfold has; icases H with ⟨-, #H⟩; iexact H
      iapply (extra_left c)
      isplitl [T3]; · iexact T3
      iexact T2
    isplitl [LB T1]
    · iapply (give (c := c) true (by decide : 0 < 6))
      isplitl [LB]; · iapply hlB $$ LB
      isplitr
      · ihave #H := (net_r (world X W) true c) $$ HN
        unfold has; icases H with ⟨-, #H⟩; iexact H
      iapply (extra_right c) $$ T1
    iexact HO
  iintro ⟨HO, P0, -, M1, M2⟩
  ihave M1 := (gain false (by decide : 0 < 6)) $$ M1
  ihave M2 := (gain true (by decide : 0 < 6)) $$ M2
  icases M1 with ⟨L1, Q1, E1⟩
  icases M2 with ⟨L2, Q2, E2⟩
  ihave E1 := hxF $$ E1
  icases E1 with ⟨E1, EL⟩
  ihave E2 := hxT $$ E2
  iapply Hk
  isplitl [P1 SA RA SB RB L1 Q1 L2 Q2 Hf]
  · unfold RS dst
    isplitl [SA RA L1 Q1]
    · isplitl [SA]; · iexact SA
      isplitr
      · ihave #H := (net_s (world X W) false c) $$ HN
        unfold has; icases H with ⟨-, #H⟩; iexact H
      isplitl [RA]; · iexact RA
      isplitl [Q1]; · iexact Q1
      iexact L1
    isplitl [SB RB L2 Q2]
    · isplitl [SB]; · iexact SB
      isplitr
      · ihave #H := (net_s (world X W) true c) $$ HN
        unfold has; icases H with ⟨-, #H⟩; iexact H
      isplitl [RB]; · iexact RB
      isplitl [Q2]; · iexact Q2
      iexact L2
    isplitl [P1]; · iexact P1
    isplitr
    · ihave #H := (net_m (world X W) 1 c) $$ HN
      unfold has; icases H with ⟨-, #H⟩; iexact H
    iexact Hf
  isplitl [EL]; · iexact EL
  isplitl [T0 E1 E2]
  · isplitl [T0]; · iexact T0
    isplitl [E1]; · iexact E1
    iexact E2
  isplitl [P0]; · iexact P0
  iexact HO

set_option maxHeartbeats 4000000 in
/-- The whole body. -/
theorem wp_body {Q : PUnit → sProp 𝕄} :
    iprop(Ctx (world X W) ∗ Scr c ∗ args X W c ∗ pstart c ∗ bufs c ∗ outA c ∗ owing c (owe c todo0))
      ⊢ iprop((iprop(Scr c ∗ args X W c ∗ pend c ∗ slots c ∗ any c amM.view ∗ outO X W c ∗ owing c (owe c [])) -∗ Q ⟨⟩) -∗ wpc c (bodyP c) Q) := by
  have ab0 : ab 0 todo0 = true := rfl
  have ab1 : ab 0 todoG = true := rfl
  have e0 : (![0, 0] : Fin 2 → ℕ) = ![0, 2048 * (col false 0).val] := rfl
  have hkA : (any c (q1 qaM).view : sProp 𝕄) ⊢ keep c false 0 := BIBase.Entails.rfl
  have hkB : (any c (q1 qbM).view : sProp 𝕄) ⊢ keep c true 0 := BIBase.Entails.rfl
  have huA : (any c pacA.view : sProp 𝕄) ⊢ pac X W c false 0 := BIBase.Entails.rfl
  have huB : (any c pacB.view : sProp 𝕄) ⊢ pac X W c true 0 := BIBase.Entails.rfl
  have hlast : (last c 3 : sProp 𝕄) ⊢ any (sh 2 c) (rowV c).m.view := BIBase.Entails.rfl
  have hpA : pac X W c false 3 ⊢ own c pacA.view (glue (part X W 2 false c 0) (part X W 2 false c 1)) := BIBase.Entails.rfl
  have hpB : pac X W c true 3 ⊢ own c pacB.view (glue (part X W 2 true c 0) (part X W 2 true c 1)) := BIBase.Entails.rfl
  unfold pstart bufs slots outA outO pend bodyP
  iintro ⟨#HC, HS, HA, ⟨T0, TA, P0, PA, PB⟩, ⟨⟨A, B⟩, ⟨U, V⟩, LL, ⟨⟨SA0, SA1⟩, ⟨SB0, SB1⟩⟩, HT⟩, ⟨OA, OR⟩, HO⟩ Hk
  ihave #HL := (ctx_lev (world X W)) $$ HC
  ihave #HM := (mayWaits (c := c) ab0) $$ HL
  ihave A := (cols_any c) $$ A
  icases A with ⟨A0, A1⟩
  ihave B := (cols_any c) $$ B
  icases B with ⟨B0, B1⟩
  iapply (wp_gemmBAt X W c (k0_off1_eq c) (n0 := col false 0) (n1 := col false 1) (o0 := ![0, 0]) (o1 := ![0, 2048]) rfl rfl) $$ [HS HA A0 A1 HO]
  · isplitl [HS]; · iexact HS
    isplitl [HA]; · iexact HA
    isplitl [A0]; · iexact A0
    isplitl [A1]; · iexact A1
    isplitl [HO]; · iexact HO
    iexact HM
  iintro ⟨HS, HA, A0, A1, HO⟩
  iapply (wp_gemmBAt X W c (k0_off1_eq c) (n0 := col true 0) (n1 := col true 1) (o0 := ![0, 4096]) (o1 := ![0, 6144]) rfl rfl) $$ [HS HA B0 B1 HO]
  · isplitl [HS]; · iexact HS
    isplitl [HA]; · iexact HA
    isplitl [B0]; · iexact B0
    isplitl [B1]; · iexact B1
    isplitl [HO]; · iexact HO
    iexact HM
  iintro ⟨HS, HA, B0, B1, HO⟩
  ihave A := (cols_join c (m := accA) _ _) $$ [A0 A1]
  · isplitl [A0]; · iexact A0
    iexact A1
  ihave B := (cols_join c (m := accB) _ _) $$ [B0 B1]
  · isplitl [B0]; · iexact B0
    iexact B1
  iapply (wp_open (X := X) (W := W) (dev1_eq c) (dev2_eq c) rfl) $$ [T0 P0 PA PB LL HT HO]
  · isplitr; · iexact HC
    isplitl [T0]; · iexact T0
    isplitl [P0]; · iexact P0
    isplitl [PA]; · iexact PA
    isplitl [PB]; · iexact PB
    isplitl [LL]; · iexact LL
    isplitl [HT]; · iexact HT
    iexact HO
  iintro ⟨HR, EL, ⟨R0, R1, R3⟩, P0, HO⟩
  iapply (wp_steps (X := X) (W := W) (c := c)) $$ [HS HA A U SA1 B V SB1 HR EL HO]
  · unfold Inv
    isplitr; · (ipureintro; rfl)
    isplitr; · iexact HC
    isplitl [HS]; · iexact HS
    isplitl [HA]; · iexact HA
    isplitl [A U SA1]
    · isplitl [A]; · iexact A
      isplitl [U]; · iapply huA $$ U
      iapply hkA $$ SA1
    isplitl [B V SB1]
    · isplitl [B]; · iexact B
      isplitl [V]; · iapply huB $$ V
      iapply hkB $$ SB1
    isplitl [HR]; · iexact HR
    isplitl [EL]; · iexact EL
    iexact HO
  iintro %v H
  unfold Inv
  icases H with ⟨%hv, -, HS, HA, ⟨-, U, -⟩, ⟨-, V, -⟩, HR, EL, HO⟩
  subst hv
  ihave EL := hlast $$ EL
  ihave U := hpA $$ U
  ihave V := hpB $$ V
  iapply (wp_amax (X := X) (W := W)) $$ [TA R0 R1 R3 EL HO]
  · isplitr; · iexact HC
    isplitl [TA]; · iexact TA
    isplitl [R0 R1 R3 EL]
    · isplitl [R0]; · iexact R0
      isplitl [R1]; · iexact R1
      isplitl [EL]; · iexact EL
      iexact R3
    iexact HO
  iintro ⟨TA, HT, HO⟩
  ihave #HM := (mayWaits (c := c) ab1) $$ HL
  iapply (wp_quan4 (X := X) (W := W)) $$ [HS U V SA0 SB0 OA HO]
  · isplitl [HS]; · iexact HS
    isplitl [U V]
    · isplitl [U]; · iexact U
      iexact V
    isplitl [SA0 SB0]
    · isplitl [SA0]; · iexact SA0
      iexact SB0
    isplitl [OA]; · iexact OA
    isplitl [HO]; · iexact HO
    iexact HM
  iintro ⟨HS, HH, OA, HO⟩
  iapply (wp_gather (X := X) (W := W)) $$ [HS HR HH OR HO]
  · isplitr; · iexact HC
    isplitl [HS]; · iexact HS
    isplitl [HR]; · iexact HR
    isplitl [HH]; · iexact HH
    isplitl [OR]; · iexact OR
    iexact HO
  iintro ⟨HS, HG, HL', OR, HO⟩
  simp only [wp_ret]
  imodintro
  iapply Hk
  isplitl [HS]; · iexact HS
  isplitl [HA]; · iexact HA
  isplitl [HG TA P0]
  · isplitl [HG]; · iexact HG
    isplitl [TA]; · iexact TA
    iexact P0
  isplitl [HL']; · (unfold slots; iexact HL')
  isplitl [HT]; · iexact HT
  isplitl [OA OR]
  · isplitl [OA]; · iexact OA
    iexact OR
  iexact HO

end

end Cert.KProof
-- ==== Proof.Deal.lean ====
module

public import proofs.«01_k».proof.Proof.Body
public import Idealize.ShloMosaic.Lib.Pipeline.Launch
public import Idealize.ShloMosaic.Lib.Pipeline.Kit

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-! ### The tokens -/

set_option backward.proofsInPublic true in
/-- The devices turned `k` places to the right. -/
def turn (k : ℕ) : Dev nD ≃ Dev nD where
  toFun := sh k
  invFun := sh (3 * k)
  left_inv c := Fin.ext (by have h : c.val < 4 := c.isLt; show ((c.val + k) % 4 + 3 * k) % 4 = c.val; omega)
  right_inv c := Fin.ext (by have h : c.val < 4 := c.isLt; show ((c.val + 3 * k) % 4 + k) % 4 = c.val; omega)

/-- A duty of a device's cells: the cell, the round and the duty. -/
abbrev TI : Type := Fin 12 × Fin 6 × Bool

/-- Where the cell lies whose duty a device pays. -/
def hop (x : TI) : Dev nD ≃ Dev nD :=
  (![bif x.2.2 then turn 1 else turn 3, bif x.2.2 then turn 1 else turn 3, Equiv.refl _, turn 1, Equiv.refl _, turn 3,
    Equiv.refl _, Equiv.refl _, Equiv.refl _, turn 1, turn 2, turn 3] : Fin 12 → Dev nD ≃ Dev nD) x.1

/-- From the payer to the owner. -/
def payer : Dev nD × TI ≃ Dev nD × TI where
  toFun p := (hop p.2 p.1, p.2)
  invFun p := ((hop p.2).symm p.1, p.2)
  left_inv p := by ext1; exact (hop p.2).symm_apply_apply p.1; rfl
  right_inv p := by ext1; exact (hop p.2).apply_symm_apply p.1; rfl

theorem sm12_inj : Function.Injective sm12 := by decide
theorem kcell_inj : Function.Injective kcell := by
  rintro ⟨c, k⟩ ⟨c', k'⟩ h
  have h1 : c = c' := congrArg (fun g : GSem nD τ sig => g.1.1) h
  have h2 : k = k' := sm12_inj (congrArg Prod.snd h)
  rw [h1, h2]

/-- The token of a duty of a device's own cell. -/
abbrev tokAt (p : Dev nD × TI) : GSem nD τ sig × ℕ × Bool := (kcell (p.1, p.2.1), p.2.2.1.val, p.2.2.2)
theorem tokAt_inj : Function.Injective tokAt := by
  rintro ⟨c, i, r, d⟩ ⟨c', i', r', d'⟩ h
  have h0 : (c, i) = (c', i') := kcell_inj (congrArg Prod.fst h)
  have h1 : r = r' := Fin.ext (congrArg (fun x => x.2.1) h)
  have h2 : d = d' := congrArg (fun x => x.2.2) h
  obtain ⟨rfl, rfl⟩ := Prod.mk.injEq .. ▸ h0
  rw [h1, h2]

def allCells : Finset (GSem nD τ sig) := Finset.univ.map ⟨kcell, kcell_inj⟩
def allToks : Finset (GSem nD τ sig × ℕ × Bool) := Finset.univ.map ⟨tokAt, tokAt_inj⟩

/-- The tokens of a device's own cells, -/
def ownToks (c : Dev nD) : sProp 𝕄 := bigSep Finset.univ fun x : TI => dutyTok ER (kcell (c, x.1)) x.2.1.val x.2.2
/-- and those it pays with. -/
def payToks (c : Dev nD) : sProp 𝕄 := bigSep Finset.univ fun x : TI => dutyTok ER (kcell (hop x c, x.1)) x.2.1.val x.2.2

omit [FloatOps F] in
theorem toks_dealt : (bigSep Finset.univ fun c : Dev nD => (ownToks c : sProp 𝕄)) ⊢ bigSep Finset.univ fun c : Dev nD => payToks c := by
  unfold ownToks payToks
  rw [← bigSep_univ_prod (fun p : Dev nD × TI => (dutyTok ER (kcell (p.1, p.2.1)) p.2.2.1.val p.2.2.2 : sProp 𝕄)),
    bigSep_univ_equiv payer, ← bigSep_univ_prod (fun p : Dev nD × TI => (dutyTok ER (kcell (hop p.2 p.1, p.2.1)) p.2.2.1.val p.2.2.2 : sProp 𝕄))]
  exact BIBase.Entails.rfl

section
variable (c : Dev nD)

/-- The tokens of the duties of one of the cells. -/
def cellToks (i : Fin 12) : sProp 𝕄 := bigSep Finset.univ fun x : Fin 6 × Bool => dutyTok ER (kcell (hop (i, x) c, i)) x.1.val x.2

omit [FloatOps F] in
theorem one (i : Fin 12) (r : Fin 6) (d : Bool) : (cellToks c i : sProp 𝕄) ⊢ dutyTok ER (kcell (hop (i, r, d) c, i)) r.val d := by
  unfold cellToks; exact BI.bigSep_elim (Φ := fun x : Fin 6 × Bool => (dutyTok ER (kcell (hop (i, x) c, i)) x.1.val x.2 : sProp 𝕄)) (Finset.mem_univ (r, d))

omit [FloatOps F] in
theorem many (i : Fin 12) (d : Bool) : (cellToks c i : sProp 𝕄) ⊢ bigSep Finset.univ fun r : Fin 6 => dutyTok ER (kcell (hop (i, r, d) c, i)) r.val d := by
  have h : ∀ r : Fin 6, (bigSep Finset.univ fun d : Bool => (dutyTok ER (kcell (hop (i, r, d) c, i)) r.val d : sProp 𝕄)) ⊢ dutyTok ER (kcell (hop (i, r, d) c, i)) r.val d :=
    fun r => BI.bigSep_elim (Φ := fun d : Bool => (dutyTok ER (kcell (hop (i, r, d) c, i)) r.val d : sProp 𝕄)) (Finset.mem_univ d)
  unfold cellToks
  rw [bigSep_univ_prod]
  exact bigSep_mono fun r _ => h r

omit [FloatOps F] in
theorem both (i : Fin 12) : (cellToks c i : sProp 𝕄)
    ⊢ bigSep Finset.univ fun r : Fin 6 => iprop(dutyTok ER (kcell (hop (i, r, false) c, i)) r.val false ∗ dutyTok ER (kcell (hop (i, r, true) c, i)) r.val true) := by
  have h : ∀ r : Fin 6, (bigSep Finset.univ fun d : Bool => (dutyTok ER (kcell (hop (i, r, d) c, i)) r.val d : sProp 𝕄))
      ⊢ iprop(dutyTok ER (kcell (hop (i, r, false) c, i)) r.val false ∗ dutyTok ER (kcell (hop (i, r, true) c, i)) r.val true) := fun r => by
    rw [bigSep_univ_eq_bigSepL [false, true] (by decide) (by decide)]
    exact BIBase.Entails.rfl
  unfold cellToks
  rw [bigSep_univ_prod]
  exact bigSep_mono fun r _ => h r

/-- The tokens of a round and the meeting after it. -/
def tok6 (r : ℕ) : sProp 𝕄 :=
  iprop(dutyTok ER (scell false c) r false ∗ dutyTok ER (rcell false (nb false c)) r false ∗ dutyTok ER (scell true c) r false ∗ dutyTok ER (rcell true (nb true c)) r false
    ∗ dutyTok ER (mcell 1 (sh 3 c)) r false ∗ dutyTok ER (mcell 1 (sh 1 c)) r true)
/-- The tokens of a row. -/
def tokA (k : Fin 3) : sProp 𝕄 := iprop(dutyTok ER (ascell k c) 0 false ∗ dutyTok ER (arcell k (sh (k.val + 1) c)) 0 false)

omit [FloatOps F] in
/-- The tokens a device pays with, by what it does. -/
theorem toks_sorted : (payToks c : sProp 𝕄)
    ⊢ iprop((dutyTok ER (mcell 0 (sh 3 c)) 0 false ∗ dutyTok ER (mcell 0 (sh 1 c)) 0 true) ∗ (tokA c 0 ∗ tokA c 1 ∗ tokA c 2)
        ∗ bigSep Finset.univ fun r : Fin 6 => tok6 c r.val) := by
  have h0 : (payToks c : sProp 𝕄) = bigSep Finset.univ fun i : Fin 12 => cellToks c i := by
    unfold payToks cellToks; rw [bigSep_univ_prod]
  have hm : (cellToks c 0 : sProp 𝕄) ⊢ iprop(dutyTok ER (mcell 0 (sh 3 c)) 0 false ∗ dutyTok ER (mcell 0 (sh 1 c)) 0 true) :=
    (both c 0).trans (BI.bigSep_elim (Φ := fun r : Fin 6 => iprop(dutyTok ER (kcell (hop (0, r, false) c, 0)) r.val false ∗ dutyTok ER (kcell (hop (0, r, true) c, 0)) r.val true : sProp 𝕄)) (Finset.mem_univ (0 : Fin 6)))
  have ha : ∀ k : Fin 3, iprop((dutyTok ER (kcell (hop (![6, 7, 8] k, 0, false) c, ![6, 7, 8] k)) 0 false : sProp 𝕄) ∗ dutyTok ER (kcell (hop (![9, 10, 11] k, 0, false) c, ![9, 10, 11] k)) 0 false)
      ⊢ tokA c k := fun k => by fin_cases k <;> exact BIBase.Entails.rfl
  rw [h0, bigSep_univ_eq_bigSepL [0, 1, 2, 3, 4, 5, 6, 7, 8, 9, 10, 11] (by decide) (by decide)]
  show iprop(cellToks c 0 ∗ cellToks c 1 ∗ cellToks c 2 ∗ cellToks c 3 ∗ cellToks c 4 ∗ cellToks c 5 ∗ cellToks c 6 ∗ cellToks c 7 ∗ cellToks c 8 ∗ cellToks c 9 ∗ cellToks c 10 ∗ cellToks c 11) ⊢ _
  have hs : iprop(cellToks c 1 ∗ cellToks c 2 ∗ cellToks c 3 ∗ cellToks c 4 ∗ cellToks c 5 : sProp 𝕄) ⊢ bigSep Finset.univ fun r : Fin 6 => tok6 c r.val := by
    refine (BIClass.sep_mono (both c 1) (BIClass.sep_mono (many c 2 false) (BIClass.sep_mono (many c 3 false) (BIClass.sep_mono (many c 4 false) (many c 5 false))))).trans ?_
    rw [← bigSep_sep', ← bigSep_sep', ← bigSep_sep', ← bigSep_sep']
    have hi : ∀ r : Fin 6, (iprop((dutyTok ER (mcell 1 (sh 3 c)) r.val false ∗ dutyTok ER (mcell 1 (sh 1 c)) r.val true) ∗ dutyTok ER (scell false c) r.val false ∗ dutyTok ER (rcell false (nb false c)) r.val false
        ∗ dutyTok ER (scell true c) r.val false ∗ dutyTok ER (rcell true (nb true c)) r.val false) : sProp 𝕄) ⊢ tok6 c r.val := fun r => by
      unfold tok6
      iintro ⟨⟨H1, H2⟩, H3, H4, H5, H6⟩
      iframe
    exact bigSep_mono fun r _ => hi r
  iintro ⟨H0, H1, H2, H3, H4, H5, H6, H7, H8, H9, H10, H11⟩
  ihave H0 := hm $$ H0
  ihave H6 := (one c 6 0 false) $$ H6
  ihave H7 := (one c 7 0 false) $$ H7
  ihave H8 := (one c 8 0 false) $$ H8
  ihave H9 := (one c 9 0 false) $$ H9
  ihave H10 := (one c 10 0 false) $$ H10
  ihave H11 := (one c 11 0 false) $$ H11
  isplitl [H0]; · iexact H0
  isplitl [H6 H7 H8 H9 H10 H11]
  · isplitl [H6 H9]
    · iapply (ha 0)
      isplitl [H6]; · iexact H6
      iexact H9
    isplitl [H7 H10]
    · iapply (ha 1)
      isplitl [H7]; · iexact H7
      iexact H10
    iapply (ha 2)
    isplitl [H8]; · iexact H8
    iexact H11
  iapply hs
  isplitl [H1]; · iexact H1
  isplitl [H2]; · iexact H2
  isplitl [H3]; · iexact H3
  isplitl [H4]; · iexact H4
  iexact H5

/-! ### The credits -/

/-- What the others owe a device, by the list of what each owes. -/
def credL : List It → sProp 𝕄
  | [] => iprop(emp)
  | it :: l => iprop(credL l ∗ cred (tallyAt ((c : Thread nD τ), it.sm) it.ix it.n))

omit [FloatOps F] in
theorem creds (l : List It) : (Pipeline.launchCred (fun d => owe d l) c : sProp 𝕄) ⊢ credL c l := by
  induction l with
  | nil => exact Entails.of_eq (Pipeline.launchCred_zero c)
  | cons it l ih =>
    have h : (Pipeline.launchCred (fun d => tallyAt ((sh it.k d : Thread nD τ), it.sm) it.ix it.n) c : sProp 𝕄) ⊢ cred (tallyAt ((c : Thread nD τ), it.sm) it.ix it.n) :=
      Pipeline.launchCred_tallyAt it.sm (turn it.k) (turn it.k).symm (fun c => (turn it.k).apply_symm_apply c) (fun c => (turn it.k).symm_apply_apply c) it.ix it.n c
    have h2 : (Pipeline.launchCred (fun d => owe d (it :: l)) c : sProp 𝕄) = _ := Pipeline.launchCred_add (fun d => owe d l) (fun d => tallyAt ((sh it.k d : Thread nD τ), it.sm) it.ix it.n) c
    rw [h2]
    exact BIClass.sep_mono ih h

/-- The credits of a round and the meeting after it. -/
def crd (r : ℕ) : sProp 𝕄 :=
  iprop(cred (tallyAt (rcell false c) (rix r) (Nr r)) ∗ cred (tallyAt (rcell true c) (rix r) (Nr r)) ∗ cred (tallyAt (mcell (r + 1) c) (mix (r + 1)) 2))

omit [FloatOps F] in
theorem credL_m (j : ℕ) (l : List It) : (credL c (mI 3 j :: mI 1 j :: l) : sProp 𝕄) ⊢ iprop(credL c l ∗ cred (tallyAt (mcell j c) (mix j) 2)) := by
  have h : (iprop((credL c l ∗ cred (tallyAt (mcell j c) (mix j) 1)) ∗ cred (tallyAt (mcell j c) (mix j) 1)) : sProp 𝕄) ⊢ iprop(credL c l ∗ cred (tallyAt (mcell j c) (mix j) 2)) := by
    rw [show (2 : ℕ) = 1 + 1 from rfl, ← tallyAt_add]
    iintro ⟨⟨H, H1⟩, H2⟩
    isplitl [H]; · iexact H
    iapply (cred_add _ _).2
    isplitl [H1]; · iexact H1
    iexact H2
  exact h

omit [FloatOps F] in
theorem credL_r (r : ℕ) (l : List It) : (credL c (roundI r l) : sProp 𝕄) ⊢ iprop(credL c l ∗ crd c r) := by
  have h : (iprop((credL c (mI 3 (r + 1) :: mI 1 (r + 1) :: l) ∗ cred (tallyAt (rcell true c) (rix r) (Nr r))) ∗ cred (tallyAt (rcell false c) (rix r) (Nr r))) : sProp 𝕄)
      ⊢ iprop(credL c l ∗ crd c r) := by
    unfold crd
    iintro ⟨⟨H, H1⟩, H2⟩
    ihave H := (credL_m c (r + 1) l) $$ H
    icases H with ⟨H, H3⟩
    iframe
  exact h

/-- The credit of a row. -/
abbrev crA (k : Fin 3) : sProp 𝕄 := cred (tallyAt (arcell k c) 8 N3)

omit [FloatOps F] in
/-- The credits, by what they are for. -/
theorem creds_sorted : (Pipeline.launchCred (fun d => owe d todo0) c : sProp 𝕄)
    ⊢ iprop(cred (tallyAt (mcell 0 c) (mix 0) 2) ∗ (crA c 0 ∗ crA c 1 ∗ crA c 2) ∗ bigSep Finset.univ fun r : Fin 6 => crd c r.val) := by
  have h0 : (credL c todo0 : sProp 𝕄) ⊢ _ := credL_m c 0 (todo 3)
  have h1 : (credL c (todo 3) : sProp 𝕄) ⊢ _ := credL_r c 0 (todo 2)
  have h2 : (credL c (todo 2) : sProp 𝕄) ⊢ _ := credL_r c 1 (todo 1)
  have h3 : (credL c (todo 1) : sProp 𝕄) ⊢ _ := credL_r c 2 (todo 0)
  have h4 : (credL c (todo 0) : sProp 𝕄) ⊢ iprop(((credL c (roundI 3 (roundI 4 (roundI 5 []))) ∗ crA c 2) ∗ crA c 1) ∗ crA c 0) := BIBase.Entails.rfl
  have h5 : (bigSep Finset.univ fun r : Fin 6 => (crd c r.val : sProp 𝕄)) = iprop(crd c 0 ∗ crd c 1 ∗ crd c 2 ∗ crd c 3 ∗ crd c 4 ∗ crd c 5) :=
    bigSep_univ_eq_bigSepL [0, 1, 2, 3, 4, 5] (by decide) (by decide) _
  rw [h5]
  iintro H
  ihave H := (creds c todo0) $$ H
  ihave H := h0 $$ H
  icases H with ⟨H, Hm⟩
  ihave H := h1 $$ H
  icases H with ⟨H, R0⟩
  ihave H := h2 $$ H
  icases H with ⟨H, R1⟩
  ihave H := h3 $$ H
  icases H with ⟨H, R2⟩
  ihave H := h4 $$ H
  icases H with ⟨⟨⟨H, A2⟩, A1⟩, A0⟩
  ihave H := (credL_r c 3 (roundI 4 (roundI 5 []))) $$ H
  icases H with ⟨H, R3⟩
  ihave H := (credL_r c 4 (roundI 5 [])) $$ H
  icases H with ⟨H, R4⟩
  ihave H := (credL_r c 5 []) $$ H
  icases H with ⟨-, R5⟩
  iframe

omit [FloatOps F] in
theorem fut_intro : iprop((bigSep Finset.univ fun r : Fin 6 => (tok6 c r.val : sProp 𝕄)) ∗ bigSep Finset.univ fun r : Fin 6 => crd c r.val) ⊢ fut c 0 := by
  have h : ∀ r : Fin 6, (iprop(tok6 c r.val ∗ crd c r.val) : sProp 𝕄) ⊢ tok c r.val := fun r => by
    have e : r.val + 1 - 1 = r.val := Nat.add_sub_cancel ..
    unfold tok dtok mtok tok6 crd
    rw [e]
    iintro ⟨⟨H1, H2, H3, H4, H5, H6⟩, C1, C2, C3⟩
    isplitl [H1 H2 C1]
    · isplitl [H1]; · iexact H1
      isplitl [H2]; · iexact H2
      iexact C1
    isplitl [H3 H4 C2]
    · isplitl [H3]; · iexact H3
      isplitl [H4]; · iexact H4
      iexact C2
    isplitl [H5]; · iexact H5
    isplitl [H6]; · iexact H6
    iexact C3
  have hs : Finset.Ico 0 6 = Finset.univ.map (Fin.valEmbedding : Fin 6 ↪ ℕ) := by decide
  unfold fut
  rw [← bigSep_sep', hs, bigSep_map]
  exact bigSep_mono fun r _ => h r

/-- Where a device's cells stand at the start. -/
def pos0 : sProp 𝕄 := bigSep Finset.univ fun i : Fin 12 => atPos ER (kcell (c, i)) 0 ∅ 0

omit [FloatOps F] in
/-- A device's part in the protocol from what it is dealt. -/
theorem pstart_intro : (iprop(Pipeline.launchCred (fun d => owe d todo0) c ∗ pos0 c ∗ payToks c) : sProp 𝕄) ⊢ pstart c := by
  have hp : (pos0 c : sProp 𝕄) = iprop(atPos ER (mcell 0 c) 0 ∅ 0 ∗ atPos ER (mcell 1 c) 0 ∅ 0 ∗ atPos ER (scell false c) 0 ∅ 0 ∗ atPos ER (rcell false c) 0 ∅ 0
      ∗ atPos ER (scell true c) 0 ∅ 0 ∗ atPos ER (rcell true c) 0 ∅ 0 ∗ atPos ER (ascell 0 c) 0 ∅ 0 ∗ atPos ER (ascell 1 c) 0 ∅ 0 ∗ atPos ER (ascell 2 c) 0 ∅ 0
      ∗ atPos ER (arcell 0 c) 0 ∅ 0 ∗ atPos ER (arcell 1 c) 0 ∅ 0 ∗ atPos ER (arcell 2 c) 0 ∅ 0) := by
    unfold pos0; exact bigSep_univ_eq_bigSepL [0, 1, 2, 3, 4, 5, 6, 7, 8, 9, 10, 11] (by decide) (by decide) _
  have ha : ∀ k : Fin 3, (iprop(tokA c k ∗ crA c k ∗ atPos ER (ascell k c) 0 ∅ 0 ∗ atPos ER (arcell k c) 0 ∅ 0) : sProp 𝕄) ⊢ abef c k := fun k => by
    unfold tokA abef
    iintro ⟨⟨H1, H2⟩, H3, H4, H5⟩
    isplitl [H1 H2 H3]
    · isplitl [H1]; · iexact H1
      isplitl [H2]; · iexact H2
      iexact H3
    isplitl [H4]; · iexact H4
    iexact H5
  have hm : (iprop(dutyTok ER (mcell 0 (sh 3 c)) 0 false ∗ dutyTok ER (mcell 0 (sh 1 c)) 0 true ∗ cred (tallyAt (mcell 0 c) (mix 0) 2)) : sProp 𝕄) ⊢ mtok c 0 := by
    unfold mtok; exact BIBase.Entails.rfl
  rw [hp]
  iintro ⟨HC, ⟨P0, P1, P2, P3, P4, P5, P6, P7, P8, P9, P10, P11⟩, HT⟩
  ihave HC := (creds_sorted c) $$ HC
  ihave HT := (toks_sorted c) $$ HT
  icases HC with ⟨C0, ⟨A0, A1, A2⟩, CR⟩
  icases HT with ⟨⟨M0, M1⟩, ⟨B0, B1, B2⟩, TR⟩
  unfold pstart
  isplitl [M0 M1 C0 CR TR]
  · isplitl [M0 M1 C0]
    · iapply hm
      isplitl [M0]; · iexact M0
      isplitl [M1]; · iexact M1
      iexact C0
    iapply (fut_intro c)
    isplitl [TR]; · iexact TR
    iexact CR
  isplitl [A0 A1 A2 B0 B1 B2 P6 P7 P8 P9 P10 P11]
  · isplitl [A0 B0 P6 P9]
    · iapply (ha 0)
      isplitl [B0]; · iexact B0
      isplitl [A0]; · iexact A0
      isplitl [P6]; · iexact P6
      iexact P9
    isplitl [A1 B1 P7 P10]
    · iapply (ha 1)
      isplitl [B1]; · iexact B1
      isplitl [A1]; · iexact A1
      isplitl [P7]; · iexact P7
      iexact P10
    iapply (ha 2)
    isplitl [B2]; · iexact B2
    isplitl [A2]; · iexact A2
    isplitl [P8]; · iexact P8
    iexact P11
  isplitl [P0 P1]
  · isplitl [P0]; · iexact P0
    iexact P1
  isplitl [P2 P3]
  · isplitl [P2]; · iexact P2
    iexact P3
  isplitl [P4]; · iexact P4
  iexact P5

end

end Cert.KProof
-- ==== Proof.Ends.lean ====
module

public import proofs.«01_k».proof.Proof.Deal

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

/-! ### The launch of the protocol -/

/-- The kernel's semaphores. -/
abbrev osem : Fin 18 → SemLoc sig :=
  ![sm12 1, sm12 2, sm12 3, sm12 4, sm12 5, sm12 6, sm12 7, sm12 8, sm12 9, sm12 10, sm12 11, .dma cc0_scratch7.sem, .dma (s2a cc0_scratch8), .dma (s2b cc0_scratch8),
    .dma (s2a cc0_scratch9), .dma (s2b cc0_scratch9), .dma (s2a cc0_scratch10), .dma (s2b cc0_scratch10)]

theorem ownSemFacts : Pipeline.OwnSemFacts cfg0.spec osem := by decide

/-- The semaphores of a device's transfers to itself. -/
def locals (c : Dev nD) : sProp 𝕄 :=
  iprop(rest c cc0_scratch7.sem ∗ rest c (s2a cc0_scratch8) ∗ rest c (s2b cc0_scratch8) ∗ rest c (s2a cc0_scratch9) ∗ rest c (s2b cc0_scratch9)
    ∗ rest c (s2a cc0_scratch10) ∗ rest c (s2b cc0_scratch10))

/-- The protocol's semaphores at zero. -/
def cells0 (c : Dev nD) : sProp 𝕄 := bigSep Finset.univ fun i : Fin 12 => semVal (kcell (c, i)) 0

omit [FloatOps F] in
theorem cells0_eq (c : Dev nD) : (cells0 c : sProp 𝕄) = iprop(semVal (kcell (c, 0)) 0 ∗ semVal (kcell (c, 1)) 0 ∗ semVal (kcell (c, 2)) 0 ∗ semVal (kcell (c, 3)) 0
    ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0
    ∗ semVal (kcell (c, 10)) 0 ∗ semVal (kcell (c, 11)) 0) := by
  unfold cells0; exact bigSep_univ_eq_bigSepL [0, 1, 2, 3, 4, 5, 6, 7, 8, 9, 10, 11] (by decide) (by decide) _

omit [FloatOps F] in
theorem ownSems0_eq (c : Dev nD) : (Pipeline.ownSems0 (Ix := ℕ) (Name := ℕ) (U := UU) (Lvl := ℕ) (Val := Elt F) (τ := τ) osem c : sProp 𝕄)
    = iprop(semVal (kcell (c, 1)) 0 ∗ semVal (kcell (c, 2)) 0 ∗ semVal (kcell (c, 3)) 0
    ∗ semVal (kcell (c, 4)) 0 ∗ semVal (kcell (c, 5)) 0 ∗ semVal (kcell (c, 6)) 0 ∗ semVal (kcell (c, 7)) 0 ∗ semVal (kcell (c, 8)) 0 ∗ semVal (kcell (c, 9)) 0
    ∗ semVal (kcell (c, 10)) 0 ∗ semVal (kcell (c, 11)) 0 ∗ locals c) := by
  rw [Pipeline.ownSems0_eq_of_list c osem [0, 1, 2, 3, 4, 5, 6, 7, 8, 9, 10, 11, 12, 13, 14, 15, 16, 17] (by decide) (by decide)]; rfl
omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem sems_in (c : Dev nD) :
    iprop(Pipeline.ownSems0 (Ix := ℕ) (Name := ℕ) (U := UU) (Lvl := ℕ) (Val := Elt F) (τ := τ) osem c ∗ unscopedSems0 c) ⊢ (iprop(cells0 c ∗ locals c) : sProp 𝕄) := by
  rw [ownSems0_eq, unscopedSems0_eq, cells0_eq]
  iintro ⟨⟨H1, H2, H3, H4, H5, H6, H7, H8, H9, H10, H11, HL⟩, H0⟩
  iframe
omit [FloatOps F] in
theorem sems_out (c : Dev nD) :
    (iprop(cells0 c ∗ locals c) : sProp 𝕄) ⊢ iprop(unscopedSems0 c ∗ Pipeline.ownSems0 (Ix := ℕ) (Name := ℕ) (U := UU) (Lvl := ℕ) (Val := Elt F) (τ := τ) osem c) := by
  rw [ownSems0_eq, unscopedSems0_eq, cells0_eq]
  iintro ⟨⟨H0, H1, H2, H3, H4, H5, H6, H7, H8, H9, H10, H11⟩, HL⟩
  iframe

section
variable (w : World F)

/-- What a device's cells start with. -/
def G (c : Dev nD) : sProp 𝕄 :=
  iprop((bigSep Finset.univ fun i : Fin 12 => roundState ER (sched w) (kcell (c, i)) 0) ∗ pos0 c ∗ (bigSep Finset.univ fun i : Fin 12 => reached ER (kcell (c, i)) 0) ∗ ownToks c)

/-- What a device has once all the cells stand. -/
def G' (c : Dev nD) : sProp 𝕄 := iprop(Net w ∗ pos0 c ∗ payToks c ∗ locals c)

theorem fund_all : BI.own (ER (initOf allCells allToks)) ⊢ (|==> bigSep Finset.univ (G w) : sProp 𝕄) := by
  have hX (Φ : GSem nD τ sig → sProp 𝕄) : bigSep allCells Φ = bigSep Finset.univ fun c : Dev nD => bigSep Finset.univ fun i : Fin 12 => Φ (kcell (c, i)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (sched w) allCells allToks) $$ HX with ⟨Hst, Hr, Hat, Htok⟩
  imodintro
  ihave Hst := (Entails.of_eq (hX fun g => roundState ER (sched w) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos0; simp only [bigSep_sep']
  isplitl [Hst]; · iexact Hst
  isplitl [Hat]; · iexact Hat
  isplitl [Hr]; · iexact Hr
  iexact Htok

/-- A device's cells stand. -/
theorem cells_up (c : Dev nD) :
    iprop(Pipeline.ownSems0 (Ix := ℕ) (Name := ℕ) (U := UU) (Lvl := ℕ) (Val := Elt F) (τ := τ) osem c ∗ unscopedSems0 c ∗ G w c)
      ⊢ |={Set.univ}=> iprop((bigSep Finset.univ fun i : Fin 12 => has w (kcell (c, i))) ∗ pos0 c ∗ ownToks c ∗ locals c) := by
  have ha : iprop(cells0 c ∗ bigSep Finset.univ fun i : Fin 12 => roundState ER (sched w) (kcell (c, i)) 0)
      ⊢ (|={Set.univ}=> bigSep Finset.univ fun i : Fin 12 => iprop(∃ κ : ℕ, cellInv ER (sched w) κ (kcell (c, i))) : sProp 𝕄) := by
    unfold cells0
    rw [← bigSep_sep']
    exact (bigSep_mono fun i _ => (Rounds.body_intro ER (sched w) (kcell (c, i))).trans inv_alloc).trans (bigSep_fupd _ _)
  have hb : iprop((bigSep Finset.univ fun i : Fin 12 => iprop(∃ κ : ℕ, cellInv ER (sched w) κ (kcell (c, i)))) ∗ bigSep Finset.univ fun i : Fin 12 => reached ER (kcell (c, i)) 0)
      ⊢ (bigSep Finset.univ fun i : Fin 12 => has w (kcell (c, i)) : sProp 𝕄) := by
    unfold has; rw [← bigSep_sep']
  unfold G
  iintro ⟨Hos, Hus, Hst, Hat, Hr, Htok⟩
  ihave Hv := (sems_in (F := F) c) $$ [Hos Hus]
  · isplitl [Hos] <;> iassumption
  icases Hv with ⟨Hv, HL⟩
  imod ha $$ [Hv Hst] with Hinv
  · isplitl [Hv] <;> iassumption
  imodintro
  isplitl [Hinv Hr]
  · iapply hb
    isplitl [Hinv] <;> iassumption
  isplitl [Hat]; · iexact Hat
  isplitl [Htok]; · iexact Htok
  iexact HL

/-- The cells of all the devices, and to each device the tokens it pays with. -/
theorem sorted :
    (bigSep Finset.univ fun c : Dev nD => iprop((bigSep Finset.univ fun i : Fin 12 => has w (kcell (c, i))) ∗ pos0 c ∗ ownToks c ∗ locals c) : sProp 𝕄)
      ⊢ bigSep Finset.univ (G' w) := by
  have hn : (bigSep Finset.univ fun c : Dev nD => bigSep Finset.univ fun i : Fin 12 => has w (kcell (c, i)) : sProp 𝕄) ⊢ Net w := by
    unfold Net; rw [bigSep_univ_prod]
  have hd : (Net w : sProp 𝕄) ⊢ bigSep Finset.univ fun _ : Dev nD => Net w := BI.bigSep_of_persistent _ _
  unfold G'
  simp only [bigSep_sep']
  iintro ⟨HN, HP, HT, HL⟩
  isplitl [HN]
  · iapply hd
    iapply hn $$ HN
  isplitl [HP]; · iexact HP
  isplitl [HT]; · iapply toks_dealt $$ HT
  iexact HL

theorem glob : (bigSep Finset.univ fun c => iprop(Pipeline.ownSems0 (Ix := ℕ) (Name := ℕ) (U := UU) (Lvl := ℕ) (Val := Elt F) (τ := τ) osem c ∗ unscopedSems0 c ∗ G w c) : sProp 𝕄)
    ⊢ |={Set.univ}=> bigSep Finset.univ (G' w) :=
  ((bigSep_mono fun c _ => cells_up w c).trans (bigSep_fupd _ _)).trans (BI.fupd_mono (sorted w))

/-! ### The end of the protocol -/

/-- A cell with no duty left ends at zero. -/
theorem close_at (c : Dev nD) (i : Fin 12) (R : ℕ) (h : ∀ r, R ≤ r → dutiesOf r (kind (sm12 i)) = ∅) :
    (iprop(Net w ∗ atPos ER (kcell (c, i)) R ∅ 0) : sProp 𝕄) ⊢ |={Set.univ}=> semVal (kcell (c, i)) 0 := by
  have hn := net_at w c i
  unfold has at hn
  iintro ⟨HN, HA⟩
  ihave H := hn $$ HN
  icases H with ⟨⟨%κ, HI⟩, -⟩
  iapply (Rounds.cell_close ER (sched w) (Set.mem_univ κ) (fun h => h) (g := kcell (c, i)) (R := R) (show ∀ r, R ≤ r → (sched w).duties (kcell (c, i)) r = ∅ from h))
  isplitl [HI]; · iexact HI
  iexact HA

theorem late (i : Fin 12) (hi : i ≠ 0 ∧ i.val < 6) : ∀ r, 6 ≤ r → dutiesOf r (kind (sm12 i)) = ∅ := fun r hr => by
  have h : ¬ r < 6 := by omega
  match i, hi with
  | 1, _ => exact if_neg h
  | 2, _ => exact if_neg h
  | 3, _ => exact if_neg h
  | 4, _ => exact if_neg h
  | 5, _ => exact if_neg h
theorem late1 (i : Fin 12) (hi : i = 0 ∨ 6 ≤ i.val) : ∀ r, 1 ≤ r → dutiesOf r (kind (sm12 i)) = ∅ := fun r hr => by
  have h : ¬ r = 0 := by omega
  match i, hi with
  | 0, _ => exact if_neg h
  | 6, _ => exact if_neg h
  | 7, _ => exact if_neg h
  | 8, _ => exact if_neg h
  | 9, _ => exact if_neg h
  | 10, _ => exact if_neg h
  | 11, _ => exact if_neg h

theorem close_all (c : Dev nD) : (iprop(Net w ∗ pend c) : sProp 𝕄) ⊢ |={Set.univ}=> cells0 c := by
  have hp : (pend c : sProp 𝕄) ⊢ iprop(atPos ER (kcell (c, 0)) 1 ∅ 0 ∗ atPos ER (kcell (c, 1)) 6 ∅ 0 ∗ atPos ER (kcell (c, 2)) 6 ∅ 0 ∗ atPos ER (kcell (c, 3)) 6 ∅ 0
      ∗ atPos ER (kcell (c, 4)) 6 ∅ 0 ∗ atPos ER (kcell (c, 5)) 6 ∅ 0 ∗ atPos ER (kcell (c, 6)) 1 ∅ 0 ∗ atPos ER (kcell (c, 7)) 1 ∅ 0 ∗ atPos ER (kcell (c, 8)) 1 ∅ 0
      ∗ atPos ER (kcell (c, 9)) 1 ∅ 0 ∗ atPos ER (kcell (c, 10)) 1 ∅ 0 ∗ atPos ER (kcell (c, 11)) 1 ∅ 0) := by
    unfold pend gout dpos aft
    iintro ⟨⟨⟨H2, -, H3⟩, ⟨H4, -, H5⟩, H1⟩, ⟨⟨H6, H9⟩, ⟨H7, H10⟩, ⟨H8, H11⟩⟩, H0⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  rw [cells0_eq]
  iintro ⟨#HN, HP⟩
  ihave HP := hp $$ HP
  icases HP with ⟨H0, H1, H2, H3, H4, H5, H6, H7, H8, H9, H10, H11⟩
  imod (close_at w c 0 1 (late1 0 (by decide))) $$ [H0] with H0
  · isplitr; · iexact HN
    iexact H0
  imod (close_at w c 1 6 (late 1 (by decide))) $$ [H1] with H1
  · isplitr; · iexact HN
    iexact H1
  imod (close_at w c 2 6 (late 2 (by decide))) $$ [H2] with H2
  · isplitr; · iexact HN
    iexact H2
  imod (close_at w c 3 6 (late 3 (by decide))) $$ [H3] with H3
  · isplitr; · iexact HN
    iexact H3
  imod (close_at w c 4 6 (late 4 (by decide))) $$ [H4] with H4
  · isplitr; · iexact HN
    iexact H4
  imod (close_at w c 5 6 (late 5 (by decide))) $$ [H5] with H5
  · isplitr; · iexact HN
    iexact H5
  imod (close_at w c 6 1 (late1 6 (by decide))) $$ [H6] with H6
  · isplitr; · iexact HN
    iexact H6
  imod (close_at w c 7 1 (late1 7 (by decide))) $$ [H7] with H7
  · isplitr; · iexact HN
    iexact H7
  imod (close_at w c 8 1 (late1 8 (by decide))) $$ [H8] with H8
  · isplitr; · iexact HN
    iexact H8
  imod (close_at w c 9 1 (late1 9 (by decide))) $$ [H9] with H9
  · isplitr; · iexact HN
    iexact H9
  imod (close_at w c 10 1 (late1 10 (by decide))) $$ [H10] with H10
  · isplitr; · iexact HN
    iexact H10
  imod (close_at w c 11 1 (late1 11 (by decide))) $$ [H11] with H11
  · isplitr; · iexact HN
    iexact H11
  imodintro
  iframe

end

/-! ### The buffers -/

theorem any_whole (c : Dev nD) (b : Ref sig .tc) (f : Buf (Elt F) ((c : Thread nD τ).loc b)) :
    ((c : Thread nD τ).loc b ↦{fullShare} f : sProp 𝕄) ⊢ any c (View.whole b) := by
  have h : ((c : Thread nD τ).loc b ↦{fullShare} f : sProp 𝕄) ⊢ ((View.whole b).loc (c : Thread nD τ) ↦[(View.whole b).set]{fullShare} f) := by
    rw [View.set_whole]
  exact h.trans ((own_of_pt c (View.whole b) f).trans (own_any c (View.whole b) _))
omit [FloatOps F] in
theorem own_back (c : Dev nD) (b : Ref sig .tc) (v : b.ty.Contents (Elt F)) :
    (own c (View.whole b) v : sProp 𝕄) ⊢ ((c : Thread nD τ).loc b ↦{fullShare} v) := by
  have h : ∀ f : Buf (Elt F) ((c : Thread nD τ).loc b), ((View.whole b).loc (c : Thread nD τ) ↦[(View.whole b).set]{fullShare} f : sProp 𝕄) ⊢ ((c : Thread nD τ).loc b ↦{fullShare} f) := fun f => by
    rw [View.set_whole]
  unfold own ownS
  iintro ⟨%f, %hf, H⟩
  have e : f = v := hf
  ihave H := (h f) $$ H
  rw [← e]
  iexact H
omit [FloatOps F] in
theorem any_back (c : Dev nD) (b : Ref sig .tc) : (any c (View.whole b) : sProp 𝕄) ⊢ iprop(∃ f : Buf (Elt F) ((c : Thread nD τ).loc b), (c : Thread nD τ).loc b ↦{fullShare} f) := by
  unfold any; iintro ⟨%v, H⟩; iexists v; iapply (own_back c b v) $$ H

theorem sh_0 (c : Dev nD) : sh 0 c = c := by revert c; decide
theorem sh_4 (c : Dev nD) : sh 4 c = c := by revert c; decide

omit [FloatOps F] in
/-- The tiles of the result in the order a device writes them. -/
theorem around16 (Φ : Fin 4 × Fin 4 → sProp 𝕄) (c : Dev nD) : bigSep Finset.univ Φ =
    iprop((Φ (c, 0) ∗ Φ (c, 1) ∗ Φ (c, 2) ∗ Φ (c, 3)) ∗ (Φ (sh 3 c, 0) ∗ Φ (sh 3 c, 1) ∗ Φ (sh 3 c, 2) ∗ Φ (sh 3 c, 3))
      ∗ (Φ (sh 2 c, 0) ∗ Φ (sh 2 c, 1) ∗ Φ (sh 2 c, 2) ∗ Φ (sh 2 c, 3)) ∗ (Φ (sh 1 c, 0) ∗ Φ (sh 1 c, 1) ∗ Φ (sh 1 c, 2) ∗ Φ (sh 1 c, 3))) := by
  have h : ∀ a : Fin 4, (bigSep Finset.univ fun b : Fin 4 => Φ (a, b)) = iprop(Φ (a, 0) ∗ Φ (a, 1) ∗ Φ (a, 2) ∗ Φ (a, 3)) :=
    fun a => bigSep_univ_eq_bigSepL [0, 1, 2, 3] (by decide) (by decide) _
  rw [bigSep_univ_prod]
  refine (ring4 (fun a : Dev nD => bigSep Finset.univ fun b : Fin 4 => Φ (a, b)) c).trans ?_
  rw [h, h, h, h]

omit [FloatOps F] in
theorem out_split (c : Dev nD) : (any c outM.view : sProp 𝕄) ⊢ outA c := by
  refine (any_full c outM.view (off := ![0, 0]) (h := inbO)).trans ((any_split c outM.view outT).trans ?_)
  refine (Entails.of_eq (around16 (fun i : Fin 4 × Fin 4 => any c (oT i).m.view) c)).trans ?_
  unfold outA restA apair
  rw [sh_0, sh_4]
  iintro ⟨⟨A0, A1, A2, A3⟩, ⟨B0, B1, B2, B3⟩, ⟨C0, C1, C2, C3⟩, D0, D1, D2, D3⟩
  isplitl [D0 D1 B2 B3]
  · isplitl [D0 D1]
    · isplitl [D0]; · iexact D0
      iexact D1
    isplitl [B2]; · iexact B2
    iexact B3
  isplitl [A0 A1 A2 A3]
  · isplitl [A0 A1]
    · isplitl [A0]; · iexact A0
      iexact A1
    isplitl [A2]; · iexact A2
    iexact A3
  isplitl [B0 B1 D2 D3]
  · isplitl [B0 B1]
    · isplitl [B0]; · iexact B0
      iexact B1
    isplitl [D2]; · iexact D2
    iexact D3
  isplitl [C0 C1]
  · isplitl [C0]; · iexact C0
    iexact C1
  isplitl [C2]; · iexact C2
  iexact C3

theorem out_glue (c : Dev nD) (u : ∀ _ : Fin 4 × Fin 4, Vec F S1024x2048 .f32) :
    (bigSep Finset.univ fun i : Fin 4 × Fin 4 => ownS fullShare c (outM.view.slice (Rect.unit (s := S4096x8192) ![1024 * i.1.val, 2048 * i.2.val] S1024x2048.size (outIn i))) (u i) : sProp 𝕄)
      ⊢ own c (outM.view.slice (Rect.unit (s := S4096x8192) ![0, 0] S4096x8192.size inbO)) (outT.glue (β := Elt F .f32) u) :=
  own_join c outM.view outT ((0 : Fin 4), (0 : Fin 4)) u
theorem out_all (c : Dev nD) (v : Vec F S4096x8192 .f32) :
    (own c (outM.view.slice (Rect.unit (s := S4096x8192) ![0, 0] S4096x8192.size inbO)) v : sProp 𝕄) ⊢ own c outM.view v :=
  own_unfull (sp := .hbm) (s := S4096x8192) (e := .f32) (V := outM.view) c (off := ![0, 0]) (h := inbO) v
theorem out_whole (c : Dev nD) (u : ∀ _ : Fin 4 × Fin 4, Vec F S1024x2048 .f32) :
    (bigSep Finset.univ fun i : Fin 4 × Fin 4 => own c (oT i).m.view (u i) : sProp 𝕄) ⊢ own c outM.view (outT.glue (β := Elt F .f32) u) :=
  BIBase.Entails.trans (out_glue c u) (out_all c _)

section
variable (X : ∀ c : Dev nD, Buf (Elt F) ((c : Thread nD τ).loc main_arg0)) (W : ∀ c : Dev nD, Buf (Elt F) ((c : Thread nD τ).loc main_arg1))

/-- The result. -/
def res : Vec F S4096x8192 .f32 := outT.glue (β := Elt F .f32) (outV X W)

theorem out_join (c : Dev nD) : (outO X W c : sProp 𝕄) ⊢ own c outM.view (res X W) := by
  refine BIBase.Entails.trans ?_ (out_whole c (outV X W))
  refine BIBase.Entails.trans ?_ (Entails.of_eq (around16 (fun i : Fin 4 × Fin 4 => own c (oT i).m.view (outV X W i)) c).symm)
  unfold outO restO opair
  rw [sh_0, sh_4]
  iintro ⟨⟨⟨D0, D1⟩, B2, B3⟩, ⟨⟨A0, A1⟩, A2, A3⟩, ⟨⟨B0, B1⟩, D2, D3⟩, ⟨C0, C1⟩, C2, C3⟩
  isplitl [A0 A1 A2 A3]
  · isplitl [A0]; · iexact A0
    isplitl [A1]; · iexact A1
    isplitl [A2]; · iexact A2
    iexact A3
  isplitl [B0 B1 B2 B3]
  · isplitl [B0]; · iexact B0
    isplitl [B1]; · iexact B1
    isplitl [B2]; · iexact B2
    iexact B3
  isplitl [C0 C1 C2 C3]
  · isplitl [C0]; · iexact C0
    isplitl [C1]; · iexact C1
    isplitl [C2]; · iexact C2
    iexact C3
  isplitl [D0]; · iexact D0
  isplitl [D1]; · iexact D1
  isplitl [D2]; · iexact D2
  iexact D3

omit [FloatOps F] in
theorem args_in (c : Dev nD) : (iprop(((c : Thread nD τ).loc main_arg0 ↦{fullShare} X c) ∗ ((c : Thread nD τ).loc main_arg1 ↦{fullShare} W c)) : sProp 𝕄) ⊢ args X W c := by
  unfold args
  iintro ⟨H, HW⟩
  isplitl [H]; · iexact H
  iapply (pointsTo_share (PosShare.mem_left_op_right fullShare)).1 $$ HW
omit [FloatOps F] in
theorem args_out (c : Dev nD) : (args X W c : sProp 𝕄) ⊢ iprop(((c : Thread nD τ).loc main_arg0 ↦{fullShare} X c) ∗ ((c : Thread nD τ).loc main_arg1 ↦{fullShare} W c)) := by
  unfold args
  iintro ⟨H, HW⟩
  isplitl [H]; · iexact H
  iapply (pointsTo_share (PosShare.mem_left_op_right fullShare)).2 $$ HW

end

/-- A device's scratch buffers, -/
def scratch (c : Dev nD) : sProp 𝕄 :=
  iprop(any c xcM.view ∗ any c wtM.view ∗ any c otM.view ∗ any c obM.view ∗ any c qaM.view ∗ any c qbM.view ∗ any c amM.view)
/-- and the buffers its transfers go through. -/
def hbm (c : Dev nD) : sProp 𝕄 := iprop((any c accA.view ∗ any c accB.view) ∗ (any c pacA.view ∗ any c pacB.view) ∗ (any c rcvA.view ∗ any c rcvB.view))

theorem scoped_in (c : Dev nD) : (Pipeline.scopedRest (Ix := ℕ) (Name := ℕ) (U := UU) (Lvl := ℕ) (Val := Elt F) cfg0.spec c : sProp 𝕄) ⊢ scratch c := by
  rw [scopedRest0_eq]
  unfold scratch
  iintro ⟨⟨%f0, H0⟩, ⟨%f1, H1⟩, ⟨%f2, H2⟩, ⟨%f3, H3⟩, ⟨%f4, H4⟩, ⟨%f5, H5⟩, ⟨%f6, H6⟩⟩
  isplitl [H0]; · iapply (any_whole c cc0_scratch0 f0) $$ H0
  isplitl [H1]; · iapply (any_whole c cc0_scratch1 f1) $$ H1
  isplitl [H2]; · iapply (any_whole c cc0_scratch2 f2) $$ H2
  isplitl [H3]; · iapply (any_whole c cc0_scratch3 f3) $$ H3
  isplitl [H4]; · iapply (any_whole c cc0_scratch4 f4) $$ H4
  isplitl [H5]; · iapply (any_whole c cc0_scratch5 f5) $$ H5
  iapply (any_whole c cc0_scratch6 f6) $$ H6
omit [FloatOps F] in
theorem scoped_out (c : Dev nD) : (scratch c : sProp 𝕄) ⊢ Pipeline.scopedRest (Ix := ℕ) (Name := ℕ) (U := UU) (Lvl := ℕ) (Val := Elt F) cfg0.spec c := by
  rw [scopedRest0_eq]
  unfold scratch
  iintro ⟨H0, H1, H2, H3, H4, H5, H6⟩
  isplitl [H0]; · iapply (any_back c cc0_scratch0) $$ H0
  isplitl [H1]; · iapply (any_back c cc0_scratch1) $$ H1
  isplitl [H2]; · iapply (any_back c cc0_scratch2) $$ H2
  isplitl [H3]; · iapply (any_back c cc0_scratch3) $$ H3
  isplitl [H4]; · iapply (any_back c cc0_scratch4) $$ H4
  isplitl [H5]; · iapply (any_back c cc0_scratch5) $$ H5
  iapply (any_back c cc0_scratch6) $$ H6

omit [FloatOps F] in
/-- The scratch buffers in the parts the run uses. -/
theorem scratch_in (c : Dev nD) : (iprop(scratch c ∗ hbm c ∗ locals c) : sProp 𝕄) ⊢ iprop(Scr c ∗ bufs c) := by
  unfold scratch hbm locals Scr bufs slots
  iintro ⟨⟨H0, H1, H2, H3, H4, H5, H6⟩, ⟨HA, HP, HR⟩, HL⟩
  ihave H1 := (pair_any c (m := wtM)) $$ H1
  ihave H2 := (pair_any c (m := otM)) $$ H2
  ihave H3 := (pair_any c (m := obM)) $$ H3
  ihave H4 := (slots_any c (m := qaM)) $$ H4
  ihave H5 := (slots_any c (m := qbM)) $$ H5
  icases H1 with ⟨H1, H1'⟩
  icases H2 with ⟨H2, H2'⟩
  icases H3 with ⟨H3, H3'⟩
  isplitl [H0 H1 H1' H2 H2' H3 H3' HL]
  · isplitl [H0 H1 H1' H2 H2' H3 H3']
    · isplitl [H0]; · iexact H0
      isplitl [H1]; · iexact H1
      isplitl [H1']; · iexact H1'
      isplitl [H2]; · iexact H2
      isplitl [H2']; · iexact H2'
      isplitl [H3]; · iexact H3
      iexact H3'
    iexact HL
  isplitl [HA]; · iexact HA
  isplitl [HP]; · iexact HP
  isplitl [HR]; · iexact HR
  isplitl [H4 H5]
  · isplitl [H4]; · iexact H4
    iexact H5
  iexact H6

theorem scratch_out (c : Dev nD) : (iprop(Scr c ∗ slots c ∗ any c amM.view) : sProp 𝕄) ⊢ iprop(scratch c ∗ locals c) := by
  have h1 : (iprop(any c (s0W wtM).m.view ∗ any c (s1W wtM).m.view) : sProp 𝕄) ⊢ any c wtM.view := pair_back c
  have h2 : (iprop(any c (s0W otM).m.view ∗ any c (s1W otM).m.view) : sProp 𝕄) ⊢ any c otM.view := pair_back c
  have h3 : (iprop(any c ob0W.m.view ∗ any c ob1W.m.view) : sProp 𝕄) ⊢ any c obM.view := pair_back c
  unfold scratch locals Scr slots
  iintro ⟨⟨⟨H0, H1, H1', H2, H2', H3, H3'⟩, HL⟩, ⟨H4, H5⟩, H6⟩
  isplitr [HL]
  · isplitl [H0]; · iexact H0
    isplitl [H1 H1']
    · iapply h1
      isplitl [H1] <;> iassumption
    isplitl [H2 H2']
    · iapply h2
      isplitl [H2] <;> iassumption
    isplitl [H3 H3']
    · iapply h3
      isplitl [H3] <;> iassumption
    isplitl [H4]; · iapply (slots_back c (m := qaM)) $$ H4
    isplitl [H5]; · iapply (slots_back c (m := qbM)) $$ H5
    iexact H6
  iexact HL

end Cert.KProof
-- ==== Proof.Run.lean ====
module

public import proofs.«01_k».proof.Proof.Ends
public import Idealize.ShloMosaic.Lib.Pipeline.CollectiveSegs

@[expose] public section

set_option maxRecDepth 65536

noncomputable section

namespace Cert.KProof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] {α : Type}

local notation "𝕄" => MT nD τ sig ℕ (Elt F) ℕ UU ℕ

open Idealize.ShloMosaic.Pipeline (Dat Cfg Window BodyObligation cellOf)

section
variable (m : (ℓ : Loc nD τ sig) → Buf (Elt F) ℓ) (ρ : Dev nD → PrngReg)

/-- The operands as launched. -/
abbrev X₀ (c : Dev nD) : Buf (Elt F) ((c : Thread nD τ).loc main_arg0) := m ((c : Thread nD τ).loc main_arg0)
abbrev W₀ (c : Dev nD) : Buf (Elt F) ((c : Thread nD τ).loc main_arg1) := m ((c : Thread nD τ).loc main_arg1)
abbrev w₀ : World F := world (X₀ m) (W₀ m)

/-- What a device starts from, beside its scratch buffers; -/
def start (c : Dev nD) : sProp 𝕄 := iprop(Ctx (w₀ m) ∗ args (X₀ m) (W₀ m) c ∗ pstart c ∗ any c outM.view ∗ hbm c ∗ locals c)
/-- with them; -/
def Φ₀ (c : Dev nD) : sProp 𝕄 := iprop(start m c ∗ scratch c)
/-- what it leaves, -/
def left (c : Dev nD) : sProp 𝕄 :=
  iprop(((c : Thread nD τ).loc main_arg0 ↦{fullShare} X₀ m c) ∗ ((c : Thread nD τ).loc main_arg1 ↦{fullShare} W₀ m c) ∗ ((c : Thread nD τ).loc main_v1_0 ↦{fullShare} res (X₀ m) (W₀ m)))
/-- and all it ends with. -/
def Φ₁ (c : Dev nD) : sProp 𝕄 := iprop(left m c ∗ (cells0 c ∗ locals c) ∗ scratch c)

def dats (_ : Fin 1) (c : Dev nD) : Dat τ (Elt F) ℕ ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => owe c todo0
    | ⟨_ + 1, _⟩ => 0

/-- A device's whole run. -/
theorem wp_run (c : Dev nD) : (iprop(Φ₀ m c ∗ owing c (owe c todo0)) : sProp 𝕄) ⊢ wpc c (bodyP c) fun _ => iprop(Φ₁ m c ∗ owing c 0) := by
  have ho : (own c outM.view (res (X₀ m) (W₀ m)) : sProp 𝕄) ⊢ ((c : Thread nD τ).loc main_v1_0 ↦{fullShare} res (X₀ m) (W₀ m)) := own_back c main_v1_0 _
  unfold Φ₀ start Ctx
  iintro ⟨⟨⟨⟨#HN, #HL⟩, HA, HP, HO, HH, HS⟩, HC⟩, HW⟩
  ihave HC := (scratch_in c) $$ [HC HH HS]
  · isplitl [HC]; · iexact HC
    isplitl [HH]; · iexact HH
    iexact HS
  icases HC with ⟨HC, HB⟩
  ihave HO := (out_split c) $$ HO
  iapply wp_fupd
  iapply (wp_body (X := X₀ m) (W := W₀ m) (c := c)) $$ [HC HA HP HB HO HW]
  · isplitr
    · unfold Ctx
      isplitr; · iexact HN
      iexact HL
    isplitl [HC]; · iexact HC
    isplitl [HA]; · iexact HA
    isplitl [HP]; · iexact HP
    isplitl [HB]; · iexact HB
    isplitl [HO]; · iexact HO
    iexact HW
  iintro ⟨HC, HA, HP, HQ, HM, HO, HW⟩
  imod (close_all (w₀ m) c) $$ [HP] with HZ
  · isplitr; · iexact HN
    iexact HP
  ihave HC := (scratch_out c) $$ [HC HQ HM]
  · isplitl [HC]; · iexact HC
    isplitl [HQ]; · iexact HQ
    iexact HM
  icases HC with ⟨HC, HS⟩
  ihave HO := (out_join (X₀ m) (W₀ m) c) $$ HO
  ihave HA := (args_out (X₀ m) (W₀ m) c) $$ HA
  icases HA with ⟨HX, HY⟩
  imodintro
  unfold Φ₁ left
  isplitr [HW]
  · isplitl [HX HY HO]
    · isplitl [HX]; · iexact HX
      isplitl [HY]; · iexact HY
      iapply ho $$ HO
    isplitl [HZ HS]
    · isplitl [HZ]; · iexact HZ
      iexact HS
    iexact HC
  iexact HW

/-- The library's body obligation. -/
theorem body_obligation (c : Dev nD) : BodyObligation (dats m 0 c) (defs₀ (F := F)) Variants.none 0 Set.univ := fun t => by
  rw [fin_N0 t]
  show iprop(Φ₀ m c ∗ (dats m 0 c).owesAt 0 (t0_0).castSucc ∗ _)
    ⊢ wpc c (cc0__ar_body xM whl wM whl outM whl accA whl accB whl pacA whl pacB whl rcvA whl rcvB whl xcM whl wtM whl otM whl obM whl qaM whl qbM whl amM whl
      cc0_scratch7 cc0_scratch8 cc0_scratch9 cc0_scratch10 cc0_scratch11 cc0_scratch12 cc0_scratch13 cc0_scratch14 cc0_scratch15 cc0_scratch16 cc0_scratch17)
      fun _ => iprop(Φ₁ m c ∗ (dats m 0 c).owesAt 0 (t0_0).succ ∗ bigSep (Finset.univ : Finset (Fin 0)) _)
  have hi : ((dats m 0 c).owesAt 0 (t0_0).castSucc : sProp 𝕄) ⊢ owing c (owe c todo0) := by
    unfold Dat.owesAt Pipeline.owesWithin owing
    iintro ⟨%W, -, H⟩
    iexists W
    iexact H
  have hf : (owing c 0 : sProp 𝕄) ⊢ (dats m 0 c).owesAt 0 (t0_0).succ := by
    unfold Dat.owesAt Pipeline.owesWithin owing
    iintro ⟨%W, H⟩
    iexists W
    isplitr; · ipureintro; exact fun _ _ => Or.inl trivial
    iexact H
  rw [body_eq]
  unfold wpc
  rw [wp_deviceId]
  iintro ⟨HΦ, Ho, -⟩
  ihave Ho := hi $$ Ho
  ihave H := (wp_run m c) $$ [HΦ Ho]
  · isplitl [HΦ] <;> iassumption
  iapply (wp_mono (M := 𝕄) frame _ _ fun _ => BIClass.sep_mono BIBase.Entails.rfl (hf.trans (by
    iintro H; isplitl [H]; · iexact H
    rw [Finset.univ_eq_empty, BI.bigSep_empty]; iempintro))) $$ H

/-! ### The launch -/

def u₀ : UU := (initOf (Pipeline.cells cfgs cellOf_inj) (Pipeline.launchToks cfgs cellOf_inj), (initOf allCells allToks, 1))

theorem u₀_dealt : (ownU u₀ : sProp 𝕄)
    ⊢ |={Set.univ}=> iprop(BI.own (EP (initOf (Pipeline.cells cfgs cellOf_inj) (Pipeline.launchToks cfgs cellOf_inj))) ∗ bigSep Finset.univ (G (w₀ m))) := by
  have h : ∀ (a : UR sig nD τ) (b : URounds (GSem nD τ sig) Bool), (ownU (a, (b, (1 : Counters))) : sProp 𝕄) ⊢ iprop(BI.own (EP a) ∗ BI.own (ER b)) := fun a b => by
    refine (ownU_pair a (b, (1 : Counters))).trans (BIClass.sep_mono BIBase.Entails.rfl ((own_pair_emb _ b (1 : Counters)).trans ?_))
    iintro ⟨H, -⟩
    iexact H
  unfold u₀
  iintro Hu
  ihave H := (h _ _) $$ Hu
  icases H with ⟨HP, HX⟩
  imod (fund_all (w₀ m)) $$ HX with HG
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred (fun d => owe d todo0) c ∗ prngReg c (ρ c) ∗ G' (w₀ m) c)
      ⊢ |={Set.univ}=> (iprop(start m c ∗ emp) : sProp 𝕄) := by
  rw [Pipeline.unscopedRestP_none, unscopedRest0_eq]
  unfold G' start Ctx hbm
  iintro ⟨⟨H0, H1, H2, H3, H4, H5, H6, H7, H8⟩, Hlev, Hcr, -, HN, HP, HT, HL⟩
  imodintro
  isplitl
  · isplitl [HN Hlev]
    · isplitl [HN]; · iexact HN
      iexact Hlev
    isplitl [H0 H1]
    · iapply (args_in (X₀ m) (W₀ m) c)
      isplitl [H0]; · iexact H0
      iexact H1
    isplitl [Hcr HP HT]
    · iapply (pstart_intro c)
      isplitl [Hcr]; · iexact Hcr
      isplitl [HP]; · iexact HP
      iexact HT
    isplitl [H2]; · iapply (any_whole c main_v1_0 _) $$ H2
    isplitl [H3 H4 H5 H6 H7 H8]
    · isplitl [H3 H4]
      · isplitl [H3]; · iapply (any_whole c main_v1_1 _) $$ H3
        iapply (any_whole c main_v1_2 _) $$ H4
      isplitl [H5 H6]
      · isplitl [H5]; · iapply (any_whole c main_v1_3 _) $$ H5
        iapply (any_whole c main_v1_4 _) $$ H6
      isplitl [H7]; · iapply (any_whole c main_v1_5 _) $$ H7
      iapply (any_whole c main_v1_6 _) $$ H8
    iexact HL
  iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (scoped_in c) $$ Hr

theorem phi1_exit (c : Dev nD) :
    (dats m 0 c).Φ (Fin.last cfg0.N) ⊢ iprop((left m c ∗ unscopedSems0 c) ∗ Pipeline.ownSems0 osem c ∗ Pipeline.scopedRest cfg0.spec c) := by
  rw [show (dats m 0 c).Φ (Fin.last cfg0.N) = Φ₁ m c from rfl]
  unfold Φ₁
  iintro ⟨HL, HZ, HS⟩
  ihave HZ := (sems_out (F := F) c) $$ HZ
  icases HZ with ⟨HU, HO⟩
  isplitl [HL HU]
  · isplitl [HL]; · iexact HL
    iexact HU
  isplitl [HO]; · iexact HO
  iapply (scoped_out c) $$ HS

theorem waits (c : Dev nD) : (levAts L lv : sProp 𝕄) ⊢ Pipeline.cellsWaits cfgs (dats m) 0 0 c :=
  Pipeline.cellsWaits_intro cfgs (dats m) 0 0 c fun w _ _ => w.elim0

/-- What a device's memory holds in the end. -/
def QY (c : Dev nD) (s : MemSt nD τ sig (Elt F)) : Prop :=
  (s.mem ((c : Thread nD τ).loc main_arg0) = X₀ m c ∧ s.mem ((c : Thread nD τ).loc main_arg1) = W₀ m c ∧ s.mem ((c : Thread nD τ).loc main_v1_0) = res (X₀ m) (W₀ m))
    ∧ ∀ sm : SemLoc sig, sm.isScoped .tc = false → s.sem ((c.tc : Thread nD τ), sm) = 0

theorem final_read (c : Dev nD) (s' : Phys nD τ sig (Elt F)) :
    (iprop((left m c ∗ unscopedSems0 c) ∗ emp ∗ SI s') : sProp 𝕄) ⊢ |={Set.univ}=> iprop(⌜QY m c s'.mem⌝ ∗ SI s') := by
  have h : ∀ (b : Ref sig .tc) (f : Buf (Elt F) ((c : Thread nD τ).loc b)), (iprop(SI s' ∗ ((c : Thread nD τ).loc b ↦{fullShare} f)) : sProp 𝕄)
      ⊢ iprop(⌜s'.mem.mem ((c : Thread nD τ).loc b) = f⌝ ∗ SI s') := fun b f => by
    have h1 : (iprop(SI s' ∗ ((c : Thread nD τ).loc b ↦{fullShare} f)) : sProp 𝕄) ⊢ ⌜s'.mem.mem ((c : Thread nD τ).loc b) = f⌝ := by
      refine SI_pointsTo_agree.trans ?_
      iintro %h
      ipureintro
      exact Buf.eq_of_forall_mem_univ h
    refine (persistent_entails_right h1).trans ?_
    iintro ⟨H, HS, -⟩
    isplitl [H]; · iexact H
    iexact HS
  unfold left
  iintro ⟨⟨⟨H0, H1, H2⟩, Hu⟩, -, HSI⟩
  ihave H := (h main_arg0 (X₀ m c)) $$ [HSI H0]
  · isplitl [HSI]; · iexact HSI
    iexact H0
  icases H with ⟨%e0, HSI⟩
  ihave H := (h main_arg1 (W₀ m c)) $$ [HSI H1]
  · isplitl [HSI]; · iexact HSI
    iexact H1
  icases H with ⟨%e1, HSI⟩
  ihave H := (h main_v1_0 (res (X₀ m) (W₀ m))) $$ [HSI H2]
  · isplitl [HSI]; · iexact HSI
    iexact H2
  icases H with ⟨%e2, HSI⟩
  imod (Pipeline.unscopedSems0_read (X := unscopedSems0 c) (c := c) fupd_intro s') $$ [Hu HSI] with ⟨%e3, HSI⟩
  · isplitl [Hu] <;> iassumption
  imodintro
  isplitr; · ipureintro; exact ⟨⟨e0, e1, e2⟩, e3⟩
  iexact HSI

theorem share_eq (c : Dev nD) (w : Fin cfg0.W) : (dats m 0 c).share w = fullShare := w.elim0

set_option maxRecDepth 8000 in
/-- The run, at any float values: every execution ends, with the result at its value on every device, the operands as launched and every semaphore at zero. -/
theorem run_main : θ_run defs (onTc (τ := τ) (main (F := F))) ⟨m, fun _ => 0, ρ⟩ (fun r =>
    (∀ c : Dev nD, r.2.mem ((c : Thread nD τ).loc main_arg0) = X₀ m c ∧ r.2.mem ((c : Thread nD τ).loc main_arg1) = W₀ m c
      ∧ r.2.mem ((c : Thread nD τ).loc main_v1_0) = res (X₀ m) (W₀ m)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ Variants.none m ρ main
    (hmain := fun _ => rfl) (hbody := fun c => (body_obligation m c).loose) (hne := fun w => w.elim0) (harr := arr_whole0) (hstage := stage_whole0) (hshare := share_eq m)
    (hdistinct := winFacts0.arr_inj) (O₀ := fun d => owe d todo0) (howed₀ := fun _ => rfl) (howedN := fun _ => rfl)
    (L := L) (lv := lv) (hL := fun g h => if_neg h) (hwaits := waits m)
    (G := G (w₀ m)) (G' := G' (w₀ m)) (u₀ := u₀) (hu₀ := u₀_dealt m) (hglob := glob (w₀ m))
    (hA := fun _ w => w.elim0) (hpf := fun _ k => k.elim0)
    (X := start m) (Y := fun c => iprop(left m c ∗ unscopedSems0 c)) (Z := fun _ => iprop(emp))
    (hX := start_intro m ρ) (hin := phi0_intro m) (hout := phi1_exit m)
    (QY := QY m) (hY := final_read m)
    (hQ := fun _ h hs => ⟨fun c => (h c).2.2.1, sem_eq_zero hs fun c => (h c).2.2.2⟩)

end

end Cert.KProof
-- ==== Proof.Quantise.lean ====
module

public import Idealize.ShloMosaic.PureOps.Ideal
public import Idealize.ShloMosaic.Lib.IdealHost

@[expose] public section

noncomputable section

namespace Cert.KProof

open Idealize.ShloMosaic

/-! ### Quantising one extended real -/

/-- The bound of the eight-bit codes; -/
theorem word_hi : Ideal.ofBits .f32 0x42FE0000#32 = ((127 : ℝ) : EReal) := by
  simp [Ideal.ofBits, Ideal.ieee, -EReal.coe_mul]; norm_num
/-- its negation; -/
theorem word_lo : Ideal.ofBits .f32 0xC2FE0000#32 = ((-127 : ℝ) : EReal) := by
  simp [Ideal.ofBits, Ideal.ieee, -EReal.coe_mul, -EReal.coe_neg]; norm_num
/-- zero; -/
theorem word_zero : Ideal.ofBits .f32 0#32 = 0 := by simp [Ideal.ofBits, Ideal.ieee]
/-- and the infinity below everything. -/
theorem word_bot : Ideal.ofBits .f32 0xFF800000#32 = ⊥ := by simp [Ideal.ofBits, Ideal.ieee]

/-- A value rounded to the nearest integer and clipped to the codes' range. -/
def clip (z : EReal) : EReal := min ((127 : ℝ) : EReal) (max ((-127 : ℝ) : EReal) (Ideal.liftRound Ideal.roundHalfEven z))

/-- It is an integer of that range. -/
theorem clip_int (z : EReal) : ∃ n : ℤ, -127 ≤ n ∧ n ≤ 127 ∧ clip z = ((n : ℝ) : EReal) := by
  induction z with
  | bot =>
    refine ⟨-127, by omega, by omega, ?_⟩
    show min ((127 : ℝ) : EReal) (max ((-127 : ℝ) : EReal) ⊥) = _
    rw [max_eq_left bot_le, min_eq_right (EReal.coe_le_coe_iff.mpr (by norm_num))]
    norm_num
  | top =>
    refine ⟨127, by omega, by omega, ?_⟩
    show min ((127 : ℝ) : EReal) (max ((-127 : ℝ) : EReal) ⊤) = _
    rw [max_eq_right le_top, min_eq_left le_top]
    norm_num
  | coe r =>
    refine ⟨min 127 (max (-127) (Ideal.roundHalfEven r)), by omega, by omega, ?_⟩
    show min ((127 : ℝ) : EReal) (max ((-127 : ℝ) : EReal) ((Ideal.roundHalfEven r : ℝ) : EReal)) = _
    rw [← EReal.coe_strictMono.monotone.map_max, ← EReal.coe_strictMono.monotone.map_min]
    norm_num

/-- Such an integer is kept by the conversion to eight bits. -/
theorem code_int (n : ℤ) (h₁ : -127 ≤ n) (h₂ : n ≤ 127) : (Ideal.fptosi 8 ((n : ℝ) : EReal)).toInt = n := by
  have h : Ideal.toIntClamped (-(2 ^ (8 - 1) : Nat)) ((2 ^ (8 - 1) : Nat) - 1) ((n : ℝ) : EReal) = n := by
    show max _ (min _ (if (0 : ℝ) ≤ (n : ℝ) then ⌊(n : ℝ)⌋ else ⌈(n : ℝ)⌉)) = n
    rw [Int.floor_intCast, Int.ceil_intCast, ite_self]
    omega
  unfold Ideal.fptosi
  rw [h, BitVec.toInt_ofInt, Int.bmod_def]
  omega

/-- So a clipped value comes back from its code. -/
theorem code_clip (z : EReal) : (((Ideal.fptosi 8 (clip z)).toInt : ℝ) : EReal) = clip z := by
  obtain ⟨n, h₁, h₂, h⟩ := clip_int z
  rw [h, code_int n h₁ h₂]

/-- The product with the inverse scale and the quotient by the scale are quantised alike, and scaled back alike:
where all values are zero or some value is infinite too. -/
theorem quantise_eq (y g : EReal) (h : max y (-y) ≤ g) :
    (((Ideal.fptosi 8 (clip (y * Ideal.div ((127 : ℝ) : EReal) g))).toInt : ℝ) : EReal) * Ideal.div g ((127 : ℝ) : EReal)
      = clip (Ideal.div y (Ideal.div g ((127 : ℝ) : EReal))) * Ideal.div g ((127 : ℝ) : EReal) := by
  rw [code_clip]
  have h127 : (127 : ℝ) ≠ 0 := by norm_num
  have hg : 0 ≤ g := le_trans (by rcases le_total 0 y with hy | hy
                                  · exact le_max_of_le_left hy
                                  · exact le_max_of_le_right (by rwa [EReal.neg_nonneg])) h
  induction g with
  | bot => exact absurd hg (by simp)
  | top =>
    have e : Ideal.div (⊤ : EReal) ((127 : ℝ) : EReal) = ⊤ := by
      rw [Ideal.div_coe h127, EReal.top_mul_coe_of_pos (by norm_num)]
    rw [e]
    simp [Ideal.div]
  | coe r =>
    rcases eq_or_ne r 0 with rfl | hr
    · rw [show Ideal.div ((0 : ℝ) : EReal) ((127 : ℝ) : EReal) = 0 by rw [Ideal.div_coe h127]; simp, mul_zero, mul_zero]
    · induction y with
      | bot => simp at h
      | top => simp at h
      | coe s =>
        have hr' : r * (1 / 127) ≠ 0 := mul_ne_zero hr (by norm_num)
        congr 2
        rw [Ideal.div_coe hr, Ideal.div_coe h127, ← EReal.coe_mul, ← EReal.coe_mul, ← EReal.coe_mul, Ideal.div_coe hr', ← EReal.coe_mul]
        congr 1
        field_simp

end Cert.KProof

end

end
-- ==== Proof.Maxima.lean ====
module

public import proofs.«01_k».proof.Proof.Contents
public import proofs.«01_k».proof.Proof.Quantise

@[expose] public section

set_option maxRecDepth 65536

noncomputable section

namespace Cert.KProof

open Idealize.ShloMosaic Idealize.ShloMosaic.TcCoe
open Idealize.SL.Sem
open Cert.KernelIdeal Cert.KernelIdeal.Gen

/-! ### Maxima over all places -/

/-- A running maximum is below `z` when all it has met is. -/
theorem run_max_le {ι : Type} (f : ι → EReal) (z : EReal) : ∀ (l : List ι) (b : EReal),
    l.foldl (fun r i => max r (f i)) b ≤ z ↔ b ≤ z ∧ ∀ i ∈ l, f i ≤ z
  | [], b => by simp
  | a :: l, b => by
    rw [List.foldl_cons, run_max_le f z l, max_le_iff, List.forall_mem_cons, and_assoc]

/-- Every place is in the list of places. -/
theorem mem_places {s : Shape} (i : s.Idx) : i ∈ (List.finRange s.numel).map s.rowMajor.symm :=
  List.mem_map.mpr ⟨s.rowMajor i, List.mem_finRange _, s.rowMajor.symm_apply_apply i⟩

/-- A kernel's maximum over all axes; -/
theorem fold_le {s t : Shape} {axes : List (Fin s.rank)} (h : s.Reduces axes t) (ht : ∀ b, t.size b = 1) (x : s.Idx → EReal) (j : t.Idx) (z : EReal) :
    reduceFold h max (⊥ : EReal) x j ≤ z ↔ ∀ i, x i ≤ z := by
  rw [reduceFold_eq_foldl_of_size_one h ht, run_max_le]
  exact ⟨fun e i => e.2 i (mem_places i), fun e => ⟨bot_le, fun i _ => e i⟩⟩

/-- the host's, into a scalar. -/
theorem host_le {s t u : Shape} {axes : List (Fin s.rank)} (h : s.ReducesTo axes t) (hu : 0 < u.numel) [Subsingleton t.Idx] (x : s.Idx → EReal)
    (b : u.Idx → EReal) (hb : b (Shape.Idx.first hu) = ⊥) (j : t.Idx) (z : EReal) : Host.reduce max x b h hu j ≤ z ↔ ∀ i, x i ≤ z := by
  rw [Host.reduce_eq_foldl, run_max_le, hb]
  exact ⟨fun e i => e.2 i (List.mem_filter.mpr ⟨mem_places i, decide_eq_true (Subsingleton.elim _ _)⟩), fun e => ⟨bot_le, fun i _ => e i⟩⟩

/-! ### The kernel's greatest magnitude -/

/-- The shape of one element has extent one on every axis. -/
theorem one_axis : ∀ b, S1.size b = 1 := by decide

/-- A kernel's maximum reduction from below everything is below `z` when every value is. -/
theorem reduce_le {s t : Shape} {axes : List (Fin s.rank)} (x : FVec Ideal s .f32) (h : s.Reduces axes t) (hφ : FKind.Formats .f32)
    (hacc : (0xFF800000#32 : BitVec FTy.f32.bits) = FKind.maximumf.neutral .f32 hφ) (ht : ∀ b, t.size b = 1) (j : t.Idx) (z : EReal) :
    (multiReduction (F := Ideal) .maximumf axes t x 0xFF800000#32 h hφ hacc j : EReal) ≤ z ↔ ∀ i, (x i : EReal) ≤ z := by
  have e : multiReduction (F := Ideal) .maximumf axes t x 0xFF800000#32 h hφ hacc = reduceFold h max (Ideal.ofBits .f32 0xFF800000#32) x := rfl
  rw [e, word_bot]
  exact fold_le h ht x j z

/-- Every place of a tile is a place of its slot. -/
theorem every_up {p : EReal → Prop} (w : Vec Ideal S1024x2048 .f32) : (∀ i, p (up w i)) ↔ ∀ i, p (w i) := by
  constructor
  · intro e i
    have := e (Shape.reshapeEquiv shapeCasts_S1x1024x2048_S1024x2048 i)
    rwa [show up w (Shape.reshapeEquiv shapeCasts_S1x1024x2048_S1024x2048 i) = dn (up w) i from rfl, dn_up] at this
  · exact fun e i => e _

/-- The maximum over a tile, -/
theorem slot_le (u : Vec Ideal S1x1024x2048 .f32) (j : S1.Idx) (z : EReal) : (k0_pay15 (F := Ideal) u j : EReal) ≤ z
    ↔ ∀ i, (shapeCast S1x1024x2048 (absf (F := Ideal) (φ := .f32) (shapeCast S1024x2048 u shapeCasts_S1x1024x2048_S1024x2048)) shapeCasts_S1024x2048_S1x1024x2048 i : EReal) ≤ z := by
  unfold k0_pay15
  exact reduce_le _ _ _ _ one_axis j z
/-- The greatest magnitude of a tile is below `z` when every magnitude in it is. -/
theorem mag_le (w : Vec Ideal S1024x2048 .f32) (j : S1.Idx) (z : EReal) : (k0_pay15 (F := Ideal) (up w) j : EReal) ≤ z ↔ ∀ i, max (w i) (-(w i) : EReal) ≤ z := by
  refine (slot_le _ j z).trans ?_
  have e : (shapeCast S1024x2048 (up w) shapeCasts_S1x1024x2048_S1024x2048 : FVec Ideal S1024x2048 .f32) = w := dn_up w
  rw [e]
  exact every_up (p := fun v => v ≤ z) (absf (F := Ideal) (φ := .f32) w)

/-- read off its one place, -/
theorem lane (r : FVec Ideal S1 .f32) : ∃ j, (extractAt ![0, 0, 0] (shapeCast S1x1x1 r shapeCasts_S1_S1x1x1) inpos_S1x1x1_p0_0_0 : EReal) = r j := ⟨_, rfl⟩

/-- with what was met before it. -/
theorem mag_third (a : EReal) (r : FVec Ideal S1 .f32) : ∃ j, (k0_pay16 (F := Ideal) a r : EReal) = max a (r j) := by
  obtain ⟨j, h⟩ := lane r
  exact ⟨j, congrArg (max a) h⟩
/-- A running maximum with a tile met after it is below `z` when both are. -/
theorem third_le (a : EReal) (w : Vec Ideal S1024x2048 .f32) (z : EReal) :
    (k0_pay16 (F := Ideal) a (k0_pay15 (up w)) : EReal) ≤ z ↔ a ≤ z ∧ ∀ i, max (w i) (-(w i) : EReal) ≤ z := by
  obtain ⟨j, h⟩ := mag_third a (k0_pay15 (up w))
  rw [h, max_le_iff, mag_le]
/-- The second, the fourth and the first tile of a step are met in the same way as the third. -/
theorem pay11_eq (a : EReal) (u : Vec Ideal S1x1024x2048 .f32) : k0_pay11 (F := Ideal) a u = k0_pay16 (F := Ideal) a (k0_pay15 u) := by
  unfold k0_pay11 k0_pay16 k0_pay15; rfl
theorem pay19_eq (a : EReal) (u : Vec Ideal S1x1024x2048 .f32) : k0_pay19 (F := Ideal) a u = k0_pay16 (F := Ideal) a (k0_pay15 u) := by
  unfold k0_pay19 k0_pay16 k0_pay15; rfl
theorem pay8_eq (u : Vec Ideal S1x1024x2048 .f32) : k0_pay8 (F := Ideal) u = k0_pay16 (F := Ideal) (Scalar.ofBits .f32 0#32) (k0_pay15 u) := by
  unfold k0_pay8 k0_pay16 k0_pay15; rfl
/-- The greatest magnitude of four tiles. -/
theorem four_le (p q r t : Vec Ideal S1024x2048 .f32) (z : EReal) :
    (k0_pay19 (F := Ideal) (k0_pay16 (k0_pay11 (k0_pay8 (up p)) (up q)) (k0_pay15 (up r))) (up t) : EReal) ≤ z
    ↔ (((0 ≤ z ∧ ∀ i, max (p i) (-(p i) : EReal) ≤ z) ∧ ∀ i, max (q i) (-(q i) : EReal) ≤ z) ∧ ∀ i, max (r i) (-(r i) : EReal) ≤ z)
      ∧ ∀ i, max (t i) (-(t i) : EReal) ≤ z := by
  rw [pay19_eq, pay11_eq, pay8_eq, third_le, third_le, third_le, third_le]
  have e : (Scalar.ofBits (F := Ideal) .f32 0#32 : EReal) = 0 := word_zero
  rw [e]

/-- A choice by a scalar condition that holds. -/
theorem sel_last (a b : EReal) (i : BitVec 32) (h : i = 2#32) : k0_pay29 (F := Ideal) a i b = b := by
  subst h; rfl
/-- The ring loop has a last trip, -/
theorem two_lt : 2 < k0_t1_loop.trips := by decide
/-- whose counter is two. -/
theorem iv_two : Scf.iv 0#32 1#32 (⟨2, two_lt⟩ : Fin k0_t1_loop.trips) = 2#32 := by decide

/-- One value spread over a row. -/
theorem spread (a : EReal) (x : S1x128.Idx) : (k0_pay30 (F := Ideal) a x : EReal) = a := by
  unfold k0_pay30; rfl

section
variable (X : ∀ c : Dev nD, Buf (Elt Ideal) ((c : Thread nD τ).loc main_arg0)) (W : ∀ c : Dev nD, Buf (Elt Ideal) ((c : Thread nD τ).loc main_arg1))

/-- A device's greatest magnitude in a step; -/
theorem am_le (s : ℕ) (c : Dev nD) (z : EReal) : (am X W s c : EReal) ≤ z
    ↔ 0 ≤ z ∧ ∀ (D : Bool) (n : Fin 2) i, max (part X W s D c n i) (-(part X W s D c n i) : EReal) ≤ z := by
  unfold am
  refine (four_le _ _ _ _ z).trans ?_
  constructor
  · rintro ⟨⟨⟨⟨a, b⟩, d⟩, e⟩, f⟩
    exact ⟨a, Bool.forall_bool.mpr ⟨Fin.forall_fin_two.mpr ⟨b, e⟩, Fin.forall_fin_two.mpr ⟨d, f⟩⟩⟩
  · rintro ⟨a, h⟩
    exact ⟨⟨⟨⟨a, h false 0⟩, h true 0⟩, h false 1⟩, h true 1⟩

/-- the loop ends with the last step's; -/
theorem lvl_last (c : Dev nD) : lvl X W c 3 = am X W 2 c := by
  rw [lvl, dif_pos two_lt]
  exact sel_last _ _ _ iv_two

/-- The row a device puts into the table; -/
theorem row_def (c : Dev nD) : rowOf X W c = k0_pay30 (F := Ideal) (lvl X W c 3) := by unfold rowOf; rfl
/-- the row holds it at every place, -/
theorem row_at (c : Dev nD) (x : S1x128.Idx) : rowOf X W c x = am X W 2 c :=
  (congrFun (row_def X W c) x).trans ((spread _ x).trans (lvl_last X W c))

/-- the table holds each device's; -/
theorem tab_le (z : EReal) : (∀ i, (tab X W i : EReal) ≤ z) ↔ ∀ c, (am X W 2 c : EReal) ≤ z := by
  have h : ∀ c x, tab X W (rowT.e c x) = am X W 2 c := fun c x => by
    unfold tab
    exact (rowT.glue_at (β := Elt Ideal .f32) (rowOf X W) c x).trans (row_at X W c x)
  constructor
  · intro e c
    rw [← h c (fun a => ⟨0, (by decide : ∀ a, 0 < S1x128.size a) a⟩)]
    exact e _
  · intro e i
    obtain ⟨c, x, rfl⟩ := rowT.cov i
    rw [h]
    exact e c

/-- and the maximum of the table is that of all devices. -/
theorem top_le (z : EReal) : (k0_pay31 (tab X W) : EReal) ≤ z
    ↔ 0 ≤ z ∧ ∀ (c : Dev nD) (D : Bool) (n : Fin 2) i, max (part X W 2 D c n i) (-(part X W 2 D c n i) : EReal) ≤ z := by
  unfold k0_pay31
  obtain ⟨j, h⟩ := lane (multiReduction (F := Ideal) .maximumf [1, 2] S1 (shapeCast S1x4x128 (tab X W) shapeCasts_S4x128_S1x4x128) 0xFF800000#32 reduces_S1x4x128_S1 (.inl rfl) rfl)
  refine (iff_of_eq (congrArg (fun b : EReal => b ≤ z) h)).trans ((reduce_le _ _ _ _ one_axis j z).trans ?_)
  have h' : (∀ i, (shapeCast S1x4x128 (tab X W) shapeCasts_S4x128_S1x4x128 i : EReal) ≤ z) ↔ ∀ i, (tab X W i : EReal) ≤ z :=
    (Shape.reshapeEquiv shapeCasts_S4x128_S1x4x128).forall_congr fun i => Iff.rfl
  refine h'.trans ((tab_le X W z).trans ?_)
  constructor
  · exact fun e => ⟨((am_le X W 2 0 z).mp (e 0)).1, fun c => ((am_le X W 2 c z).mp (e c)).2⟩
  · exact fun e c => (am_le X W 2 c z).mpr ⟨e.1, e.2 c⟩

end

end Cert.KProof

end

end
-- ==== Proof.Products.lean ====
module

public import proofs.«01_k».proof.Proof.Contents
public import Idealize.ShloMosaic.Lib.MatmulPlain
public import proofs.«01_k».proof.Proof.Quantise

@[expose] public section

set_option maxRecDepth 65536

noncomputable section

namespace Cert.KProof

open Idealize.ShloMosaic Idealize.ShloMosaic.TcCoe Idealize.ShloMosaic.ValueIdx
open Idealize.SL.Sem
open Cert.KernelIdeal Cert.KernelIdeal.Gen

/-! ### The tiles' arithmetic with exact numbers -/

/-- A tile product is a matrix product onto nothing. -/
theorem gm_eq (x : Vec Ideal S1024x1024 .f32) (w : Vec Ideal S1024x2048 .f32) :
    gm (F := Ideal) x w = matmul (F := Ideal) (φ₁ := .f32) (φ₂ := .f32) dot_S1024x1024_S1024x2048_S1024x2048_1_0_0_1_n_n none x w (constant S1024x2048 .f32 0x00000000#32) := by
  unfold gm k0_pay1
  exact (dn_up _).trans (congrArg (fun v => matmul (F := Ideal) (φ₁ := .f32) (φ₂ := .f32) dot_S1024x1024_S1024x2048_S1024x2048_1_0_0_1_n_n none x v (constant S1024x2048 .f32 0x00000000#32)) (dn_up w))

/-- An entry of a tile product is a sum over the chunk. -/
theorem gm_at (x : Vec Ideal S1024x1024 .f32) (w : Vec Ideal S1024x2048 .f32) (r : Fin 1024) (l : Fin 2048) :
    (gm (F := Ideal) x w (ix2 r l) : EReal) = ∑ k : Fin 1024, (x (ix2 r k) : EReal) * w (ix2 k l) := by
  rw [gm_eq]
  refine (Ideal.matmul_plain_apply (M := 1024) (K := 1024) (N := 2048) none x w (constant S1024x2048 .f32 0x00000000#32) r l).trans ?_
  have e : (constant (F := Ideal) S1024x2048 .f32 0x00000000#32 (ix2 r l) : EReal) = 0 := word_zero
  rw [e, zero_add]

/-- Half precision keeps an exact number. -/
theorem half_at (v : Vec Ideal S1024x2048 .f32) (i : S1024x2048.Idx) : (half (F := Ideal) v i : EReal) = v i := by
  unfold half k0_pay22
  have e := (dn_up (F := Ideal) (e := .bf16) (truncf (F := Ideal) .bf16 (dn (up v)) bitsLt_bf16_f32))
  refine (congrFun e i).trans ?_
  exact congrFun (dn_up v) i

/-- What was received is added place by place. -/
theorem plus_at (u : Vec Ideal S1024x2048 .bf16) (w : Vec Ideal S1024x2048 .f32) (i : S1024x2048.Idx) : (plus (F := Ideal) u w i : EReal) = u i + w i := by
  unfold plus k0_pay7 k0_pay6
  have e := (dn_up (F := Ideal) (e := .f32) (addf (F := Ideal) (extf .f32 (dn (up u)) bitsLt_bf16_f32) (dn (up w))))
  refine (congrFun e i).trans ?_
  exact congrArg₂ (fun a b : EReal => a + b) (congrFun (dn_up u) i) (congrFun (dn_up w) i)

/-! ### The partial sums with exact numbers -/

/-- Row `x` of chunk `e`, and column `y` of tile `n`, of the whole matrices. -/
def gr (e : Fin 4) (x : Fin 1024) : Fin 4096 := ⟨1024 * e.val + x.val, by have := e.isLt; have := x.isLt; omega⟩
/-- Column `y` of column tile `n`. -/
def gc (n : Fin 4) (y : Fin 2048) : Fin 8192 := ⟨2048 * n.val + y.val, by have := n.isLt; have := y.isLt; omega⟩

/-- A sum over a whole axis by chunks. -/
theorem chunks (g : Fin 4096 → EReal) : ∑ d : Fin 4, ∑ k : Fin 1024, g (gr d k) = ∑ k : Fin 4096, g k := by
  rw [← Fintype.sum_prod_type' (f := fun (d : Fin 4) (k : Fin 1024) => g (gr d k))]
  refine Fintype.sum_equiv (finProdFinEquiv : Fin 4 × Fin 1024 ≃ Fin (4 * 1024)) _ (fun k : Fin (4 * 1024) => g k) fun p => ?_
  refine congrArg g (Fin.ext ?_)
  show 1024 * p.1.val + p.2.val = p.2.val + 1024 * p.1.val
  omega

/-- The four devices, in the order a sum passes them. -/
theorem round (f : Fin 4 → EReal) : ∀ (D : Bool) (c : Fin 4), f (nb (!D) (nb (!D) (nb (!D) c))) + f (nb (!D) (nb (!D) c)) + f (nb (!D) c) + f c = ∑ d : Fin 4, f d := by
  intro D c
  rw [Fin.sum_univ_four]
  match D, c with
  | false, 0 => show f 1 + f 2 + f 3 + f 0 = _; ac_rfl
  | false, 1 => show f 2 + f 3 + f 0 + f 1 = _; ac_rfl
  | false, 2 => show f 3 + f 0 + f 1 + f 2 = _; ac_rfl
  | false, 3 => show f 0 + f 1 + f 2 + f 3 = _; ac_rfl
  | true, 0 => show f 3 + f 2 + f 1 + f 0 = _; ac_rfl
  | true, 1 => show f 0 + f 3 + f 2 + f 1 = _; ac_rfl
  | true, 2 => show f 1 + f 0 + f 3 + f 2 = _; ac_rfl
  | true, 3 => show f 2 + f 1 + f 0 + f 3 = _; ac_rfl

/-- All that a device ends with belongs to one chunk: the first share, -/
theorem meet0 : ∀ (D : Bool) (c : Fin 4), nb (!D) (nb (!D) (nb (!D) c)) = nb D c := by decide
/-- the second, -/
theorem meet1 : ∀ (D : Bool) (c : Fin 4), chunk D 0 (nb (!D) (nb (!D) c)) = nb D c := by decide
/-- the third -/
theorem meet2 : ∀ (D : Bool) (c : Fin 4), chunk D 1 (nb (!D) c) = nb D c := by decide
/-- and the last. -/
theorem meet3 : ∀ (D : Bool) (c : Fin 4), chunk D 2 c = nb D c := by decide

section
variable (X : ∀ c : Dev nD, Buf (Elt Ideal) ((c : Thread nD τ).loc main_arg0)) (W : ∀ c : Dev nD, Buf (Elt Ideal) ((c : Thread nD τ).loc main_arg1))

/-- What device `d` adds to chunk `e` in column tile `n`. -/
def share (d e n : Fin 4) (i : S1024x2048.Idx) : EReal := gm (F := Ideal) (xr X d e) (wt W d n) i

/-- A step adds a share to what was received; -/
theorem part_at (s : ℕ) (D : Bool) (c : Fin 4) (n : Fin 2) (i : S1024x2048.Idx) :
    (part X W s D c n i : EReal) = acc X W s D (nb (!D) c) n i + share X W c (chunk D s c) (col D n) i := by
  unfold part share
  exact plus_at _ _ i
/-- the ring begins with a share alone -/
theorem acc_zero_at (D : Bool) (c : Fin 4) (n : Fin 2) (i : S1024x2048.Idx) : (acc X W 0 D c n i : EReal) = share X W c c (col D n) i := by
  unfold share
  exact half_at _ i
/-- and hands on each sum. -/
theorem acc_succ_at (s : ℕ) (D : Bool) (c : Fin 4) (n : Fin 2) (i : S1024x2048.Idx) : (acc X W (s + 1) D c n i : EReal) = part X W s D c n i := by
  rw [acc_succ]
  exact half_at _ i

/-- A sum once it has passed all devices holds every device's share. -/
theorem part_two (D : Bool) (c : Fin 4) (n : Fin 2) (i : S1024x2048.Idx) :
    (part X W 2 D c n i : EReal) = ∑ d : Fin 4, share X W d (nb D c) (col D n) i := by
  have h0 := (part_at X W 0 D (nb (!D) (nb (!D) c)) n i).trans (congrArg (fun a : EReal => a + share X W (nb (!D) (nb (!D) c)) (chunk D 0 (nb (!D) (nb (!D) c))) (col D n) i) (acc_zero_at X W D (nb (!D) (nb (!D) (nb (!D) c))) n i))
  have h1 := (part_at X W 1 D (nb (!D) c) n i).trans (congrArg (fun a : EReal => a + share X W (nb (!D) c) (chunk D 1 (nb (!D) c)) (col D n) i) ((acc_succ_at X W 0 D (nb (!D) (nb (!D) c)) n i).trans h0))
  have h2 := (part_at X W 2 D c n i).trans (congrArg (fun a : EReal => a + share X W c (chunk D 2 c) (col D n) i) ((acc_succ_at X W 1 D (nb (!D) c) n i).trans h1))
  refine h2.trans ?_
  rw [meet1, meet2, meet3, ← round (fun d => share X W d (nb D c) (col D n) i) D c, meet0]

variable (A : (⟨2, ![4096, 4096]⟩ : Shape).Idx → EReal) (B : (⟨2, ![4096, 8192]⟩ : Shape).Idx → EReal)

/-- The devices hold the column blocks of `A` and the row blocks of `B`. -/
def HoldA : Prop := ∀ (c : Fin 4) (r : Fin 4096) (k : Fin 1024), (X c : S4096x1024.Idx → EReal) (ix2 r k) = A (ix2 r (gr c k))
/-- The devices hold the row blocks of `B`. -/
def HoldB : Prop := ∀ (c : Fin 4) (k : Fin 1024) (l : Fin 8192), (W c : S1024x8192.Idx → EReal) (ix2 k l) = B (ix2 (gr c k) l)

/-- A device's chunk of rows is a block of `A`, -/
theorem xr_val (hA : HoldA X A) (c e : Fin 4) (r k : Fin 1024) : (xr X c e (ix2 r k) : EReal) = A (ix2 (gr e r) (gr c k)) := by
  refine Eq.trans ?_ (hA c (gr e r) k)
  refine congrArg (X c : S4096x1024.Idx → EReal) (funext fun a => Fin.ext ?_)
  match a with
  | ⟨0, _⟩ => show 1024 * e.val + 1 * r.val = 1024 * e.val + r.val; omega
  | ⟨1, _⟩ => show 0 + 1 * k.val = k.val; omega
/-- and its column tile a block of `B`. -/
theorem wt_val (hB : HoldB W B) (c n : Fin 4) (k : Fin 1024) (l : Fin 2048) : (wt W c n (ix2 k l) : EReal) = B (ix2 (gr c k) (gc n l)) := by
  refine Eq.trans ?_ (hB c k (gc n l))
  refine congrArg (W c : S1024x8192.Idx → EReal) (funext fun a => Fin.ext ?_)
  match a with
  | ⟨0, _⟩ => show 0 + 1 * k.val = k.val; omega
  | ⟨1, _⟩ => show 2048 * n.val + 1 * l.val = 2048 * n.val + l.val; omega

/-- An entry of the product of the whole matrices. -/
def entry (r : Fin 4096) (l : Fin 8192) : EReal := ∑ k : Fin 4096, A (ix2 r k) * B (ix2 k l)

/-- The sum a device ends with is its tile of the whole product. -/
theorem part_entry (hA : HoldA X A) (hB : HoldB W B) (D : Bool) (c : Fin 4) (n : Fin 2) (r : Fin 1024) (l : Fin 2048) :
    (part X W 2 D c n (ix2 r l) : EReal) = entry A B (gr (nb D c) r) (gc (col D n) l) := by
  rw [part_two, entry, ← chunks]
  refine Finset.sum_congr rfl fun d _ => (gm_at _ _ r l).trans (Finset.sum_congr rfl fun k _ => ?_)
  rw [xr_val X A hA, wt_val W B hB]

end

end Cert.KProof

end

end
-- ==== Proof.Value.lean ====
module

public import proofs.«01_k».proof.Proof.Maxima
public import proofs.«01_k».proof.Proof.Products
public import proofs.«01_k».proof.Proof.Ends
public import proofs.«01_k».proof.Proof.Gen.ReferenceIdeal.Run

@[expose] public section

set_option maxRecDepth 65536

noncomputable section

namespace Cert.KProof

open Idealize.ShloMosaic Idealize.ShloMosaic.TcCoe Idealize.ShloMosaic.ValueIdx
open Idealize.SL.Sem
open Cert.KernelIdeal Cert.KernelIdeal.Gen

/-! ### The kernel's quantised tiles -/

/-- A quantised value is the code of its scaled and clipped rounding. -/
theorem quan_at (a : EReal) (v : Vec Ideal S1024x2048 .f32) (i : S1024x2048.Idx) :
    (quan (F := Ideal) a v i : BitVec 8) = Ideal.fptosi 8 (clip ((v i : EReal) * a)) := by
  unfold quan k0_pay34
  refine (congrFun (dn_up (F := Ideal) (e := .i8) (fptosi 8 (minimumf (F := Ideal) (φ := .f32) (broadcast S1024x2048 (Scalar.ofBits .f32 0x42FE0000#32))
    (maximumf (broadcast S1024x2048 (Scalar.ofBits .f32 0xC2FE0000#32)) (roundeven (mulf (dn (up v)) (broadcast S1024x2048 a))))))) i).trans ?_
  have e : (dn (up v) : Vec Ideal S1024x2048 .f32) = v := dn_up v
  rw [e]
  show Ideal.fptosi 8 (min (Ideal.ofBits .f32 0x42FE0000#32) (max (Ideal.ofBits .f32 0xC2FE0000#32) (Ideal.liftRound Ideal.roundHalfEven ((v i : EReal) * a)))) = _
  rw [word_hi, word_lo, clip]

/-- A code scaled back is its number times the scale. -/
theorem back_at (s : EReal) (q : Vec Ideal S1024x2048 .i8) (i : S1024x2048.Idx) :
    (back (F := Ideal) s q i : EReal) = (((q i : BitVec 8).toInt : ℝ) : EReal) * s := by
  unfold back k0_pay35
  refine (congrFun (dn_up (F := Ideal) (e := .f32) (mulf (F := Ideal) (φ := .f32) (sitofp .f32 (dn (up q))) (broadcast S1024x2048 s))) i).trans ?_
  have e : (dn (up q) : Vec Ideal S1024x2048 .i8) = q := dn_up q
  rw [e]
  rfl

/-- The two scales are the quotients of the greatest magnitude and 127. -/
theorem up_scale (t : Vec Ideal S4x128 .f32) : (k0_pay32 (F := Ideal) t : EReal) = Ideal.div ((127 : ℝ) : EReal) (k0_pay31 t) := by
  unfold k0_pay32
  rw [← word_hi]
  rfl
/-- The scale back is the greatest magnitude over 127. -/
theorem down_scale (t : Vec Ideal S4x128 .f32) : (k0_pay33 (F := Ideal) t : EReal) = Ideal.div (k0_pay31 t) ((127 : ℝ) : EReal) := by
  unfold k0_pay33
  rw [← word_hi]
  rfl

/-- A number quantised at the scale of `g` and scaled back. -/
def level (y g : EReal) : EReal := clip (Ideal.div y (Ideal.div g ((127 : ℝ) : EReal))) * Ideal.div g ((127 : ℝ) : EReal)

section
variable (X : ∀ c : Dev nD, Buf (Elt Ideal) ((c : Thread nD τ).loc main_arg0)) (W : ∀ c : Dev nD, Buf (Elt Ideal) ((c : Thread nD τ).loc main_arg1))

/-- The greatest magnitude of the whole product, as the kernel finds it. -/
def top : EReal := k0_pay31 (F := Ideal) (tab X W)

/-- So is the scale the devices use, -/
theorem inv_eq : (inv X W : EReal) = Ideal.div ((127 : ℝ) : EReal) (top X W) := by unfold inv top; exact up_scale _
/-- and the scale back. -/
theorem sc_eq : (sc X W : EReal) = Ideal.div (top X W) ((127 : ℝ) : EReal) := by unfold sc top; exact down_scale _

/-- Every tile of the result comes from the device that ends with it. -/
theorem out_tile (i : Fin 4 × Fin 4) : ∃ (D : Bool) (n : Fin 2), col D n = i.2 ∧ outV X W i = back (sc X W) (Q X W D (nb (!D) i.1) n) := by
  obtain ⟨a, b⟩ := i
  unfold outV
  match b with
  | 0 => exact ⟨false, 0, rfl, rfl⟩
  | 1 => exact ⟨false, 1, rfl, rfl⟩
  | 2 => exact ⟨true, 0, rfl, rfl⟩
  | 3 => exact ⟨true, 1, rfl, rfl⟩

/-- No magnitude in a sum exceeds the greatest. -/
theorem top_ge (D : Bool) (c : Fin 4) (n : Fin 2) (i : S1024x2048.Idx) : max (part X W 2 D c n i) (-(part X W 2 D c n i) : EReal) ≤ top X W :=
  ((top_le X W (top X W)).mp (le_refl (top X W))).2 c D n i

/-- What a device makes of a sum. -/
theorem tile_at (D : Bool) (c : Fin 4) (n : Fin 2) (i : S1024x2048.Idx) :
    (back (sc X W) (Q X W D c n) i : EReal) = level (part X W 2 D c n i) (top X W) := by
  refine (back_at _ _ i).trans ?_
  have e : (Q X W D c n i : BitVec 8) = Ideal.fptosi 8 (clip ((part X W 2 D c n i : EReal) * Ideal.div ((127 : ℝ) : EReal) (top X W))) := by
    unfold Q
    refine (quan_at _ _ i).trans ?_
    rw [inv_eq]
  rw [e, sc_eq]
  exact quantise_eq _ _ (top_ge X W D c n i)

variable (A : (⟨2, ![4096, 4096]⟩ : Shape).Idx → EReal) (B : (⟨2, ![4096, 8192]⟩ : Shape).Idx → EReal)

/-- Every place of the result is a place of a tile. -/
theorem gr_all (r : Fin 4096) : ∃ e x, gr e x = r :=
  ⟨⟨r.val / 1024, by have := r.isLt; omega⟩, ⟨r.val % 1024, Nat.mod_lt _ (by decide)⟩, Fin.ext (Nat.div_add_mod r.val 1024)⟩
/-- Every column lies in a column tile. -/
theorem gc_all (l : Fin 8192) : ∃ n y, gc n y = l :=
  ⟨⟨l.val / 2048, by have := l.isLt; omega⟩, ⟨l.val % 2048, Nat.mod_lt _ (by decide)⟩, Fin.ext (Nat.div_add_mod l.val 2048)⟩
/-- Every column tile belongs to a direction. -/
theorem col_all : ∀ b : Fin 4, ∃ D n, col D n = b := by decide

/-- A place of a tile in the whole result. -/
theorem place (i : Fin 4 × Fin 4) (r : Fin 1024) (l : Fin 2048) :
    (outT.e i (ix2 r l : S1024x2048.Idx) : S4096x8192.Idx) = ix2 (gr i.1 r) (gc i.2 l) := by
  funext a
  refine Fin.ext ?_
  match a with
  | ⟨0, _⟩ => rfl
  | ⟨1, _⟩ => rfl

/-- The kernel's result is the whole product, quantised at its greatest magnitude and scaled back. -/
theorem res_at (hA : HoldA X A) (hB : HoldB W B) (r : Fin 4096) (l : Fin 8192) : (res X W (ix2 r l) : EReal) = level (entry A B r l) (top X W) := by
  obtain ⟨e, x, rfl⟩ := gr_all r
  obtain ⟨n, y, rfl⟩ := gc_all l
  have h1 : (res X W (ix2 (gr e x) (gc n y)) : EReal) = outV X W (e, n) (ix2 x y) := by
    unfold res
    rw [← place (e, n) x y]
    exact outT.glue_at (β := Elt Ideal .f32) (outV X W) (e, n) (ix2 x y)
  obtain ⟨D, m, hc, ho⟩ := out_tile X W (e, n)
  rw [h1, ho]
  refine (tile_at X W D (nb (!D) e) m (ix2 x y)).trans ?_
  rw [part_entry X W A B hA hB, nb_nb, hc]

/-- The greatest magnitude found is that of the whole product. -/
theorem top_all (hA : HoldA X A) (hB : HoldB W B) (z : EReal) : top X W ≤ z ↔ ∀ r l, max (entry A B r l) (-(entry A B r l)) ≤ z := by
  refine (top_le X W z).trans ?_
  constructor
  · rintro ⟨-, h⟩ r l
    obtain ⟨e, x, rfl⟩ := gr_all r
    obtain ⟨n, y, rfl⟩ := gc_all l
    obtain ⟨D, m, rfl⟩ := col_all n
    have := h (nb (!D) e) D m (ix2 x y)
    rwa [part_entry X W A B hA hB, nb_nb] at this
  · intro h
    refine ⟨?_, fun c D n i => ?_⟩
    · refine le_trans ?_ (h 0 0)
      rcases le_total (0 : EReal) (entry A B 0 0) with h0 | h0
      · exact le_max_of_le_left h0
      · exact le_max_of_le_right (EReal.neg_nonneg.mpr h0)
    · obtain ⟨x, y, rfl⟩ : ∃ (x : Fin 1024) (y : Fin 2048), i = ix2 x y := ⟨_, _, eq_ix2 (n0 := 1024) (n1 := 2048) i⟩
      rw [part_entry X W A B hA hB]
      exact h _ _

end

/-! ### The reference -/

/-- The reference's result from the product `Y` and its greatest magnitude `G`. -/
theorem ref_level (Y : FVec Ideal Cert.ReferenceIdeal.S4096x8192 .f32) (G : FVec Ideal Cert.ReferenceIdeal.S_ .f32) (hb : Cert.ReferenceIdeal.S_.BroadcastsInDim Cert.ReferenceIdeal.S4096x8192 (![] : Fin 0 → Fin Cert.ReferenceIdeal.S4096x8192.rank)) (j : Cert.ReferenceIdeal.S4096x8192.Idx) :
    (mulf (F := Ideal) (φ := .f32) (minimumf (broadcastInDim Cert.ReferenceIdeal.S4096x8192 ![] hb (id (constant Cert.ReferenceIdeal.S_ .f32 0x42FE0000#32)))
      (maximumf (broadcastInDim Cert.ReferenceIdeal.S4096x8192 ![] hb (id (constant Cert.ReferenceIdeal.S_ .f32 0xC2FE0000#32)))
        (Host.roundeven (Host.divf Y (broadcastInDim Cert.ReferenceIdeal.S4096x8192 ![] hb (Host.divf G (constant Cert.ReferenceIdeal.S_ .f32 0x42FE0000#32)))))))
      (broadcastInDim Cert.ReferenceIdeal.S4096x8192 ![] hb (Host.divf G (constant Cert.ReferenceIdeal.S_ .f32 0x42FE0000#32))) j : EReal)
      = level (Y j) (G ix0) := by
  have e1 := broadcastInDim_scalar_apply hb (Host.divf (F := Ideal) (φ := .f32) G (constant Cert.ReferenceIdeal.S_ .f32 0x42FE0000#32)) j
  have e2 := broadcastInDim_scalar_apply hb (id (constant (F := Ideal) Cert.ReferenceIdeal.S_ .f32 0x42FE0000#32)) j
  have e3 := broadcastInDim_scalar_apply hb (id (constant (F := Ideal) Cert.ReferenceIdeal.S_ .f32 0xC2FE0000#32)) j
  have e4 : (Host.divf (F := Ideal) (φ := .f32) G (constant Cert.ReferenceIdeal.S_ .f32 0x42FE0000#32) ix0 : EReal) = Ideal.div (G ix0) ((127 : ℝ) : EReal) := by
    rw [← word_hi]; rfl
  have e5 : (id (constant (F := Ideal) Cert.ReferenceIdeal.S_ .f32 0x42FE0000#32) ix0 : EReal) = ((127 : ℝ) : EReal) := word_hi
  have e6 : (id (constant (F := Ideal) Cert.ReferenceIdeal.S_ .f32 0xC2FE0000#32) ix0 : EReal) = ((-127 : ℝ) : EReal) := word_lo
  have f1 := e1.trans e4
  have f2 := e2.trans e5
  have f3 := e3.trans e6
  generalize broadcastInDim Cert.ReferenceIdeal.S4096x8192 ![] hb (Host.divf (F := Ideal) (φ := .f32) G (constant Cert.ReferenceIdeal.S_ .f32 0x42FE0000#32)) = b1 at f1 ⊢
  generalize broadcastInDim Cert.ReferenceIdeal.S4096x8192 ![] hb (id (constant (F := Ideal) Cert.ReferenceIdeal.S_ .f32 0x42FE0000#32)) = b2 at f2 ⊢
  generalize broadcastInDim Cert.ReferenceIdeal.S4096x8192 ![] hb (id (constant (F := Ideal) Cert.ReferenceIdeal.S_ .f32 0xC2FE0000#32)) = b3 at f3 ⊢
  show min (b2 j : EReal) (max (b3 j) (Ideal.liftRound Ideal.roundHalfEven (Ideal.div (Y j) (b1 j)))) * b1 j = _
  rw [f1, f2, f3, level, clip]

/-- The reference's product is the whole product. -/
theorem ref_entry (A : FVec Ideal Cert.ReferenceIdeal.S4096x4096 .f32) (B : FVec Ideal Cert.ReferenceIdeal.S4096x8192 .f32) (r : Fin 4096) (l : Fin 8192) :
    (Host.dotGeneral (F := Ideal) Cert.ReferenceIdeal.dot_S4096x4096_S4096x8192_S4096x8192_1_0_0_1_n_n none A B (ix2 r l) : EReal) = entry A B r l := by
  refine (Ideal.matmul_plain_apply (M := 4096) (K := 4096) (N := 8192) (φ₁ := .f32) (φ₂ := .f32) none A B (fun _ => (0 : EReal)) r l).trans ?_
  rw [entry, zero_add]

/-- A scalar has one place. -/
instance one_place : Subsingleton Cert.ReferenceIdeal.S_.Idx := ⟨fun _ _ => funext fun a => a.elim0⟩

/-- The reduction starts below everything. -/
theorem one_min (j : Cert.ReferenceIdeal.S_.Idx) : (constant (F := Ideal) Cert.ReferenceIdeal.S_ .f32 0xFF800000#32 j : EReal) = ⊥ := word_bot

/-- The host's greatest magnitude. -/
theorem host_top (Y : FVec Ideal Cert.ReferenceIdeal.S4096x8192 .f32) (h : Cert.ReferenceIdeal.S4096x8192.ReducesTo [0, 1] Cert.ReferenceIdeal.S_)
    (hu : 0 < Cert.ReferenceIdeal.S_.numel) (j : Cert.ReferenceIdeal.S_.Idx) (z : EReal) :
    (Host.reduce (α := Ideal .f32) FloatOps.maximumf (Host.absf (F := Ideal) (φ := .f32) Y) (constant (F := Ideal) Cert.ReferenceIdeal.S_ .f32 0xFF800000#32) h hu j : EReal) ≤ z
      ↔ ∀ i, max (Y i) (-(Y i) : EReal) ≤ z :=
  host_le h hu (Host.absf (F := Ideal) (φ := .f32) Y) (constant (F := Ideal) Cert.ReferenceIdeal.S_ .f32 0xFF800000#32) (one_min _) j z

section
variable (X : ∀ c : Dev nD, Buf (Elt Ideal) ((c : Thread nD τ).loc main_arg0)) (W : ∀ c : Dev nD, Buf (Elt Ideal) ((c : Thread nD τ).loc main_arg1))
  (A : FVec Ideal Cert.ReferenceIdeal.S4096x4096 .f32) (B : FVec Ideal Cert.ReferenceIdeal.S4096x8192 .f32)

/-- The reference's product. -/
def refY : FVec Ideal Cert.ReferenceIdeal.S4096x8192 .f32 :=
  Host.dotGeneral (F := Ideal) Cert.ReferenceIdeal.dot_S4096x4096_S4096x8192_S4096x8192_1_0_0_1_n_n none A B
/-- Its greatest magnitude. -/
def refG : FVec Ideal Cert.ReferenceIdeal.S_ .f32 :=
  Host.reduce FloatOps.maximumf (Host.absf (F := Ideal) (φ := .f32) (refY A B)) (constant Cert.ReferenceIdeal.S_ .f32 0xFF800000#32) Cert.ReferenceIdeal.Facts₀.reducesTo_S4096x8192_S_d0_1 Cert.ReferenceIdeal.Facts₀.h_S_
/-- Its result. -/
def refV : FVec Ideal Cert.ReferenceIdeal.S4096x8192 .f32 :=
  mulf (F := Ideal) (φ := .f32) (minimumf (broadcastInDim Cert.ReferenceIdeal.S4096x8192 ![] Cert.ReferenceIdeal.Facts₀.bcast_S_S4096x8192 (id (constant Cert.ReferenceIdeal.S_ .f32 0x42FE0000#32)))
    (maximumf (broadcastInDim Cert.ReferenceIdeal.S4096x8192 ![] Cert.ReferenceIdeal.Facts₀.bcast_S_S4096x8192 (id (constant Cert.ReferenceIdeal.S_ .f32 0xC2FE0000#32)))
      (Host.roundeven (Host.divf (refY A B) (broadcastInDim Cert.ReferenceIdeal.S4096x8192 ![] Cert.ReferenceIdeal.Facts₀.bcast_S_S4096x8192 (Host.divf (refG A B) (constant Cert.ReferenceIdeal.S_ .f32 0x42FE0000#32)))))))
    (broadcastInDim Cert.ReferenceIdeal.S4096x8192 ![] Cert.ReferenceIdeal.Facts₀.bcast_S_S4096x8192 (Host.divf (refG A B) (constant Cert.ReferenceIdeal.S_ .f32 0x42FE0000#32)))

/-- An entry of the reference's product. -/
theorem refY_at (r : Fin 4096) (l : Fin 8192) : (refY A B (ix2 r l) : EReal) = entry A B r l := by
  unfold refY
  exact ref_entry A B r l

/-- The reference's greatest magnitude is below `z` when every magnitude of the product is. -/
theorem refG_le (j : Cert.ReferenceIdeal.S_.Idx) (z : EReal) : (refG A B j : EReal) ≤ z ↔ ∀ r l, max (entry A B r l) (-(entry A B r l)) ≤ z := by
  unfold refG
  refine (host_top (refY A B) _ _ j z).trans ⟨fun h r l => ?_, fun h i => ?_⟩
  · have := h (ix2 r l)
    rwa [refY_at] at this
  · obtain ⟨x, y, rfl⟩ : ∃ (x : Fin 4096) (y : Fin 8192), i = ix2 x y := ⟨_, _, eq_ix2 (n0 := 4096) (n1 := 8192) i⟩
    rw [refY_at]
    exact h x y

/-- The kernel's result is the reference's. -/
theorem res_eq_ref (hA : HoldA X A) (hB : HoldB W B) : (res X W : S4096x8192.Idx → EReal) = refV A B := by
  funext j
  obtain ⟨r, l, rfl⟩ : ∃ (x : Fin 4096) (y : Fin 8192), j = ix2 x y := ⟨_, _, eq_ix2 (n0 := 4096) (n1 := 8192) j⟩
  have hg : (refG A B ix0 : EReal) = top X W :=
    eq_of_forall_ge_iff fun z => (refG_le A B ix0 z).trans (top_all X W A B hA hB z).symm
  refine (res_at X W A B hA hB r l).trans ?_
  unfold refV
  refine Eq.symm ((ref_level (refY A B) (refG A B) _ (ix2 r l)).trans ?_)
  rw [refY_at, hg]

end

/-! ### The operands as the devices hold them -/

/-- Operands dealt out in column blocks, -/
theorem holdA_block {X : ∀ c : Dev nD, Buf (Elt Ideal) ((c : Thread nD τ).loc main_arg0)} (A : (⟨2, ![4096, 4096]⟩ : Shape).Idx → EReal)
    (h : ∀ c : Fin 4, (X c : S4096x1024.Idx → EReal) = Layout.block ⟨2, ![4096, 1024]⟩ ⟨2, ![4096, 4096]⟩ 1 4 c A) : HoldA X A := fun c r k => by
  refine (congrFun (h c) (ix2 r k)).trans (congrArg A (funext fun a => Fin.ext ?_))
  match a with
  | ⟨0, _⟩ => rfl
  | ⟨1, _⟩ => show c.val * 1024 + k.val = 1024 * c.val + k.val; omega
/-- and in row blocks. -/
theorem holdB_block {W : ∀ c : Dev nD, Buf (Elt Ideal) ((c : Thread nD τ).loc main_arg1)} (B : (⟨2, ![4096, 8192]⟩ : Shape).Idx → EReal)
    (h : ∀ c : Fin 4, (W c : S1024x8192.Idx → EReal) = Layout.block ⟨2, ![1024, 8192]⟩ ⟨2, ![4096, 8192]⟩ 0 4 c B) : HoldB W B := fun c k l => by
  refine (congrFun (h c) (ix2 k l)).trans (congrArg B (funext fun a => Fin.ext ?_))
  match a with
  | ⟨0, _⟩ => show c.val * 1024 + k.val = 1024 * c.val + k.val; omega
  | ⟨1, _⟩ => rfl

end Cert.KProof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel, at its own floats, runs and leaves its operands and every semaphore as they were. -/
theorem frame_kernel : Cert.quiescent_Kernel := fun m ρ _ =>
  (θ_run Cert.KernelIdeal.defs _ _).mono (fun _ h => ⟨fun c => ⟨(h.1 c).1, (h.1 c).2.1⟩, h.2⟩) (Cert.KProof.run_main (F := Bits) m ρ)

/-- So does the kernel at the reals. -/
theorem frame_ideal : Cert.quiescent_KernelIdeal := fun m ρ _ =>
  (θ_run Cert.KernelIdeal.defs _ _).mono (fun _ h => ⟨fun c => ⟨(h.1 c).1, (h.1 c).2.1⟩, h.2⟩) (Cert.KProof.run_main (F := Ideal) m ρ)

/-- And the reference. -/
theorem frame_ref : Cert.quiescent_ReferenceIdeal := fun m ρ _ =>
  (θ_run Cert.ReferenceIdeal.defs _ _).mono (fun r h => ⟨fun c => ⟨(h c).2.1, (h c).2.2⟩, sem_eq_zero_of_no_sems rfl r.2⟩) (Cert.ReferenceIdeal.Value.run m ρ)

/-- The kernel at the reals computes what the reference computes. -/
theorem algebraic : Cert.algebraic_KernelIdeal_ReferenceIdeal := fun m ρ m' ρ' _ h => by
  have e := Cert.KProof.res_eq_ref (Cert.KProof.X₀ m) (Cert.KProof.W₀ m) _ _ (Cert.KProof.holdA_block _ fun c => (h c).1) (Cert.KProof.holdB_block _ fun c => (h c).2)
  refine ⟨Cert.KProof.res (Cert.KProof.X₀ m) (Cert.KProof.W₀ m), ?_, ?_⟩
  · exact (θ_run Cert.KernelIdeal.defs _ _).mono (fun _ h c => ⟨(h.1 c).2.2, (h.1 c).1, (h.1 c).2.1⟩) (Cert.KProof.run_main (F := Ideal) m ρ)
  · exact (θ_run Cert.ReferenceIdeal.defs _ _).mono (fun _ h => ⟨(h 0).1.trans e.symm, (h 0).2.1, (h 0).2.2⟩) (Cert.ReferenceIdeal.Value.run m' ρ')

/-- Every claim of the statement. -/
theorem claim : Cert.Claim :=
  ⟨Cert.Kernel.Gen.facts, Cert.KernelIdeal.Gen.facts, Cert.ReferenceIdeal.Gen.facts, frame_kernel, frame_ideal, frame_ref, trivial, algebraic⟩

end Cert.Proof
